-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨3, ![2, 256, 256]⟩ ⟨3, ![2, 4096, 256]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 256]⟩ ⟨3, ![2, 4096, 256]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x256 : Shape := ⟨3, ![2, 256, 256]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x256 : S_.BroadcastsInDim S2x256x256 (![] : Fin 0 → Fin S2x256x256.rank)
  reducesTo_S2x256x256_S_d0_1_2 : S2x256x256.ReducesTo [0, 1, 2] S_

variable [Facts]

def fn_part1 {F : FTy → Type} [FloatOps F] (main_arg2 : FVec F S2x256x256 .f32) (main_v12 : IVec S_ 1) (main_v14 : IVec S2x256x256 1) (main_v15 : FVec F S2x256x256 .f32) : IVec S_ 1 :=
  let main_v16 : IVec S2x256x256 1 := cmpf .olt main_arg2 main_v15
  let main_v17 : IVec S2x256x256 1 := andi main_v14 main_v16
  let main_c_6 : IVec S_ 1 := constantI S_ 1 1#1
  let main_v18 : IVec S_ 1 := (fun x v => Host.reduce IntOp.andi x v reducesTo_S2x256x256_S_d0_1_2 h_S_) main_v17 main_c_6
  let main_v19 : IVec S_ 1 := andi main_v12 main_v18
  main_v19

def fn {F : FTy → Type} [FloatOps F] (main_arg0 : FVec F S2x256x512 .f32) (main_arg1 : FVec F S512x256 .f32) (main_arg2 : FVec F S2x256x256 .f32) (main_arg3 : FVec F S2x256x256 .f32) (main_arg4 : FVec F S256x512 .f32) : IVec S_ 1 :=
  let main_cst : FVec F S_ .f32 := constant S_ .f32 0xFF800000#32
  let main_v0 : FVec F S2x256x512 .f32 := broadcastInDim S2x256x512 ![] bcast_S_S2x256x512 main_cst
  let main_v1 : IVec S2x256x512 1 := cmpf .ogt main_arg0 main_v0
  let main_cst_0 : FVec F S_ .f32 := constant S_ .f32 0x7F800000#32
  let main_v2 : FVec F S2x256x512 .f32 := broadcastInDim S2x256x512 ![] bcast_S_S2x256x512 main_cst_0
  let main_v3 : IVec S2x256x512 1 := cmpf .olt main_arg0 main_v2
  let main_v4 : IVec S2x256x512 1 := andi main_v1 main_v3
  let main_c : IVec S_ 1 := constantI S_ 1 1#1
  let main_v5 : IVec S_ 1 := (fun x v => Host.reduce IntOp.andi x v reducesTo_S2x256x512_S_d0_1_2 h_S_) main_v4 main_c
  let main_cst_1 : FVec F S_ .f32 := constant S_ .f32 0xFF800000#32
  let main_v6 : FVec F S512x256 .f32 := broadcastInDim S512x256 ![] bcast_S_S512x256 main_cst_1
  let main_v7 : IVec S512x256 1 := cmpf .ogt main_arg1 main_v6
  let main_cst_2 : FVec F S_ .f32 := constant S_ .f32 0x7F800000#32
  let main_v8 : FVec F S512x256 .f32 := broadcastInDim S512x256 ![] bcast_S_S512x256 main_cst_2
  let main_v9 : IVec S512x256 1 := cmpf .olt main_arg1 main_v8
  let main_v10 : IVec S512x256 1 := andi main_v7 main_v9
  let main_c_3 : IVec S_ 1 := constantI S_ 1 1#1
  let main_v11 : IVec S_ 1 := (fun x v => Host.reduce IntOp.andi x v reducesTo_S512x256_S_d0_1 h_S_) main_v10 main_c_3
  let main_v12 : IVec S_ 1 := andi main_v5 main_v11
  let main_cst_4 : FVec F S_ .f32 := constant S_ .f32 0xFF800000#32
  let main_v13 : FVec F S2x256x256 .f32 := broadcastInDim S2x256x256 ![] bcast_S_S2x256x256 main_cst_4
  let main_v14 : IVec S2x256x256 1 := cmpf .ogt main_arg2 main_v13
  let main_cst_5 : FVec F S_ .f32 := constant S_ .f32 0x7F800000#32
  let main_v15 : FVec F S2x256x256 .f32 := broadcastInDim S2x256x256 ![] bcast_S_S2x256x256 main_cst_5
  fn_part1 (F := F) main_arg2 main_v12 main_v14 main_v15
-- ==== Pre_finite_ReferenceIdeal.lean ====
abbrev S2x256x512 : Shape := ⟨3, ![2, 256, 512]⟩
abbrev S512x256 : Shape := ⟨2, ![512, 256]⟩
abbrev S2x4096x256 : Shape := ⟨3, ![2, 4096, 256]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x4096x256 : S_.BroadcastsInDim S2x4096x256 (![] : Fin 0 → Fin S2x4096x256.rank)
  reducesTo_S2x4096x256_S_d0_1_2 : S2x4096x256.ReducesTo [0, 1, 2] S_

variable [Facts]

def fn_part1 {F : FTy → Type} [FloatOps F] (main_arg2 : FVec F S2x4096x256 .f32) (main_v12 : IVec S_ 1) (main_v14 : IVec S2x4096x256 1) (main_v15 : FVec F S2x4096x256 .f32) : IVec S_ 1 :=
  let main_v16 : IVec S2x4096x256 1 := cmpf .olt main_arg2 main_v15
  let main_v17 : IVec S2x4096x256 1 := andi main_v14 main_v16
  let main_c_6 : IVec S_ 1 := constantI S_ 1 1#1
  let main_v18 : IVec S_ 1 := (fun x v => Host.reduce IntOp.andi x v reducesTo_S2x4096x256_S_d0_1_2 h_S_) main_v17 main_c_6
  let main_v19 : IVec S_ 1 := andi main_v12 main_v18
  main_v19

def fn {F : FTy → Type} [FloatOps F] (main_arg0 : FVec F S2x256x512 .f32) (main_arg1 : FVec F S512x256 .f32) (main_arg2 : FVec F S2x4096x256 .f32) (main_arg3 : FVec F S2x4096x256 .f32) (main_arg4 : FVec F S256x512 .f32) : IVec S_ 1 :=
  let main_cst : FVec F S_ .f32 := constant S_ .f32 0xFF800000#32
  let main_v0 : FVec F S2x256x512 .f32 := broadcastInDim S2x256x512 ![] bcast_S_S2x256x512 main_cst
  let main_v1 : IVec S2x256x512 1 := cmpf .ogt main_arg0 main_v0
  let main_cst_0 : FVec F S_ .f32 := constant S_ .f32 0x7F800000#32
  let main_v2 : FVec F S2x256x512 .f32 := broadcastInDim S2x256x512 ![] bcast_S_S2x256x512 main_cst_0
  let main_v3 : IVec S2x256x512 1 := cmpf .olt main_arg0 main_v2
  let main_v4 : IVec S2x256x512 1 := andi main_v1 main_v3
  let main_c : IVec S_ 1 := constantI S_ 1 1#1
  let main_v5 : IVec S_ 1 := (fun x v => Host.reduce IntOp.andi x v reducesTo_S2x256x512_S_d0_1_2 h_S_) main_v4 main_c
  let main_cst_1 : FVec F S_ .f32 := constant S_ .f32 0xFF800000#32
  let main_v6 : FVec F S512x256 .f32 := broadcastInDim S512x256 ![] bcast_S_S512x256 main_cst_1
  let main_v7 : IVec S512x256 1 := cmpf .ogt main_arg1 main_v6
  let main_cst_2 : FVec F S_ .f32 := constant S_ .f32 0x7F800000#32
  let main_v8 : FVec F S512x256 .f32 := broadcastInDim S512x256 ![] bcast_S_S512x256 main_cst_2
  let main_v9 : IVec S512x256 1 := cmpf .olt main_arg1 main_v8
  let main_v10 : IVec S512x256 1 := andi main_v7 main_v9
  let main_c_3 : IVec S_ 1 := constantI S_ 1 1#1
  let main_v11 : IVec S_ 1 := (fun x v => Host.reduce IntOp.andi x v reducesTo_S512x256_S_d0_1 h_S_) main_v10 main_c_3
  let main_v12 : IVec S_ 1 := andi main_v5 main_v11
  let main_cst_4 : FVec F S_ .f32 := constant S_ .f32 0xFF800000#32
  let main_v13 : FVec F S2x4096x256 .f32 := broadcastInDim S2x4096x256 ![] bcast_S_S2x4096x256 main_cst_4
  let main_v14 : IVec S2x4096x256 1 := cmpf .ogt main_arg2 main_v13
  let main_cst_5 : FVec F S_ .f32 := constant S_ .f32 0x7F800000#32
  let main_v15 : FVec F S2x4096x256 .f32 := broadcastInDim S2x4096x256 ![] bcast_S_S2x4096x256 main_cst_5
  fn_part1 (F := F) main_arg2 main_v12 main_v14 main_v15
-- ==== Kernel.lean ====
abbrev S2x256x512 : Shape := ⟨3, ![2, 256, 512]⟩
abbrev S512x256 : Shape := ⟨2, ![512, 256]⟩
abbrev S2x256x256 : Shape := ⟨3, ![2, 256, 256]⟩
abbrev S256x512 : Shape := ⟨2, ![256, 512]⟩
abbrev S2x256x4 : Shape := ⟨3, ![2, 256, 4]⟩
abbrev S16x2x16x256 : Shape := ⟨4, ![16, 2, 16, 256]⟩
abbrev S16x2x16x4 : Shape := ⟨4, ![16, 2, 16, 4]⟩
abbrev S2x16x256 : Shape := ⟨3, ![2, 16, 256]⟩
abbrev S2x16x4 : Shape := ⟨3, ![2, 16, 4]⟩
abbrev S16 : Shape := ⟨1, ![16]⟩
abbrev S_ : Shape := ⟨0, ![]⟩
abbrev S256x256 : Shape := ⟨2, ![256, 256]⟩
abbrev S1x256x512 : Shape := ⟨3, ![1, 256, 512]⟩
abbrev S1x256x64 : Shape := ⟨3, ![1, 256, 64]⟩
abbrev S256x64 : Shape := ⟨2, ![256, 64]⟩
abbrev S256 : Shape := ⟨1, ![256]⟩
abbrev S256x1 : Shape := ⟨2, ![256, 1]⟩
abbrev S256x4 : Shape := ⟨2, ![256, 4]⟩
abbrev S1x256x4 : Shape := ⟨3, ![1, 256, 4]⟩
abbrev S1 : Shape := ⟨1, ![1]⟩
abbrev S1x2x16x256 : Shape := ⟨4, ![1, 2, 16, 256]⟩
abbrev S1x2x16x4 : Shape := ⟨4, ![1, 2, 16, 4]⟩
abbrev S2x16x4x64 : Shape := ⟨4, ![2, 16, 4, 64]⟩
abbrev S2x16x4x1 : Shape := ⟨4, ![2, 16, 4, 1]⟩
abbrev S1x16x256 : Shape := ⟨3, ![1, 16, 256]⟩
abbrev S16x256 : Shape := ⟨2, ![16, 256]⟩
abbrev S16x512 : Shape := ⟨2, ![16, 512]⟩
abbrev S1x16x512 : Shape := ⟨3, ![1, 16, 512]⟩

abbrev nBuf : Space → Nat
  | .hbm => 6
  | .vmem => 13
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x256, .f32⟩
  | .hbm, ⟨3, _⟩ => ⟨S2x256x256, .f32⟩
  | .hbm, ⟨4, _⟩ => ⟨S256x512, .f32⟩
  | .hbm, ⟨5, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x256, .f32⟩
  | .local _ .vmem, ⟨3, _⟩ => ⟨S2x256x256, .f32⟩
  | .local _ .vmem, ⟨4, _⟩ => ⟨S256x512, .f32⟩
  | .local _ .vmem, ⟨5, _⟩ => ⟨S2x256x512, .f32⟩
  | .local _ .vmem, ⟨6, _⟩ => ⟨S2x256x256, .bf16⟩
  | .local _ .vmem, ⟨7, _⟩ => ⟨S2x256x4, .bf16⟩
  | .local _ .vmem, ⟨8, _⟩ => ⟨S16x2x16x256, .bf16⟩
  | .local _ .vmem, ⟨9, _⟩ => ⟨S16x2x16x4, .bf16⟩
  | .local _ .vmem, ⟨10, _⟩ => ⟨S2x16x256, .f32⟩
  | .local _ .vmem, ⟨11, _⟩ => ⟨S2x16x4, .f32⟩
  | .local _ .vmem, ⟨12, _⟩ => ⟨S2x256x256, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  (ofTc nBuf bufTy 1 102 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_367 : BitVec 32 := 0#32
  let c0_i32_365 : BitVec 32 := 0#32
  let c1_i32_366 : BitVec 32 := 1#32
  let v613 : BitVec 32 := Scalar.muli c0_i32_365 c1_i32_366
  let v614 : BitVec 32 := Scalar.addi c0_i32_367 v613
  v614.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_367 : BitVec 32 := 0#32
  let c1_i32_365 : BitVec 32 := 1#32
  let c1_i32_366 : BitVec 32 := 1#32
  let v613 : BitVec 32 := Scalar.muli c1_i32_365 c1_i32_366
  let v614 : BitVec 32 := Scalar.addi c0_i32_367 v613
  v614.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_367 : BitVec 32 := 0#32
  let c2_i32_365 : BitVec 32 := 2#32
  let c1_i32_366 : BitVec 32 := 1#32
  let v613 : BitVec 32 := Scalar.muli c2_i32_365 c1_i32_366
  let v614 : BitVec 32 := Scalar.addi c0_i32_367 v613
  v614.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_367 : BitVec 32 := 0#32
  let c3_i32_365 : BitVec 32 := 3#32
  let c1_i32_366 : BitVec 32 := 1#32
  let v613 : BitVec 32 := Scalar.muli c3_i32_365 c1_i32_366
  let v614 : BitVec 32 := Scalar.addi c0_i32_367 v613
  v614.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_367 : BitVec 32 := 0#32
  let c4_i32_365 : BitVec 32 := 4#32
  let c1_i32_366 : BitVec 32 := 1#32
  let v613 : BitVec 32 := Scalar.muli c4_i32_365 c1_i32_366
  let v614 : BitVec 32 := Scalar.addi c0_i32_367 v613
  v614.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_367 : BitVec 32 := 0#32
  let c5_i32_365 : BitVec 32 := 5#32
  let c1_i32_366 : BitVec 32 := 1#32
  let v613 : BitVec 32 := Scalar.muli c5_i32_365 c1_i32_366
  let v614 : BitVec 32 := Scalar.addi c0_i32_367 v613
  v614.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_367 : BitVec 32 := 0#32
  let c6_i32_365 : BitVec 32 := 6#32
  let c1_i32_366 : BitVec 32 := 1#32
  let v613 : BitVec 32 := Scalar.muli c6_i32_365 c1_i32_366
  let v614 : BitVec 32 := Scalar.addi c0_i32_367 v613
  v614.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_367 : BitVec 32 := 0#32
  let c7_i32_365 : BitVec 32 := 7#32
  let c1_i32_366 : BitVec 32 := 1#32
  let v613 : BitVec 32 := Scalar.muli c7_i32_365 c1_i32_366
  let v614 : BitVec 32 := Scalar.addi c0_i32_367 v613
  v614.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_367 : BitVec 32 := 0#32
  let c8_i32_365 : BitVec 32 := 8#32
  let c1_i32_366 : BitVec 32 := 1#32
  let v613 : BitVec 32 := Scalar.muli c8_i32_365 c1_i32_366
  let v614 : BitVec 32 := Scalar.addi c0_i32_367 v613
  v614.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_367 : BitVec 32 := 0#32
  let c9_i32_365 : BitVec 32 := 9#32
  let c1_i32_366 : BitVec 32 := 1#32
  let v613 : BitVec 32 := Scalar.muli c9_i32_365 c1_i32_366
  let v614 : BitVec 32 := Scalar.addi c0_i32_367 v613
  v614.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_367 : BitVec 32 := 0#32
  let c10_i32_365 : BitVec 32 := 10#32
  let c1_i32_366 : BitVec 32 := 1#32
  let v613 : BitVec 32 := Scalar.muli c10_i32_365 c1_i32_366
  let v614 : BitVec 32 := Scalar.addi c0_i32_367 v613
  v614.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_367 : BitVec 32 := 0#32
  let c11_i32_365 : BitVec 32 := 11#32
  let c1_i32_366 : BitVec 32 := 1#32
  let v613 : BitVec 32 := Scalar.muli c11_i32_365 c1_i32_366
  let v614 : BitVec 32 := Scalar.addi c0_i32_367 v613
  v614.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_367 : BitVec 32 := 0#32
  let c12_i32_365 : BitVec 32 := 12#32
  let c1_i32_366 : BitVec 32 := 1#32
  let v613 : BitVec 32 := Scalar.muli c12_i32_365 c1_i32_366
  let v614 : BitVec 32 := Scalar.addi c0_i32_367 v613
  v614.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_367 : BitVec 32 := 0#32
  let c13_i32_365 : BitVec 32 := 13#32
  let c1_i32_366 : BitVec 32 := 1#32
  let v613 : BitVec 32 := Scalar.muli c13_i32_365 c1_i32_366
  let v614 : BitVec 32 := Scalar.addi c0_i32_367 v613
  v614.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_367 : BitVec 32 := 0#32
  let c14_i32_365 : BitVec 32 := 14#32
  let c1_i32_366 : BitVec 32 := 1#32
  let v613 : BitVec 32 := Scalar.muli c14_i32_365 c1_i32_366
  let v614 : BitVec 32 := Scalar.addi c0_i32_367 v613
  v614.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_367 : BitVec 32 := 0#32
  let c15_i32_365 : BitVec 32 := 15#32
  let c1_i32_366 : BitVec 32 := 1#32
  let v613 : BitVec 32 := Scalar.muli c15_i32_365 c1_i32_366
  let v614 : BitVec 32 := Scalar.addi c0_i32_367 v613
  v614.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_147 : BitVec 32 := 0#32
  let v289 : BitVec 1 := Scalar.cmpi .ne v2 c0_i32_147
  let v290 : BitVec 32 := Scalar.extui v289
  let c0_i32_148 : BitVec 32 := 0#32
  let v291 : BitVec 1 := Scalar.cmpi .ne v290 c0_i32_148
  v291

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_368 : BitVec 32 := 0#32
  let c0_i32_369 : BitVec 32 := 0#32
  let c0_i32_370 : BitVec 32 := 0#32
  ![v2.toNat, 0, 0, 0]
def k0_dev17 : Nat :=
  let c0_i32_367 : BitVec 32 := 0#32
  let c0_i32_365 : BitVec 32 := 0#32
  let c1_i32_366 : BitVec 32 := 1#32
  let v613 : BitVec 32 := Scalar.muli c0_i32_365 c1_i32_366
  let v614 : BitVec 32 := Scalar.addi c0_i32_367 v613
  v614.toNat
def k0_off3 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_378 : BitVec 32 := 0#32
  let c0_i32_379 : BitVec 32 := 0#32
  let c0_i32_380 : BitVec 32 := 0#32
  ![v2.toNat, 0, 0, 0]
def k0_dev18 : Nat :=
  let c0_i32_377 : BitVec 32 := 0#32
  let c0_i32_375 : BitVec 32 := 0#32
  let c1_i32_376 : BitVec 32 := 1#32
  let v622 : BitVec 32 := Scalar.muli c0_i32_375 c1_i32_376
  let v623 : BitVec 32 := Scalar.addi c0_i32_377 v622
  v623.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_151 : BitVec 32 := 1#32
  let v295 : BitVec 1 := Scalar.cmpi .ne v2 c1_i32_151
  let v296 : BitVec 32 := Scalar.extui v295
  let c0_i32_152 : BitVec 32 := 0#32
  let v297 : BitVec 1 := Scalar.cmpi .ne v296 c0_i32_152
  v297

def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_368 : BitVec 32 := 0#32
  let c0_i32_369 : BitVec 32 := 0#32
  let c0_i32_370 : BitVec 32 := 0#32
  ![v2.toNat, 0, 0, 0]
def k0_dev19 : Nat :=
  let c0_i32_367 : BitVec 32 := 0#32
  let c1_i32_365 : BitVec 32 := 1#32
  let c1_i32_366 : BitVec 32 := 1#32
  let v613 : BitVec 32 := Scalar.muli c1_i32_365 c1_i32_366
  let v614 : BitVec 32 := Scalar.addi c0_i32_367 v613
  v614.toNat
def k0_off6 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_378 : BitVec 32 := 0#32
  let c0_i32_379 : BitVec 32 := 0#32
  let c0_i32_380 : BitVec 32 := 0#32
  ![v2.toNat, 0, 0, 0]
def k0_dev20 : Nat :=
  let c0_i32_377 : BitVec 32 := 0#32
  let c1_i32_375 : BitVec 32 := 1#32
  let c1_i32_376 : BitVec 32 := 1#32
  let v622 : BitVec 32 := Scalar.muli c1_i32_375 c1_i32_376
  let v623 : BitVec 32 := Scalar.addi c0_i32_377 v622
  v623.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_155 : BitVec 32 := 2#32
  let v301 : BitVec 1 := Scalar.cmpi .ne v2 c2_i32_155
  let v302 : BitVec 32 := Scalar.extui v301
  let c0_i32_156 : BitVec 32 := 0#32
  let v303 : BitVec 1 := Scalar.cmpi .ne v302 c0_i32_156
  v303

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_368 : BitVec 32 := 0#32
  let c0_i32_369 : BitVec 32 := 0#32
  let c0_i32_370 : BitVec 32 := 0#32
  ![v2.toNat, 0, 0, 0]
def k0_dev21 : Nat :=
  let c0_i32_367 : BitVec 32 := 0#32
  let c2_i32_365 : BitVec 32 := 2#32
  let c1_i32_366 : BitVec 32 := 1#32
  let v613 : BitVec 32 := Scalar.muli c2_i32_365 c1_i32_366
  let v614 : BitVec 32 := Scalar.addi c0_i32_367 v613
  v614.toNat
def k0_off9 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  let c0_i32_379 : BitVec 32 := 0#32
  ![v2.toNat, 0, 0, 0]
def k0_dev22 : Nat :=
  let c0_i32_376 : BitVec 32 := 0#32
  let c2_i32_374 : BitVec 32 := 2#32
  let c1_i32_375 : BitVec 32 := 1#32
  let v622 : BitVec 32 := Scalar.muli c2_i32_374 c1_i32_375
  let v623 : BitVec 32 := Scalar.addi c0_i32_376 v622
  v623.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_159 : BitVec 32 := 3#32
  let v307 : BitVec 1 := Scalar.cmpi .ne v2 c3_i32_159
  let v308 : BitVec 32 := Scalar.extui v307
  let c0_i32_160 : BitVec 32 := 0#32
  let v309 : BitVec 1 := Scalar.cmpi .ne v308 c0_i32_160
  v309

def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off11 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_368 : BitVec 32 := 0#32
  let c0_i32_369 : BitVec 32 := 0#32
  let c0_i32_370 : BitVec 32 := 0#32
  ![v2.toNat, 0, 0, 0]
def k0_dev23 : Nat :=
  let c0_i32_367 : BitVec 32 := 0#32
  let c3_i32_365 : BitVec 32 := 3#32
  let c1_i32_366 : BitVec 32 := 1#32
  let v613 : BitVec 32 := Scalar.muli c3_i32_365 c1_i32_366
  let v614 : BitVec 32 := Scalar.addi c0_i32_367 v613
  v614.toNat
def k0_off12 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  let c0_i32_379 : BitVec 32 := 0#32
  ![v2.toNat, 0, 0, 0]
def k0_dev24 : Nat :=
  let c0_i32_376 : BitVec 32 := 0#32
  let c3_i32_374 : BitVec 32 := 3#32
  let c1_i32_375 : BitVec 32 := 1#32
  let v622 : BitVec 32 := Scalar.muli c3_i32_374 c1_i32_375
  let v623 : BitVec 32 := Scalar.addi c0_i32_376 v622
  v623.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_163 : BitVec 32 := 4#32
  let v313 : BitVec 1 := Scalar.cmpi .ne v2 c4_i32_163
  let v314 : BitVec 32 := Scalar.extui v313
  let c0_i32_164 : BitVec 32 := 0#32
  let v315 : BitVec 1 := Scalar.cmpi .ne v314 c0_i32_164
  v315

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_368 : BitVec 32 := 0#32
  let c0_i32_369 : BitVec 32 := 0#32
  let c0_i32_370 : BitVec 32 := 0#32
  ![v2.toNat, 0, 0, 0]
def k0_dev25 : Nat :=
  let c0_i32_367 : BitVec 32 := 0#32
  let c4_i32_365 : BitVec 32 := 4#32
  let c1_i32_366 : BitVec 32 := 1#32
  let v613 : BitVec 32 := Scalar.muli c4_i32_365 c1_i32_366
  let v614 : BitVec 32 := Scalar.addi c0_i32_367 v613
  v614.toNat
def k0_off15 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_378 : BitVec 32 := 0#32
  let c0_i32_379 : BitVec 32 := 0#32
  let c0_i32_380 : BitVec 32 := 0#32
  ![v2.toNat, 0, 0, 0]
def k0_dev26 : Nat :=
  let c0_i32_377 : BitVec 32 := 0#32
  let c4_i32_375 : BitVec 32 := 4#32
  let c1_i32_376 : BitVec 32 := 1#32
  let v622 : BitVec 32 := Scalar.muli c4_i32_375 c1_i32_376
  let v623 : BitVec 32 := Scalar.addi c0_i32_377 v622
  v623.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_167 : BitVec 32 := 5#32
  let v319 : BitVec 1 := Scalar.cmpi .ne v2 c5_i32_167
  let v320 : BitVec 32 := Scalar.extui v319
  let c0_i32_168 : BitVec 32 := 0#32
  let v321 : BitVec 1 := Scalar.cmpi .ne v320 c0_i32_168
  v321

def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off17 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_368 : BitVec 32 := 0#32
  let c0_i32_369 : BitVec 32 := 0#32
  let c0_i32_370 : BitVec 32 := 0#32
  ![v2.toNat, 0, 0, 0]
def k0_dev27 : Nat :=
  let c0_i32_367 : BitVec 32 := 0#32
  let c5_i32_365 : BitVec 32 := 5#32
  let c1_i32_366 : BitVec 32 := 1#32
  let v613 : BitVec 32 := Scalar.muli c5_i32_365 c1_i32_366
  let v614 : BitVec 32 := Scalar.addi c0_i32_367 v613
  v614.toNat
def k0_off18 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  let c0_i32_379 : BitVec 32 := 0#32
  ![v2.toNat, 0, 0, 0]
def k0_dev28 : Nat :=
  let c0_i32_376 : BitVec 32 := 0#32
  let c5_i32_374 : BitVec 32 := 5#32
  let c1_i32_375 : BitVec 32 := 1#32
  let v622 : BitVec 32 := Scalar.muli c5_i32_374 c1_i32_375
  let v623 : BitVec 32 := Scalar.addi c0_i32_376 v622
  v623.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_171 : BitVec 32 := 6#32
  let v325 : BitVec 1 := Scalar.cmpi .ne v2 c6_i32_171
  let v326 : BitVec 32 := Scalar.extui v325
  let c0_i32_172 : BitVec 32 := 0#32
  let v327 : BitVec 1 := Scalar.cmpi .ne v326 c0_i32_172
  v327

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_368 : BitVec 32 := 0#32
  let c0_i32_369 : BitVec 32 := 0#32
  let c0_i32_370 : BitVec 32 := 0#32
  ![v2.toNat, 0, 0, 0]
def k0_dev29 : Nat :=
  let c0_i32_367 : BitVec 32 := 0#32
  let c6_i32_365 : BitVec 32 := 6#32
  let c1_i32_366 : BitVec 32 := 1#32
  let v613 : BitVec 32 := Scalar.muli c6_i32_365 c1_i32_366
  let v614 : BitVec 32 := Scalar.addi c0_i32_367 v613
  v614.toNat
def k0_off21 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  let c0_i32_379 : BitVec 32 := 0#32
  ![v2.toNat, 0, 0, 0]
def k0_dev30 : Nat :=
  let c0_i32_376 : BitVec 32 := 0#32
  let c6_i32_374 : BitVec 32 := 6#32
  let c1_i32_375 : BitVec 32 := 1#32
  let v622 : BitVec 32 := Scalar.muli c6_i32_374 c1_i32_375
  let v623 : BitVec 32 := Scalar.addi c0_i32_376 v622
  v623.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_175 : BitVec 32 := 7#32
  let v331 : BitVec 1 := Scalar.cmpi .ne v2 c7_i32_175
  let v332 : BitVec 32 := Scalar.extui v331
  let c0_i32_176 : BitVec 32 := 0#32
  let v333 : BitVec 1 := Scalar.cmpi .ne v332 c0_i32_176
  v333

def k0_off22 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off23 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_368 : BitVec 32 := 0#32
  let c0_i32_369 : BitVec 32 := 0#32
  let c0_i32_370 : BitVec 32 := 0#32
  ![v2.toNat, 0, 0, 0]
def k0_dev31 : Nat :=
  let c0_i32_367 : BitVec 32 := 0#32
  let c7_i32_365 : BitVec 32 := 7#32
  let c1_i32_366 : BitVec 32 := 1#32
  let v613 : BitVec 32 := Scalar.muli c7_i32_365 c1_i32_366
  let v614 : BitVec 32 := Scalar.addi c0_i32_367 v613
  v614.toNat
def k0_off24 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  let c0_i32_379 : BitVec 32 := 0#32
  ![v2.toNat, 0, 0, 0]
def k0_dev32 : Nat :=
  let c0_i32_376 : BitVec 32 := 0#32
  let c7_i32_374 : BitVec 32 := 7#32
  let c1_i32_375 : BitVec 32 := 1#32
  let v622 : BitVec 32 := Scalar.muli c7_i32_374 c1_i32_375
  let v623 : BitVec 32 := Scalar.addi c0_i32_376 v622
  v623.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_179 : BitVec 32 := 8#32
  let v337 : BitVec 1 := Scalar.cmpi .ne v2 c8_i32_179
  let v338 : BitVec 32 := Scalar.extui v337
  let c0_i32_180 : BitVec 32 := 0#32
  let v339 : BitVec 1 := Scalar.cmpi .ne v338 c0_i32_180
  v339

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_368 : BitVec 32 := 0#32
  let c0_i32_369 : BitVec 32 := 0#32
  let c0_i32_370 : BitVec 32 := 0#32
  ![v2.toNat, 0, 0, 0]
def k0_dev33 : Nat :=
  let c0_i32_367 : BitVec 32 := 0#32
  let c8_i32_365 : BitVec 32 := 8#32
  let c1_i32_366 : BitVec 32 := 1#32
  let v613 : BitVec 32 := Scalar.muli c8_i32_365 c1_i32_366
  let v614 : BitVec 32 := Scalar.addi c0_i32_367 v613
  v614.toNat
def k0_off27 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  let c0_i32_379 : BitVec 32 := 0#32
  ![v2.toNat, 0, 0, 0]
def k0_dev34 : Nat :=
  let c0_i32_376 : BitVec 32 := 0#32
  let c8_i32_374 : BitVec 32 := 8#32
  let c1_i32_375 : BitVec 32 := 1#32
  let v622 : BitVec 32 := Scalar.muli c8_i32_374 c1_i32_375
  let v623 : BitVec 32 := Scalar.addi c0_i32_376 v622
  v623.toNat
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_183 : BitVec 32 := 9#32
  let v343 : BitVec 1 := Scalar.cmpi .ne v2 c9_i32_183
  let v344 : BitVec 32 := Scalar.extui v343
  let c0_i32_184 : BitVec 32 := 0#32
  let v345 : BitVec 1 := Scalar.cmpi .ne v344 c0_i32_184
  v345

def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off29 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_368 : BitVec 32 := 0#32
  let c0_i32_369 : BitVec 32 := 0#32
  let c0_i32_370 : BitVec 32 := 0#32
  ![v2.toNat, 0, 0, 0]
def k0_dev35 : Nat :=
  let c0_i32_367 : BitVec 32 := 0#32
  let c9_i32_365 : BitVec 32 := 9#32
  let c1_i32_366 : BitVec 32 := 1#32
  let v613 : BitVec 32 := Scalar.muli c9_i32_365 c1_i32_366
  let v614 : BitVec 32 := Scalar.addi c0_i32_367 v613
  v614.toNat
def k0_off30 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  let c0_i32_379 : BitVec 32 := 0#32
  ![v2.toNat, 0, 0, 0]
def k0_dev36 : Nat :=
  let c0_i32_376 : BitVec 32 := 0#32
  let c9_i32_374 : BitVec 32 := 9#32
  let c1_i32_375 : BitVec 32 := 1#32
  let v622 : BitVec 32 := Scalar.muli c9_i32_374 c1_i32_375
  let v623 : BitVec 32 := Scalar.addi c0_i32_376 v622
  v623.toNat
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_187 : BitVec 32 := 10#32
  let v349 : BitVec 1 := Scalar.cmpi .ne v2 c10_i32_187
  let v350 : BitVec 32 := Scalar.extui v349
  let c0_i32_188 : BitVec 32 := 0#32
  let v351 : BitVec 1 := Scalar.cmpi .ne v350 c0_i32_188
  v351

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_368 : BitVec 32 := 0#32
  let c0_i32_369 : BitVec 32 := 0#32
  let c0_i32_370 : BitVec 32 := 0#32
  ![v2.toNat, 0, 0, 0]
def k0_dev37 : Nat :=
  let c0_i32_367 : BitVec 32 := 0#32
  let c10_i32_365 : BitVec 32 := 10#32
  let c1_i32_366 : BitVec 32 := 1#32
  let v613 : BitVec 32 := Scalar.muli c10_i32_365 c1_i32_366
  let v614 : BitVec 32 := Scalar.addi c0_i32_367 v613
  v614.toNat
def k0_off33 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  let c0_i32_379 : BitVec 32 := 0#32
  ![v2.toNat, 0, 0, 0]
def k0_dev38 : Nat :=
  let c0_i32_376 : BitVec 32 := 0#32
  let c10_i32_374 : BitVec 32 := 10#32
  let c1_i32_375 : BitVec 32 := 1#32
  let v622 : BitVec 32 := Scalar.muli c10_i32_374 c1_i32_375
  let v623 : BitVec 32 := Scalar.addi c0_i32_376 v622
  v623.toNat
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_191 : BitVec 32 := 11#32
  let v355 : BitVec 1 := Scalar.cmpi .ne v2 c11_i32_191
  let v356 : BitVec 32 := Scalar.extui v355
  let c0_i32_192 : BitVec 32 := 0#32
  let v357 : BitVec 1 := Scalar.cmpi .ne v356 c0_i32_192
  v357

def k0_off34 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off35 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_368 : BitVec 32 := 0#32
  let c0_i32_369 : BitVec 32 := 0#32
  let c0_i32_370 : BitVec 32 := 0#32
  ![v2.toNat, 0, 0, 0]
def k0_dev39 : Nat :=
  let c0_i32_367 : BitVec 32 := 0#32
  let c11_i32_365 : BitVec 32 := 11#32
  let c1_i32_366 : BitVec 32 := 1#32
  let v613 : BitVec 32 := Scalar.muli c11_i32_365 c1_i32_366
  let v614 : BitVec 32 := Scalar.addi c0_i32_367 v613
  v614.toNat
def k0_off36 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  let c0_i32_379 : BitVec 32 := 0#32
  ![v2.toNat, 0, 0, 0]
def k0_dev40 : Nat :=
  let c0_i32_376 : BitVec 32 := 0#32
  let c11_i32_374 : BitVec 32 := 11#32
  let c1_i32_375 : BitVec 32 := 1#32
  let v622 : BitVec 32 := Scalar.muli c11_i32_374 c1_i32_375
  let v623 : BitVec 32 := Scalar.addi c0_i32_376 v622
  v623.toNat
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_195 : BitVec 32 := 12#32
  let v361 : BitVec 1 := Scalar.cmpi .ne v2 c12_i32_195
  let v362 : BitVec 32 := Scalar.extui v361
  let c0_i32_196 : BitVec 32 := 0#32
  let v363 : BitVec 1 := Scalar.cmpi .ne v362 c0_i32_196
  v363

def k0_off37 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off38 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_368 : BitVec 32 := 0#32
  let c0_i32_369 : BitVec 32 := 0#32
  let c0_i32_370 : BitVec 32 := 0#32
  ![v2.toNat, 0, 0, 0]
def k0_dev41 : Nat :=
  let c0_i32_367 : BitVec 32 := 0#32
  let c12_i32_365 : BitVec 32 := 12#32
  let c1_i32_366 : BitVec 32 := 1#32
  let v613 : BitVec 32 := Scalar.muli c12_i32_365 c1_i32_366
  let v614 : BitVec 32 := Scalar.addi c0_i32_367 v613
  v614.toNat
def k0_off39 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  let c0_i32_379 : BitVec 32 := 0#32
  ![v2.toNat, 0, 0, 0]
def k0_dev42 : Nat :=
  let c0_i32_376 : BitVec 32 := 0#32
  let c12_i32_374 : BitVec 32 := 12#32
  let c1_i32_375 : BitVec 32 := 1#32
  let v622 : BitVec 32 := Scalar.muli c12_i32_374 c1_i32_375
  let v623 : BitVec 32 := Scalar.addi c0_i32_376 v622
  v623.toNat
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_199 : BitVec 32 := 13#32
  let v367 : BitVec 1 := Scalar.cmpi .ne v2 c13_i32_199
  let v368 : BitVec 32 := Scalar.extui v367
  let c0_i32_200 : BitVec 32 := 0#32
  let v369 : BitVec 1 := Scalar.cmpi .ne v368 c0_i32_200
  v369

def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off41 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_368 : BitVec 32 := 0#32
  let c0_i32_369 : BitVec 32 := 0#32
  let c0_i32_370 : BitVec 32 := 0#32
  ![v2.toNat, 0, 0, 0]
def k0_dev43 : Nat :=
  let c0_i32_367 : BitVec 32 := 0#32
  let c13_i32_365 : BitVec 32 := 13#32
  let c1_i32_366 : BitVec 32 := 1#32
  let v613 : BitVec 32 := Scalar.muli c13_i32_365 c1_i32_366
  let v614 : BitVec 32 := Scalar.addi c0_i32_367 v613
  v614.toNat
def k0_off42 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  let c0_i32_379 : BitVec 32 := 0#32
  ![v2.toNat, 0, 0, 0]
def k0_dev44 : Nat :=
  let c0_i32_376 : BitVec 32 := 0#32
  let c13_i32_374 : BitVec 32 := 13#32
  let c1_i32_375 : BitVec 32 := 1#32
  let v622 : BitVec 32 := Scalar.muli c13_i32_374 c1_i32_375
  let v623 : BitVec 32 := Scalar.addi c0_i32_376 v622
  v623.toNat
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_203 : BitVec 32 := 14#32
  let v373 : BitVec 1 := Scalar.cmpi .ne v2 c14_i32_203
  let v374 : BitVec 32 := Scalar.extui v373
  let c0_i32_204 : BitVec 32 := 0#32
  let v375 : BitVec 1 := Scalar.cmpi .ne v374 c0_i32_204
  v375

def k0_off43 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off44 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_368 : BitVec 32 := 0#32
  let c0_i32_369 : BitVec 32 := 0#32
  let c0_i32_370 : BitVec 32 := 0#32
  ![v2.toNat, 0, 0, 0]
def k0_dev45 : Nat :=
  let c0_i32_367 : BitVec 32 := 0#32
  let c14_i32_365 : BitVec 32 := 14#32
  let c1_i32_366 : BitVec 32 := 1#32
  let v613 : BitVec 32 := Scalar.muli c14_i32_365 c1_i32_366
  let v614 : BitVec 32 := Scalar.addi c0_i32_367 v613
  v614.toNat
def k0_off45 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  let c0_i32_379 : BitVec 32 := 0#32
  ![v2.toNat, 0, 0, 0]
def k0_dev46 : Nat :=
  let c0_i32_376 : BitVec 32 := 0#32
  let c14_i32_374 : BitVec 32 := 14#32
  let c1_i32_375 : BitVec 32 := 1#32
  let v622 : BitVec 32 := Scalar.muli c14_i32_374 c1_i32_375
  let v623 : BitVec 32 := Scalar.addi c0_i32_376 v622
  v623.toNat
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_207 : BitVec 32 := 15#32
  let v379 : BitVec 1 := Scalar.cmpi .ne v2 c15_i32_207
  let v380 : BitVec 32 := Scalar.extui v379
  let c0_i32_208 : BitVec 32 := 0#32
  let v381 : BitVec 1 := Scalar.cmpi .ne v380 c0_i32_208
  v381

def k0_off46 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off47 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_368 : BitVec 32 := 0#32
  let c0_i32_369 : BitVec 32 := 0#32
  let c0_i32_370 : BitVec 32 := 0#32
  ![v2.toNat, 0, 0, 0]
def k0_dev47 : Nat :=
  let c0_i32_367 : BitVec 32 := 0#32
  let c15_i32_365 : BitVec 32 := 15#32
  let c1_i32_366 : BitVec 32 := 1#32
  let v613 : BitVec 32 := Scalar.muli c15_i32_365 c1_i32_366
  let v614 : BitVec 32 := Scalar.addi c0_i32_367 v613
  v614.toNat
def k0_off48 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  let c0_i32_379 : BitVec 32 := 0#32
  ![v2.toNat, 0, 0, 0]
def k0_dev48 : Nat :=
  let c0_i32_376 : BitVec 32 := 0#32
  let c15_i32_374 : BitVec 32 := 15#32
  let c1_i32_375 : BitVec 32 := 1#32
  let v622 : BitVec 32 := Scalar.muli c15_i32_374 c1_i32_375
  let v623 : BitVec 32 := Scalar.addi c0_i32_376 v622
  v623.toNat
def k0_off49 (d0 : Dev nD) : Fin 3 → Nat :=
  let c0_250 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_249 : BitVec 32 := 16#32
  let v441 : BitVec 32 := Scalar.muli v2 c16_i32_249
  let v442 : Index := Scalar.indexCast v441
  let c0_251 : Index := 0#32
  ![0, v442.toNat, 0]
def k0_cond65 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_252 : BitVec 32 := 0#32
  let v446 : BitVec 1 := Scalar.cmpi .ne v2 c0_i32_252
  let v447 : BitVec 32 := Scalar.extui v446
  let c0_i32_253 : BitVec 32 := 0#32
  let v448 : BitVec 1 := Scalar.cmpi .ne v447 c0_i32_253
  v448

def k0_off50 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off51 (d0 : Dev nD) : Fin 3 → Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_365 : BitVec 32 := 16#32
  let v614 : BitVec 32 := Scalar.muli v2 c16_i32_365
  let c0_i32_371 : BitVec 32 := 0#32
  ![0, v614.toNat, 0]
def k0_dev49 : Nat :=
  let c0_i32_369 : BitVec 32 := 0#32
  let c0_i32_367 : BitVec 32 := 0#32
  let c1_i32_368 : BitVec 32 := 1#32
  let v615 : BitVec 32 := Scalar.muli c0_i32_367 c1_i32_368
  let v616 : BitVec 32 := Scalar.addi c0_i32_369 v615
  v616.toNat
def k0_cond66 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_254 : BitVec 32 := 1#32
  let v449 : BitVec 1 := Scalar.cmpi .ne v2 c1_i32_254
  let v450 : BitVec 32 := Scalar.extui v449
  let c0_i32_255 : BitVec 32 := 0#32
  let v451 : BitVec 1 := Scalar.cmpi .ne v450 c0_i32_255
  v451

def k0_off52 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off53 (d0 : Dev nD) : Fin 3 → Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_365 : BitVec 32 := 16#32
  let v614 : BitVec 32 := Scalar.muli v2 c16_i32_365
  let c0_i32_371 : BitVec 32 := 0#32
  ![0, v614.toNat, 0]
def k0_dev50 : Nat :=
  let c0_i32_369 : BitVec 32 := 0#32
  let c1_i32_367 : BitVec 32 := 1#32
  let c1_i32_368 : BitVec 32 := 1#32
  let v615 : BitVec 32 := Scalar.muli c1_i32_367 c1_i32_368
  let v616 : BitVec 32 := Scalar.addi c0_i32_369 v615
  v616.toNat
def k0_cond67 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_256 : BitVec 32 := 2#32
  let v452 : BitVec 1 := Scalar.cmpi .ne v2 c2_i32_256
  let v453 : BitVec 32 := Scalar.extui v452
  let c0_i32_257 : BitVec 32 := 0#32
  let v454 : BitVec 1 := Scalar.cmpi .ne v453 c0_i32_257
  v454

def k0_off54 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off55 (d0 : Dev nD) : Fin 3 → Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_365 : BitVec 32 := 16#32
  let v614 : BitVec 32 := Scalar.muli v2 c16_i32_365
  let c0_i32_371 : BitVec 32 := 0#32
  ![0, v614.toNat, 0]
def k0_dev51 : Nat :=
  let c0_i32_369 : BitVec 32 := 0#32
  let c2_i32_367 : BitVec 32 := 2#32
  let c1_i32_368 : BitVec 32 := 1#32
  let v615 : BitVec 32 := Scalar.muli c2_i32_367 c1_i32_368
  let v616 : BitVec 32 := Scalar.addi c0_i32_369 v615
  v616.toNat
def k0_cond68 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_258 : BitVec 32 := 3#32
  let v455 : BitVec 1 := Scalar.cmpi .ne v2 c3_i32_258
  let v456 : BitVec 32 := Scalar.extui v455
  let c0_i32_259 : BitVec 32 := 0#32
  let v457 : BitVec 1 := Scalar.cmpi .ne v456 c0_i32_259
  v457

def k0_off56 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off57 (d0 : Dev nD) : Fin 3 → Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_365 : BitVec 32 := 16#32
  let v614 : BitVec 32 := Scalar.muli v2 c16_i32_365
  let c0_i32_371 : BitVec 32 := 0#32
  ![0, v614.toNat, 0]
def k0_dev52 : Nat :=
  let c0_i32_369 : BitVec 32 := 0#32
  let c3_i32_367 : BitVec 32 := 3#32
  let c1_i32_368 : BitVec 32 := 1#32
  let v615 : BitVec 32 := Scalar.muli c3_i32_367 c1_i32_368
  let v616 : BitVec 32 := Scalar.addi c0_i32_369 v615
  v616.toNat
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_260 : BitVec 32 := 4#32
  let v458 : BitVec 1 := Scalar.cmpi .ne v2 c4_i32_260
  let v459 : BitVec 32 := Scalar.extui v458
  let c0_i32_261 : BitVec 32 := 0#32
  let v460 : BitVec 1 := Scalar.cmpi .ne v459 c0_i32_261
  v460

def k0_off58 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off59 (d0 : Dev nD) : Fin 3 → Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_365 : BitVec 32 := 16#32
  let v614 : BitVec 32 := Scalar.muli v2 c16_i32_365
  let c0_i32_371 : BitVec 32 := 0#32
  ![0, v614.toNat, 0]
def k0_dev53 : Nat :=
  let c0_i32_369 : BitVec 32 := 0#32
  let c4_i32_367 : BitVec 32 := 4#32
  let c1_i32_368 : BitVec 32 := 1#32
  let v615 : BitVec 32 := Scalar.muli c4_i32_367 c1_i32_368
  let v616 : BitVec 32 := Scalar.addi c0_i32_369 v615
  v616.toNat
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_262 : BitVec 32 := 5#32
  let v461 : BitVec 1 := Scalar.cmpi .ne v2 c5_i32_262
  let v462 : BitVec 32 := Scalar.extui v461
  let c0_i32_263 : BitVec 32 := 0#32
  let v463 : BitVec 1 := Scalar.cmpi .ne v462 c0_i32_263
  v463

def k0_off60 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off61 (d0 : Dev nD) : Fin 3 → Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_365 : BitVec 32 := 16#32
  let v614 : BitVec 32 := Scalar.muli v2 c16_i32_365
  let c0_i32_371 : BitVec 32 := 0#32
  ![0, v614.toNat, 0]
def k0_dev54 : Nat :=
  let c0_i32_369 : BitVec 32 := 0#32
  let c5_i32_367 : BitVec 32 := 5#32
  let c1_i32_368 : BitVec 32 := 1#32
  let v615 : BitVec 32 := Scalar.muli c5_i32_367 c1_i32_368
  let v616 : BitVec 32 := Scalar.addi c0_i32_369 v615
  v616.toNat
def k0_cond71 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_264 : BitVec 32 := 6#32
  let v464 : BitVec 1 := Scalar.cmpi .ne v2 c6_i32_264
  let v465 : BitVec 32 := Scalar.extui v464
  let c0_i32_265 : BitVec 32 := 0#32
  let v466 : BitVec 1 := Scalar.cmpi .ne v465 c0_i32_265
  v466

def k0_off62 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off63 (d0 : Dev nD) : Fin 3 → Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_365 : BitVec 32 := 16#32
  let v614 : BitVec 32 := Scalar.muli v2 c16_i32_365
  let c0_i32_371 : BitVec 32 := 0#32
  ![0, v614.toNat, 0]
def k0_dev55 : Nat :=
  let c0_i32_369 : BitVec 32 := 0#32
  let c6_i32_367 : BitVec 32 := 6#32
  let c1_i32_368 : BitVec 32 := 1#32
  let v615 : BitVec 32 := Scalar.muli c6_i32_367 c1_i32_368
  let v616 : BitVec 32 := Scalar.addi c0_i32_369 v615
  v616.toNat
def k0_cond72 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_266 : BitVec 32 := 7#32
  let v467 : BitVec 1 := Scalar.cmpi .ne v2 c7_i32_266
  let v468 : BitVec 32 := Scalar.extui v467
  let c0_i32_267 : BitVec 32 := 0#32
  let v469 : BitVec 1 := Scalar.cmpi .ne v468 c0_i32_267
  v469

def k0_off64 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off65 (d0 : Dev nD) : Fin 3 → Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_365 : BitVec 32 := 16#32
  let v614 : BitVec 32 := Scalar.muli v2 c16_i32_365
  let c0_i32_371 : BitVec 32 := 0#32
  ![0, v614.toNat, 0]
def k0_dev56 : Nat :=
  let c0_i32_369 : BitVec 32 := 0#32
  let c7_i32_367 : BitVec 32 := 7#32
  let c1_i32_368 : BitVec 32 := 1#32
  let v615 : BitVec 32 := Scalar.muli c7_i32_367 c1_i32_368
  let v616 : BitVec 32 := Scalar.addi c0_i32_369 v615
  v616.toNat
def k0_cond73 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_268 : BitVec 32 := 8#32
  let v470 : BitVec 1 := Scalar.cmpi .ne v2 c8_i32_268
  let v471 : BitVec 32 := Scalar.extui v470
  let c0_i32_269 : BitVec 32 := 0#32
  let v472 : BitVec 1 := Scalar.cmpi .ne v471 c0_i32_269
  v472

def k0_off66 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off67 (d0 : Dev nD) : Fin 3 → Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_365 : BitVec 32 := 16#32
  let v614 : BitVec 32 := Scalar.muli v2 c16_i32_365
  let c0_i32_371 : BitVec 32 := 0#32
  ![0, v614.toNat, 0]
def k0_dev57 : Nat :=
  let c0_i32_369 : BitVec 32 := 0#32
  let c8_i32_367 : BitVec 32 := 8#32
  let c1_i32_368 : BitVec 32 := 1#32
  let v615 : BitVec 32 := Scalar.muli c8_i32_367 c1_i32_368
  let v616 : BitVec 32 := Scalar.addi c0_i32_369 v615
  v616.toNat
def k0_cond74 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_270 : BitVec 32 := 9#32
  let v473 : BitVec 1 := Scalar.cmpi .ne v2 c9_i32_270
  let v474 : BitVec 32 := Scalar.extui v473
  let c0_i32_271 : BitVec 32 := 0#32
  let v475 : BitVec 1 := Scalar.cmpi .ne v474 c0_i32_271
  v475

def k0_off68 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off69 (d0 : Dev nD) : Fin 3 → Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_365 : BitVec 32 := 16#32
  let v614 : BitVec 32 := Scalar.muli v2 c16_i32_365
  let c0_i32_371 : BitVec 32 := 0#32
  ![0, v614.toNat, 0]
def k0_dev58 : Nat :=
  let c0_i32_369 : BitVec 32 := 0#32
  let c9_i32_367 : BitVec 32 := 9#32
  let c1_i32_368 : BitVec 32 := 1#32
  let v615 : BitVec 32 := Scalar.muli c9_i32_367 c1_i32_368
  let v616 : BitVec 32 := Scalar.addi c0_i32_369 v615
  v616.toNat
def k0_cond75 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_272 : BitVec 32 := 10#32
  let v476 : BitVec 1 := Scalar.cmpi .ne v2 c10_i32_272
  let v477 : BitVec 32 := Scalar.extui v476
  let c0_i32_273 : BitVec 32 := 0#32
  let v478 : BitVec 1 := Scalar.cmpi .ne v477 c0_i32_273
  v478

def k0_off70 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off71 (d0 : Dev nD) : Fin 3 → Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_365 : BitVec 32 := 16#32
  let v614 : BitVec 32 := Scalar.muli v2 c16_i32_365
  let c0_i32_371 : BitVec 32 := 0#32
  ![0, v614.toNat, 0]
def k0_dev59 : Nat :=
  let c0_i32_369 : BitVec 32 := 0#32
  let c10_i32_367 : BitVec 32 := 10#32
  let c1_i32_368 : BitVec 32 := 1#32
  let v615 : BitVec 32 := Scalar.muli c10_i32_367 c1_i32_368
  let v616 : BitVec 32 := Scalar.addi c0_i32_369 v615
  v616.toNat
def k0_cond76 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_274 : BitVec 32 := 11#32
  let v479 : BitVec 1 := Scalar.cmpi .ne v2 c11_i32_274
  let v480 : BitVec 32 := Scalar.extui v479
  let c0_i32_275 : BitVec 32 := 0#32
  let v481 : BitVec 1 := Scalar.cmpi .ne v480 c0_i32_275
  v481

def k0_off72 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off73 (d0 : Dev nD) : Fin 3 → Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_365 : BitVec 32 := 16#32
  let v614 : BitVec 32 := Scalar.muli v2 c16_i32_365
  let c0_i32_371 : BitVec 32 := 0#32
  ![0, v614.toNat, 0]
def k0_dev60 : Nat :=
  let c0_i32_369 : BitVec 32 := 0#32
  let c11_i32_367 : BitVec 32 := 11#32
  let c1_i32_368 : BitVec 32 := 1#32
  let v615 : BitVec 32 := Scalar.muli c11_i32_367 c1_i32_368
  let v616 : BitVec 32 := Scalar.addi c0_i32_369 v615
  v616.toNat
def k0_cond77 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_276 : BitVec 32 := 12#32
  let v482 : BitVec 1 := Scalar.cmpi .ne v2 c12_i32_276
  let v483 : BitVec 32 := Scalar.extui v482
  let c0_i32_277 : BitVec 32 := 0#32
  let v484 : BitVec 1 := Scalar.cmpi .ne v483 c0_i32_277
  v484

def k0_off74 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off75 (d0 : Dev nD) : Fin 3 → Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_365 : BitVec 32 := 16#32
  let v614 : BitVec 32 := Scalar.muli v2 c16_i32_365
  let c0_i32_371 : BitVec 32 := 0#32
  ![0, v614.toNat, 0]
def k0_dev61 : Nat :=
  let c0_i32_369 : BitVec 32 := 0#32
  let c12_i32_367 : BitVec 32 := 12#32
  let c1_i32_368 : BitVec 32 := 1#32
  let v615 : BitVec 32 := Scalar.muli c12_i32_367 c1_i32_368
  let v616 : BitVec 32 := Scalar.addi c0_i32_369 v615
  v616.toNat
def k0_cond78 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_278 : BitVec 32 := 13#32
  let v485 : BitVec 1 := Scalar.cmpi .ne v2 c13_i32_278
  let v486 : BitVec 32 := Scalar.extui v485
  let c0_i32_279 : BitVec 32 := 0#32
  let v487 : BitVec 1 := Scalar.cmpi .ne v486 c0_i32_279
  v487

def k0_off76 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off77 (d0 : Dev nD) : Fin 3 → Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_365 : BitVec 32 := 16#32
  let v614 : BitVec 32 := Scalar.muli v2 c16_i32_365
  let c0_i32_371 : BitVec 32 := 0#32
  ![0, v614.toNat, 0]
def k0_dev62 : Nat :=
  let c0_i32_369 : BitVec 32 := 0#32
  let c13_i32_367 : BitVec 32 := 13#32
  let c1_i32_368 : BitVec 32 := 1#32
  let v615 : BitVec 32 := Scalar.muli c13_i32_367 c1_i32_368
  let v616 : BitVec 32 := Scalar.addi c0_i32_369 v615
  v616.toNat
def k0_cond79 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_280 : BitVec 32 := 14#32
  let v488 : BitVec 1 := Scalar.cmpi .ne v2 c14_i32_280
  let v489 : BitVec 32 := Scalar.extui v488
  let c0_i32_281 : BitVec 32 := 0#32
  let v490 : BitVec 1 := Scalar.cmpi .ne v489 c0_i32_281
  v490

def k0_off78 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off79 (d0 : Dev nD) : Fin 3 → Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_365 : BitVec 32 := 16#32
  let v614 : BitVec 32 := Scalar.muli v2 c16_i32_365
  let c0_i32_371 : BitVec 32 := 0#32
  ![0, v614.toNat, 0]
def k0_dev63 : Nat :=
  let c0_i32_369 : BitVec 32 := 0#32
  let c14_i32_367 : BitVec 32 := 14#32
  let c1_i32_368 : BitVec 32 := 1#32
  let v615 : BitVec 32 := Scalar.muli c14_i32_367 c1_i32_368
  let v616 : BitVec 32 := Scalar.addi c0_i32_369 v615
  v616.toNat
def k0_cond80 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_282 : BitVec 32 := 15#32
  let v491 : BitVec 1 := Scalar.cmpi .ne v2 c15_i32_282
  let v492 : BitVec 32 := Scalar.extui v491
  let c0_i32_283 : BitVec 32 := 0#32
  let v493 : BitVec 1 := Scalar.cmpi .ne v492 c0_i32_283
  v493

def k0_off80 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off81 (d0 : Dev nD) : Fin 3 → Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_365 : BitVec 32 := 16#32
  let v614 : BitVec 32 := Scalar.muli v2 c16_i32_365
  let c0_i32_371 : BitVec 32 := 0#32
  ![0, v614.toNat, 0]
def k0_dev64 : Nat :=
  let c0_i32_369 : BitVec 32 := 0#32
  let c15_i32_367 : BitVec 32 := 15#32
  let c1_i32_368 : BitVec 32 := 1#32
  let v615 : BitVec 32 := Scalar.muli c15_i32_367 c1_i32_368
  let v616 : BitVec 32 := Scalar.addi c0_i32_369 v615
  v616.toNat
def k0_off82 (d0 : Dev nD) : Fin 3 → Nat :=
  let c0_287 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_286 : BitVec 32 := 16#32
  let v497 : BitVec 32 := Scalar.muli v2 c16_i32_286
  let v498 : Index := Scalar.indexCast v497
  let c0_288 : Index := 0#32
  ![0, v498.toNat, 0]
def k0_off83 (d0 : Dev nD) : Fin 3 → Nat :=
  let c0_291 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_290 : BitVec 32 := 16#32
  let v502 : BitVec 32 := Scalar.muli v2 c16_i32_290
  let v503 : Index := Scalar.indexCast v502
  let c0_292 : Index := 0#32
  ![0, v503.toNat, 0]
def k0_off84 (d0 : Dev nD) : Fin 3 → Nat :=
  let c1_294 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_293 : BitVec 32 := 16#32
  let v507 : BitVec 32 := Scalar.muli v2 c16_i32_293
  let v508 : Index := Scalar.indexCast v507
  let c0_295 : Index := 0#32
  ![1, v508.toNat, 0]
def k0_off85 (d0 : Dev nD) : Fin 3 → Nat :=
  let c1_298 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_297 : BitVec 32 := 16#32
  let v512 : BitVec 32 := Scalar.muli v2 c16_i32_297
  let v513 : Index := Scalar.indexCast v512
  let c0_299 : Index := 0#32
  ![1, v513.toNat, 0]
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x256 : Shape := ⟨2, ![512, 256]⟩
abbrev S2x4096x256 : Shape := ⟨3, ![2, 4096, 256]⟩
abbrev S256x512 : Shape := ⟨2, ![256, 512]⟩
abbrev S2x4096x4x64 : Shape := ⟨4, ![2, 4096, 4, 64]⟩
abbrev S2x256x256 : Shape := ⟨3, ![2, 256, 256]⟩
abbrev S2x256x4x64 : Shape := ⟨4, ![2, 256, 4, 64]⟩
abbrev S256 : Shape := ⟨1, ![256]⟩
abbrev S_ : Shape := ⟨0, ![]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S2x4x256x4096 : Shape := ⟨4, ![2, 4, 256, 4096]⟩
abbrev S1x1x256x4096 : Shape := ⟨4, ![1, 1, 256, 4096]⟩
abbrev S2x4x256 : Shape := ⟨3, ![2, 4, 256]⟩
abbrev S2x4x256x1 : Shape := ⟨4, ![2, 4, 256, 1]⟩
abbrev S1x1x256x1 : Shape := ⟨4, ![1, 1, 256, 1]⟩
abbrev S2x4x64x256 : Shape := ⟨4, ![2, 4, 64, 256]⟩

abbrev nBuf : Space → Nat
  | .hbm => 139
  | .vmem => 0
  | .smem => 0
  | _ => 0

abbrev hbmTy0_0 (i : Nat) : BufTy := match i % 128 with
  | 0 => ⟨S2x256x512, .f32⟩
  | 1 => ⟨S512x256, .f32⟩
  | 2 => ⟨S2x4096x256, .f32⟩
  | 3 => ⟨S2x4096x256, .f32⟩
  | 4 => ⟨S256x512, .f32⟩
  | 5 => ⟨S2x4096x4x64, .f32⟩
  | 6 => ⟨S2x4096x4x64, .f32⟩
  | 7 => ⟨S2x256x256, .f32⟩
  | 8 => ⟨S2x256x4x64, .f32⟩
  | 9 => ⟨S256, .i32⟩
  | 10 => ⟨S_, .i32⟩
  | 11 => ⟨S_, .i32⟩
  | 12 => ⟨S256, .i32⟩
  | 13 => ⟨S256, .i32⟩
  | 14 => ⟨S256, .i32⟩
  | 15 => ⟨S_, .i32⟩
  | 16 => ⟨S256, .i32⟩
  | 17 => ⟨S256, .i1⟩
  | 18 => ⟨S256, .i32⟩
  | 19 => ⟨S256, .i32⟩
  | 20 => ⟨S_, .i32⟩
  | 21 => ⟨S256, .i32⟩
  | 22 => ⟨S256, .i1⟩
  | 23 => ⟨S256, .i1⟩
  | 24 => ⟨S_, .i32⟩
  | 25 => ⟨S256, .i32⟩
  | 26 => ⟨S256, .i32⟩
  | 27 => ⟨S256, .i32⟩
  | 28 => ⟨S256x1, .i32⟩
  | 29 => ⟨S4096, .i32⟩
  | 30 => ⟨S_, .i32⟩
  | 31 => ⟨S_, .i32⟩
  | 32 => ⟨S4096, .i32⟩
  | 33 => ⟨S4096, .i32⟩
  | 34 => ⟨S4096, .i32⟩
  | 35 => ⟨S_, .i32⟩
  | 36 => ⟨S4096, .i32⟩
  | 37 => ⟨S4096, .i1⟩
  | 38 => ⟨S4096, .i32⟩
  | 39 => ⟨S4096, .i32⟩
  | 40 => ⟨S_, .i32⟩
  | 41 => ⟨S4096, .i32⟩
  | 42 => ⟨S4096, .i1⟩
  | 43 => ⟨S4096, .i1⟩
  | 44 => ⟨S_, .i32⟩
  | 45 => ⟨S4096, .i32⟩
  | 46 => ⟨S4096, .i32⟩
  | 47 => ⟨S4096, .i32⟩
  | 48 => ⟨S1x4096, .i32⟩
  | 49 => ⟨S256x4096, .i32⟩
  | 50 => ⟨S256x4096, .i32⟩
  | 51 => ⟨S256x4096, .i1⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S1x4096, .i32⟩
  | 59 => ⟨S1x4096, .i32⟩
  | 60 => ⟨S_, .i32⟩
  | 61 => ⟨S1x4096, .i32⟩
  | 62 => ⟨S1x4096, .i1⟩
  | 63 => ⟨S_, .i32⟩
  | 64 => ⟨S1x4096, .i32⟩
  | 65 => ⟨S1x4096, .i1⟩
  | 66 => ⟨S_, .i32⟩
  | 67 => ⟨S_, .i1⟩
  | 68 => ⟨S1x4096, .i1⟩
  | 69 => ⟨S1x4096, .i1⟩
  | 70 => ⟨S1x4096, .i1⟩
  | 71 => ⟨S1x4096, .i32⟩
  | 72 => ⟨S1x4096, .i32⟩
  | 73 => ⟨S1x4096, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S256x1, .i32⟩
  | 81 => ⟨S256x1, .i32⟩
  | 82 => ⟨S_, .i32⟩
  | 83 => ⟨S256x1, .i32⟩
  | 84 => ⟨S256x1, .i1⟩
  | 85 => ⟨S_, .i32⟩
  | 86 => ⟨S256x1, .i32⟩
  | 87 => ⟨S256x1, .i1⟩
  | 88 => ⟨S_, .i32⟩
  | 89 => ⟨S_, .i1⟩
  | 90 => ⟨S256x1, .i1⟩
  | 91 => ⟨S256x1, .i1⟩
  | 92 => ⟨S256x1, .i1⟩
  | 93 => ⟨S256x1, .i32⟩
  | 94 => ⟨S256x1, .i32⟩
  | 95 => ⟨S256x1, .i32⟩
  | 96 => ⟨S256x4096, .i32⟩
  | 97 => ⟨S256x4096, .i32⟩
  | 98 => ⟨S256x4096, .i1⟩
  | 99 => ⟨S256x4096, .i1⟩
  | 100 => ⟨S2x4x256x4096, .f32⟩
  | 101 => ⟨S_, .f32⟩
  | 102 => ⟨S2x4x256x4096, .f32⟩
  | 103 => ⟨S2x4x256x4096, .f32⟩
  | 104 => ⟨S1x1x256x4096, .i1⟩
  | 105 => ⟨S_, .f32⟩
  | 106 => ⟨S_, .f32⟩
  | 107 => ⟨S2x4x256x4096, .i1⟩
  | 108 => ⟨S2x4x256x4096, .f32⟩
  | 109 => ⟨S2x4x256x4096, .f32⟩
  | 110 => ⟨S_, .f32⟩
  | 111 => ⟨S2x4x256, .f32⟩
  | 112 => ⟨S2x4x256x1, .f32⟩
  | 113 => ⟨S2x4x256x4096, .f32⟩
  | 114 => ⟨S2x4x256x4096, .f32⟩
  | 115 => ⟨S2x4x256x4096, .f32⟩
  | 116 => ⟨S_, .i1⟩
  | 117 => ⟨S256, .i1⟩
  | 118 => ⟨S1x1x256x1, .i1⟩
  | 119 => ⟨S_, .f32⟩
  | 120 => ⟨S2x4x256, .f32⟩
  | 121 => ⟨S2x4x256x1, .f32⟩
  | 122 => ⟨S_, .f32⟩
  | 123 => ⟨S_, .f32⟩
  | 124 => ⟨S2x4x256x1, .i1⟩
  | 125 => ⟨S2x4x256x1, .f32⟩
  | 126 => ⟨S2x4x256x1, .f32⟩
  | 127 => ⟨S2x4x256x4096, .f32⟩
  | _ => ⟨S2x256x512, .f32⟩

abbrev hbmTy0_1 (i : Nat) : BufTy := match i % 128 with
  | 0 => ⟨S2x4x256x4096, .f32⟩
  | 1 => ⟨S1x1x256x1, .i1⟩
  | 2 => ⟨S_, .f32⟩
  | 3 => ⟨S_, .f32⟩
  | 4 => ⟨S2x4x256x4096, .i1⟩
  | 5 => ⟨S2x4x256x4096, .f32⟩
  | 6 => ⟨S2x4x256x4096, .f32⟩
  | 7 => ⟨S2x4x64x256, .f32⟩
  | 8 => ⟨S2x256x4x64, .f32⟩
  | 9 => ⟨S2x256x256, .f32⟩
  | 10 => ⟨S2x256x512, .f32⟩
  | _ => ⟨S2x256x512, .f32⟩

abbrev hbmTy (i : Nat) : BufTy := match i / 128 with
  | 0 => hbmTy0_0 i
  | 1 => hbmTy0_1 i
  | _ => ⟨S2x256x512, .f32⟩

abbrev bufTy : (tb : Table) → Fin (tcTables nBuf tb) → BufTy
  | .hbm, ⟨i, _⟩ => hbmTy i
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_c_1 : Ref sig .tc := ⟨.hbm, 52, rfl⟩
abbrev main_call2_v0 : Ref sig .tc := ⟨.hbm, 53, rfl⟩
abbrev main_call2_c : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_1 : Ref sig .tc := ⟨.hbm, 60, rfl⟩
abbrev main_call2_v5 : Ref sig .tc := ⟨.hbm, 61, rfl⟩
abbrev main_call2_v6 : Ref sig .tc := ⟨.hbm, 62, rfl⟩
abbrev main_call2_c_2 : Ref sig .tc := ⟨.hbm, 63, rfl⟩
abbrev main_call2_v7 : Ref sig .tc := ⟨.hbm, 64, rfl⟩
abbrev main_call2_v8 : Ref sig .tc := ⟨.hbm, 65, rfl⟩
abbrev main_call2_c_3 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_v13 : Ref sig .tc := ⟨.hbm, 73, rfl⟩
abbrev main_c_2 : Ref sig .tc := ⟨.hbm, 74, rfl⟩
abbrev main_call3_v0 : Ref sig .tc := ⟨.hbm, 75, rfl⟩
abbrev main_call3_c : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_c_1 : Ref sig .tc := ⟨.hbm, 82, rfl⟩
abbrev main_call3_v5 : Ref sig .tc := ⟨.hbm, 83, rfl⟩
abbrev main_call3_v6 : Ref sig .tc := ⟨.hbm, 84, rfl⟩
abbrev main_call3_c_2 : Ref sig .tc := ⟨.hbm, 85, rfl⟩
abbrev main_call3_v7 : Ref sig .tc := ⟨.hbm, 86, rfl⟩
abbrev main_call3_v8 : Ref sig .tc := ⟨.hbm, 87, rfl⟩
abbrev main_call3_c_3 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_cst : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_cst_3 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v23 : Ref sig .tc := ⟨.hbm, 109, rfl⟩
abbrev main_cst_4 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_c_5 : Ref sig .tc := ⟨.hbm, 116, rfl⟩
abbrev main_v29 : Ref sig .tc := ⟨.hbm, 117, rfl⟩
abbrev main_v30 : Ref sig .tc := ⟨.hbm, 118, rfl⟩
abbrev main_cst_6 : Ref sig .tc := ⟨.hbm, 119, rfl⟩
abbrev main_v31 : Ref sig .tc := ⟨.hbm, 120, rfl⟩
abbrev main_v32 : Ref sig .tc := ⟨.hbm, 121, rfl⟩
abbrev main_cst_7 : Ref sig .tc := ⟨.hbm, 122, rfl⟩
abbrev main_call5_v0 : Ref sig .tc := ⟨.hbm, 123, rfl⟩
abbrev main_call5_v1 : Ref sig .tc := ⟨.hbm, 124, rfl⟩
abbrev main_call5_v2 : Ref sig .tc := ⟨.hbm, 125, rfl⟩
abbrev main_v33 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_cst_8 : Ref sig .tc := ⟨.hbm, 130, rfl⟩
abbrev main_call6_v0 : Ref sig .tc := ⟨.hbm, 131, rfl⟩
abbrev main_call6_v1 : Ref sig .tc := ⟨.hbm, 132, rfl⟩
abbrev main_call6_v2 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩

abbrev nD : Nat := 1
abbrev τ : Topo := Topo.v7x

variable {F : FTy → Type} [FloatOps F]
-- ==== Proof.KernelIdealProto.lean ====
/-
The protocol of the kernel's launch on sixteen devices, written before the body is run.

Semaphores of device `c` (all one round, round 0):
* the barrier: every other device `j` signals it once, `c` waits for fifteen. `j`'s signal hands `c` the three places on
  `j` that `c` copies into: `j`'s two receive slots number `c` and `j`'s rows `16c .. 16c+15` of the gathered result.
* `s1C j`, `s1E j`: `c`'s own sends to `j` of its partial numerators and denominators for `j`'s rows; `c` waits at the
  end and has the rows it sent back.
* `r1C j`, `r1E j`: `j`'s partial numerators and denominators for `c`'s rows have landed in `c`'s slot `j`.
* `s2 j`: `c`'s send to `j` of its finished rows; `c` waits at the end and has its share of the rows back.
* `r2 j`: `j`'s finished rows have landed in `c`'s rows `16j .. 16j+15` of the gathered result.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.VecWindow
public import Idealize.ShloMosaic.Lib.Transfers
public import Idealize.ShloMosaic.Lib.Ring
public import Idealize.ShloMosaic.Lib.Tactic

@[expose] public section

set_option maxRecDepth 65536

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

/-! ## The resource algebra: the pipeline library's rounds and this kernel's (a duty is named by a device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The buffers -/

abbrev xM : Memref sig .tc .vmem S2x256x512 .f32 := Memref.whole cc0_stg0_0
abbrev wqM : Memref sig .tc .vmem S512x256 .f32 := Memref.whole cc0_stg1_0
abbrev kM : Memref sig .tc .vmem S2x256x256 .f32 := Memref.whole cc0_stg2_0
abbrev vM : Memref sig .tc .vmem S2x256x256 .f32 := Memref.whole cc0_stg3_0
abbrev woM : Memref sig .tc .vmem S256x512 .f32 := Memref.whole cc0_stg4_0
abbrev oM : Memref sig .tc .vmem S2x256x512 .f32 := Memref.whole cc0_stg5_0
abbrev aC : Memref sig .tc .vmem S2x256x256 .bf16 := Memref.whole cc0_scratch0
abbrev aE : Memref sig .tc .vmem S2x256x4 .bf16 := Memref.whole cc0_scratch1
abbrev gC : Memref sig .tc .vmem S16x2x16x256 .bf16 := Memref.whole cc0_scratch2
abbrev gE : Memref sig .tc .vmem S16x2x16x4 .bf16 := Memref.whole cc0_scratch3
abbrev tC : Memref sig .tc .vmem S2x16x256 .f32 := Memref.whole cc0_scratch4
abbrev tE : Memref sig .tc .vmem S2x16x4 .f32 := Memref.whole cc0_scratch5
abbrev yM : Memref sig .tc .vmem S2x256x256 .bf16 := Memref.whole cc0_scratch6

/-! ## The pieces of the buffers: the rows of one device, and its receive slot -/

theorem rowC_inb (j : Fin 16) : ∀ a, (![0, 16 * j.val, 0] : Fin 3 → ℕ) a + S2x16x256.size a ≤ S2x256x256.size a := by
  revert j; decide
theorem rowE_inb (j : Fin 16) : ∀ a, (![0, 16 * j.val, 0] : Fin 3 → ℕ) a + S2x16x4.size a ≤ S2x256x4.size a := by
  revert j; decide
theorem slotC_inb (j : Fin 16) : ∀ a, (![j.val, 0, 0, 0] : Fin 4 → ℕ) a + S1x2x16x256.size a ≤ S16x2x16x256.size a := by
  revert j; decide
theorem slotE_inb (j : Fin 16) : ∀ a, (![j.val, 0, 0, 0] : Fin 4 → ℕ) a + S1x2x16x4.size a ≤ S16x2x16x4.size a := by
  revert j; decide
theorem sem_inb (j : Fin 16) : ∀ a, (![j.val] : Fin 1 → ℕ) a + S1.size a ≤ S16.size a := by
  revert j; decide

/-- Rows `16j .. 16j+15` of a numerators' buffer, of a denominators' buffer; slot `j` of a receive buffer. -/
abbrev rowCr (j : Fin 16) : Rect S2x256x256 := Rect.unit (s := S2x256x256) ![0, 16 * j.val, 0] S2x16x256.size (rowC_inb j)
abbrev rowEr (j : Fin 16) : Rect S2x256x4 := Rect.unit (s := S2x256x4) ![0, 16 * j.val, 0] S2x16x4.size (rowE_inb j)
abbrev slotCr (j : Fin 16) : Rect S16x2x16x256 := Rect.unit (s := S16x2x16x256) ![j.val, 0, 0, 0] S1x2x16x256.size (slotC_inb j)
abbrev slotEr (j : Fin 16) : Rect S16x2x16x4 := Rect.unit (s := S16x2x16x4) ![j.val, 0, 0, 0] S1x2x16x4.size (slotE_inb j)

abbrev aCr (j : Fin 16) : Memref sig .tc .vmem S2x16x256 .bf16 := aC.slice (rowCr j) (fun _ => rfl)
abbrev aEr (j : Fin 16) : Memref sig .tc .vmem S2x16x4 .bf16 := aE.slice (rowEr j) (fun _ => rfl)
abbrev yMr (j : Fin 16) : Memref sig .tc .vmem S2x16x256 .bf16 := yM.slice (rowCr j) (fun _ => rfl)
abbrev gCs (j : Fin 16) : Memref sig .tc .vmem S1x2x16x256 .bf16 := gC.slice (slotCr j) (fun _ => rfl)
abbrev gEs (j : Fin 16) : Memref sig .tc .vmem S1x2x16x4 .bf16 := gE.slice (slotEr j) (fun _ => rfl)
abbrev gCq (j : Fin 16) : Memref sig .tc .vmem S2x16x256 .bf16 := (gCs j).squeeze S2x16x256 squeezes_S1x2x16x256_S2x16x256
abbrev gEq (j : Fin 16) : Memref sig .tc .vmem S2x16x4 .bf16 := (gEs j).squeeze S2x16x4 squeezes_S1x2x16x4_S2x16x4

/-! ## The semaphores -/

/-- The runtime's barrier semaphore. -/
abbrev barS : Sem sig := (SemArray.scalar (sig.barrier 0 rfl) : Sems sig S_).sem

/-- Transfer semaphore `i` of array `k`: `0` `s1C`, `1` `s1E`, `2` `r1C`, `3` `r1E`, `4` `s2`, `5` `r2`. -/
def xsem (k : Fin 6) (i : Fin 16) : DmaSem sig := ⟨6 + 16 * k.val + i.val, by show _ < 102; omega⟩

abbrev CI : Type := Option (Fin 6 × Fin 16)
abbrev csem : CI → SemLoc sig
  | none => .reg barS
  | some (k, i) => .dma (xsem k i)
abbrev kcell (c : Dev nD) (i : CI) : GSem nD τ sig := ((c : Thread nD τ), csem i)
abbrev bar (c : Dev nD) : GSem nD τ sig := kcell c none
abbrev xc (k : Fin 6) (c : Dev nD) (i : Fin 16) : GSem nD τ sig := kcell c (some (k, i))

theorem xsem_inj {k k' : Fin 6} {i i' : Fin 16} (h : xsem k i = xsem k' i') : k = k' ∧ i = i' := by
  have h := congrArg Fin.val h
  simp only [xsem] at h
  constructor <;> apply Fin.ext <;> omega

theorem csem_inj : Function.Injective csem := by
  intro a b h
  rcases a with _ | ⟨k, i⟩ <;> rcases b with _ | ⟨k', i'⟩
  · rfl
  · cases h
  · cases h
  · obtain ⟨h1, h2⟩ := xsem_inj (SemLoc.dma.inj h); rw [h1, h2]

open Classical in
/-- Which of the kernel's cells a semaphore is. -/
def idx (s : SemLoc sig) : Option CI := if h : ∃ i, csem i = s then some h.choose else none

theorem idx_csem (i : CI) : idx (csem i) = some i := by
  unfold idx
  have h : ∃ j, csem j = csem i := ⟨i, rfl⟩
  rw [dif_pos h, csem_inj h.choose_spec]

theorem idx_stage (q : DmaSem sig) (hq : q.val < 6) : idx (.dma q) = none := by
  unfold idx
  rw [dif_neg]
  rintro ⟨i, hi⟩
  rcases i with _ | ⟨k, i⟩
  · cases hi
  · have := congrArg Fin.val (SemLoc.dma.inj hi)
    simp only [xsem] at this; omega

/-- The printed semaphore `i` of each array is this one. -/
theorem sem_s1C (j : Fin 16) (h) : (((cc0_scratch7 : DmaSems sig S16).slice (Rect.unit (s := S16) ![j.val] S1.size h)).squeeze S_ squeezes_S1_S_).sem = xsem 0 j := by
  revert j; decide
theorem sem_s1E (j : Fin 16) (h) : (((cc0_scratch8 : DmaSems sig S16).slice (Rect.unit (s := S16) ![j.val] S1.size h)).squeeze S_ squeezes_S1_S_).sem = xsem 1 j := by
  revert j; decide
theorem sem_r1C (j : Fin 16) (h) : (((cc0_scratch9 : DmaSems sig S16).slice (Rect.unit (s := S16) ![j.val] S1.size h)).squeeze S_ squeezes_S1_S_).sem = xsem 2 j := by
  revert j; decide
theorem sem_r1E (j : Fin 16) (h) : (((cc0_scratch10 : DmaSems sig S16).slice (Rect.unit (s := S16) ![j.val] S1.size h)).squeeze S_ squeezes_S1_S_).sem = xsem 3 j := by
  revert j; decide
theorem sem_s2 (j : Fin 16) (h) : (((cc0_scratch11 : DmaSems sig S16).slice (Rect.unit (s := S16) ![j.val] S1.size h)).squeeze S_ squeezes_S1_S_).sem = xsem 4 j := by
  revert j; decide
theorem sem_r2 (j : Fin 16) (h) : (((cc0_scratch12 : DmaSems sig S16).slice (Rect.unit (s := S16) ![j.val] S1.size h)).squeeze S_ squeezes_S1_S_).sem = xsem 5 j := by
  revert j; decide

/-- The credit of a block of numerators, and of denominators. -/
abbrev NC : ℕ := (aCr 0).view.dmaCredit
abbrev NE : ℕ := (aEr 0).view.dmaCredit
theorem NC_pos : 0 < NC := View.dmaCredit_pos _ (by decide)
theorem NE_pos : 0 < NE := View.dmaCredit_pos _ (by decide)

theorem cred_aC (j : Fin 16) : (aCr j).view.dmaCredit = NC := rfl
theorem cred_gC (j : Fin 16) : (gCq j).view.dmaCredit = NC := rfl
theorem cred_y (j : Fin 16) : (yMr j).view.dmaCredit = NC := rfl
theorem cred_aE (j : Fin 16) : (aEr j).view.dmaCredit = NE := rfl
theorem cred_gE (j : Fin 16) : (gEq j).view.dmaCredit = NE := rfl

/-- The units one transfer of array `k` is worth. -/
def Nk (k : Fin 6) : ℕ := if k = 1 ∨ k = 3 then NE else NC
theorem Nk_pos (k : Fin 6) : 0 < Nk k := by unfold Nk; split; exacts [NE_pos, NC_pos]

end Cert.KernelIdeal.Hand

end
-- ==== Proof.KernelIdealVals.lean ====
/-
The contents every buffer holds as the launch runs, as functions of the sixteen devices' staged arguments: the partial
numerators and denominators of a device, what each device receives of them, their sums, the finished rows and the result.
-/
module

public import proofs.«01_k».proof.Proof.KernelIdealProto

@[expose] public section

set_option maxRecDepth 65536

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

/-- The sixteen devices' staged arguments. -/
structure Inp (F : FTy → Type) where
  x : Dev nD → Vec F S2x256x512 .f32
  wq : Dev nD → Vec F S512x256 .f32
  k : Dev nD → Vec F S2x256x256 .f32
  v : Dev nD → Vec F S2x256x256 .f32
  wo : Dev nD → Vec F S256x512 .f32

theorem xb_inb (b : Fin 2) : ∀ a, (![b.val, 0, 0] : Fin 3 → ℕ) a + S1x256x512.size a ≤ S2x256x512.size a := by
  revert b; decide
theorem hb_inb (b : Fin 2) (h : Fin 4) : ∀ a, (![b.val, 0, 64 * h.val] : Fin 3 → ℕ) a + S1x256x64.size a ≤ S2x256x256.size a := by
  revert b h; decide
theorem eb_inb (b : Fin 2) : ∀ a, (![b.val, 0, 0] : Fin 3 → ℕ) a + S1x256x4.size a ≤ S2x256x4.size a := by
  revert b; decide
theorem yb_inb (b : Fin 2) (j : Fin 16) : ∀ a, (![b.val, 16 * j.val, 0] : Fin 3 → ℕ) a + S1x16x256.size a ≤ S2x256x256.size a := by
  revert b j; decide
theorem yb0_inb (b : Fin 2) : ∀ a, (![b.val, 0, 0] : Fin 3 → ℕ) a + S1x16x256.size a ≤ S2x16x256.size a := by
  revert b; decide
theorem ob_inb (b : Fin 2) (j : Fin 16) : ∀ a, (![b.val, 16 * j.val, 0] : Fin 3 → ℕ) a + S1x16x512.size a ≤ S2x256x512.size a := by
  revert b j; decide
theorem hslice (h : Fin 4) : Shape.Slices S256x256 ![0, 64 * h.val] S256x64 := by
  revert h; decide

/-- The block mask: one where query and key lie in one block of 64, zero elsewhere. -/
def maskV : FVec F S256x256 .f32 :=
  k0_pay23 (k0_pay20 (iota .tc S256x256 32 [0] iota_S256x256_d0_w32) 64#32 k0_pay18 k0_pay19 0#32) k0_pay21 k0_pay22

/-- The masked weights of one head: `exp` of the scaled scores times the mask. -/
def wgt (q : FVec F S256x256 .bf16) (h : Fin 4) (kb : Vec F S1x256x64 .f32) : FVec F S256x256 .f32 :=
  mulf (exp (mulf (matmul dot_S256x64_S256x64_S256x256_1_1_0_0_n_n none (extractStridedSlice S256x64 ![0, 64 * h.val] q (hslice h))
    (truncf .bf16 (shapeCast S256x64 kb shapeCasts_S1x256x64_S256x64) bitsLt_bf16_f32) (constant S256x256 .f32 0x00000000#32))
    (broadcast S256x256 (Scalar.ofBits .f32 0x3E000000#32)))) maskV
/-- One head's denominators. -/
def wsum (w : FVec F S256x256 .f32) : FVec F S256 .f32 :=
  multiReduction .add [1] S256 w 0x00000000#32 reduces_S256x256_S256 (.inl rfl) rfl
/-- One head's numerators. -/
def wctx (w : FVec F S256x256 .f32) (vb : Vec F S1x256x64 .f32) : FVec F S1x256x64 .bf16 :=
  shapeCast S1x256x64 (truncf .bf16 (matmul dot_S256x256_S256x64_S256x64_1_0_0_1_n_n none (truncf .bf16 w bitsLt_bf16_f32)
    (truncf .bf16 (shapeCast S256x64 vb shapeCasts_S1x256x64_S256x64) bitsLt_bf16_f32) (constant S256x64 .f32 0x00000000#32)) bitsLt_bf16_f32)
    shapeCasts_S256x64_S1x256x64

namespace Inp
variable (I : Inp F)

/-- The queries of batch entry `b`, every head. -/
def q (c : Dev nD) (b : Fin 2) : FVec F S256x256 .bf16 :=
  k0_pay24 (k0_pay17 (I.wq c)) (window (s := S2x256x512) (I.x c) ![b.val, 0, 0] S1x256x512.size (xb_inb b))
def w (c : Dev nD) (b : Fin 2) (h : Fin 4) : FVec F S256x256 .f32 :=
  wgt (I.q c b) h (window (s := S2x256x256) (I.k c) ![b.val, 0, 64 * h.val] S1x256x64.size (hb_inb b h))
def ctxBox (c : Dev nD) (b : Fin 2) (h : Fin 4) : FVec F S1x256x64 .bf16 :=
  wctx (I.w c b h) (window (s := S2x256x256) (I.v c) ![b.val, 0, 64 * h.val] S1x256x64.size (hb_inb b h))
def denCol (c : Dev nD) (b : Fin 2) (h : Fin 4) : FVec F S256x1 .f32 := k0_pay52 (wsum (I.w c b h))
def denBox (c : Dev nD) (b : Fin 2) : FVec F S1x256x4 .bf16 :=
  k0_pay56 (I.denCol c b 0) (I.denCol c b 1) (I.denCol c b 2) (I.denCol c b 3)

/-- A device's partial numerators, every query. -/
def ctx (c : Dev nD) : Vec F S2x256x256 .bf16 := fun y =>
  I.ctxBox c (y 0) ⟨(y 2).val / 64, by have : (y 2).val < 256 := (y 2).isLt; omega⟩
    (fun a => ⟨(![0, (y 1).val, (y 2).val % 64] : Fin 3 → ℕ) a, by
      fin_cases a
      · exact Nat.one_pos
      · exact (y 1).isLt
      · exact Nat.mod_lt _ (by decide)⟩)
/-- A device's partial denominators, every query and head. -/
def den (c : Dev nD) : Vec F S2x256x4 .bf16 := fun y =>
  I.denBox c (y 0) (fun a => ⟨(![0, (y 1).val, (y 2).val] : Fin 3 → ℕ) a, by
      fin_cases a
      · exact Nat.one_pos
      · exact (y 1).isLt
      · exact (y 2).isLt⟩)

/-- Device `i`'s partial numerators, and denominators, for device `j`'s rows. -/
def ctxSlab (i j : Dev nD) : Vec F S2x16x256 .bf16 := fun y => I.ctx i ((rowCr j).emb y)
def denSlab (i j : Dev nD) : Vec F S2x16x4 .bf16 := fun y => I.den i ((rowEr j).emb y)

/-- A block of rows as its receive slot's box holds it. -/
def unsqC (w : Vec F S2x16x256 .bf16) : Vec F S1x2x16x256 .bf16 := fun y => w ((Shape.reshapeEquiv squeezes_S1x2x16x256_S2x16x256.numel_eq).symm y)
def unsqE (w : Vec F S2x16x4 .bf16) : Vec F S1x2x16x4 .bf16 := fun y => w ((Shape.reshapeEquiv squeezes_S1x2x16x4_S2x16x4.numel_eq).symm y)

/-- The running sums: the device's own block, then those received from the devices below `k`. -/
def accC (c : Dev nD) : ℕ → FVec F S2x16x256 .f32
  | 0 => k0_pay57 (I.ctxSlab c c)
  | k + 1 => if h : k < 16 ∧ k ≠ c.val then k0_pay1 (accC c k) (unsqC (I.ctxSlab ⟨k, h.1⟩ c)) else accC c k
def accE (c : Dev nD) : ℕ → FVec F S2x16x4 .f32
  | 0 => k0_pay58 (I.denSlab c c)
  | k + 1 => if h : k < 16 ∧ k ≠ c.val then k0_pay89 (accE c k) (unsqE (I.denSlab ⟨k, h.1⟩ c)) else accE c k

/-- A device's finished rows. -/
def y (c : Dev nD) : FVec F S2x16x256 .bf16 := k0_pay105 (I.accC c 16) (I.accE c 16)
/-- Device `c`'s result rows from device `j`'s finished rows. -/
def outBox (c j : Dev nD) (b : Fin 2) : FVec F S1x16x512 .f32 :=
  k0_pay110 (k0_pay106 (I.wo c)) (window (s := S2x16x256) (I.y j) ![b.val, 0, 0] S1x16x256.size (yb0_inb b))
/-- The device whose rows row `r` is among. -/
def rowDev (r : ℕ) (h : r < 256) : Dev nD := ⟨r / 16, by show r / 16 < 16; omega⟩
/-- The kernel's result on device `c`. -/
def out (c : Dev nD) : Vec F S2x256x512 .f32 := fun z =>
  I.outBox c (rowDev (z 1).val (z 1).isLt) (z 0)
    (fun a => ⟨(![0, (z 1).val % 16, (z 2).val] : Fin 3 → ℕ) a, by
      fin_cases a
      · exact Nat.one_pos
      · exact Nat.mod_lt _ (by decide)
      · exact (z 2).isLt⟩)

end Inp

end Cert.KernelIdeal.Hand

end
-- ==== Proof.KernelIdealSched.lean ====
/-
The schedule of the launch's semaphores, what a device owes at its start, and the levels that order its waits.
-/
module

public import proofs.«01_k».proof.Proof.KernelIdealVals

@[expose] public section

set_option maxRecDepth 65536

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

/-- A buffer's piece at any contents. -/
def any (c : Dev nD) {sp : Space} {sh : Shape} {e : EltTy} (m : Memref sig .tc sp sh e) : sProp 𝕄 :=
  iprop(∃ X, owns (c : Thread nD τ) m fullShare X)
instance any_storable (c : Dev nD) {sp : Space} {sh : Shape} {e : EltTy} (m : Memref sig .tc sp sh e) :
    BI.Storable (upEmb : UEmb _ 𝕄) (any (F := F) c m) := by unfold any; infer_instance

/-- The share of the finished rows that the copy to device `i` reads, and the share left. -/
abbrev ySh (i : Fin 16) : PosShare TreeShare := Transfers.shareTok fullShare 16 i
abbrev yRest : PosShare TreeShare := Transfers.shareDrop fullShare 16

/-- What device `d`'s signal hands device `c`: the places on `d` that `c` copies into. -/
def barPay (c d : Dev nD) : sProp 𝕄 := iprop(any d (gCq c) ∗ any d (gEq c) ∗ any d (yMr c))

/-- What the landing on transfer semaphore `(k, i)` of device `c` hands `c`. -/
def xPay (I : Inp F) (k : Fin 6) (c : Dev nD) (i : Fin 16) : sProp 𝕄 :=
  match k with
  | 0 => owns (c : Thread nD τ) (aCr i) fullShare (I.ctxSlab c i)
  | 1 => owns (c : Thread nD τ) (aEr i) fullShare (I.denSlab c i)
  | 2 => owns (c : Thread nD τ) (gCq i) fullShare (I.ctxSlab i c)
  | 3 => owns (c : Thread nD τ) (gEq i) fullShare (I.denSlab i c)
  | 4 => owns (c : Thread nD τ) (yMr c) (ySh i) (I.y c)
  | 5 => owns (c : Thread nD τ) (yMr i) fullShare (I.y i)

instance xPay_storable (I : Inp F) (k : Fin 6) (c : Dev nD) (i : Fin 16) : BI.Storable (upEmb : UEmb _ 𝕄) (xPay I k c i) := by
  unfold xPay; split <;> infer_instance
instance barPay_storable (c d : Dev nD) : BI.Storable (upEmb : UEmb _ 𝕄) (barPay (F := F) c d) := by unfold barPay; infer_instance

/-- The duties of a cell at round 0: the barrier of `c` one for every other device; a transfer cell one for the other end. -/
def dut (c : Dev nD) : Option CI → Finset (Dev nD)
  | some none => Finset.univ.erase c
  | some (some (_, i)) => if i = c then ∅ else {0}
  | none => ∅
def amt : Option CI → ℕ
  | some (some (k, _)) => Nk k
  | _ => 1
def payl (I : Inp F) (c d : Dev nD) : Option CI → sProp 𝕄
  | some none => barPay c d
  | some (some (k, i)) => xPay I k c i
  | none => iprop(emp)

instance payl_storable (I : Inp F) (c d : Dev nD) (o : Option CI) : BI.Storable (upEmb : UEmb _ 𝕄) (payl I c d o) := by
  unfold payl; split <;> infer_instance

def Rd (I : Inp F) : Rounds.Schedule (GSem nD τ sig) (Dev nD) 𝕄 where
  duties g r := if r = 0 ∧ g.1.2 = .tc then dut g.1.1 (idx g.2) else ∅
  unitless _ := False
  amount g _ _ := amt (idx g.2)
  payload g _ d := payl I g.1.1 d (idx g.2)
  amount_pos g _ _ _ := by
    unfold amt; split
    · exact Nk_pos _
    · exact Nat.one_pos

instance Rd_storable (I : Inp F) (g : GSem nD τ sig) (r : ℕ) (d : Dev nD) : BI.Storable (upEmb : UEmb _ 𝕄) ((Rd I).payload g r d) := by
  show BI.Storable upEmb (payl I g.1.1 d (idx g.2)); infer_instance

variable (I : Inp F) (c : Dev nD)

theorem duties_at (i : CI) : (Rd I).duties (kcell c i) 0 = dut c (some i) := by
  dsimp only [Rd]; rw [if_pos ⟨rfl, rfl⟩, idx_csem]
theorem duties_later (g : GSem nD τ sig) : ∀ r, 1 ≤ r → (Rd I).duties g r = ∅ := fun r hr => by
  dsimp only [Rd]; rw [if_neg fun h => by omega]
theorem amount_at (i : CI) (r : ℕ) (d : Dev nD) : (Rd I).amount (kcell c i) r d = amt (some i) := by
  dsimp only [Rd]; rw [idx_csem]
theorem payload_at (i : CI) (r : ℕ) (d : Dev nD) : (Rd I).payload (kcell c i) r d = payl I c d (some i) := by
  dsimp only [Rd]; rw [idx_csem]

theorem expect_bar : (Rd I).expect (bar c) 0 = 15 := by
  unfold Schedule.expect Schedule.amountOf
  rw [duties_at, Finset.sum_congr rfl fun d _ => amount_at I c none 0 d]
  show ∑ _d ∈ Finset.univ.erase c, 1 = 15
  rw [Finset.sum_const, Finset.card_erase_of_mem (Finset.mem_univ _), Finset.card_univ, Fintype.card_fin]; rfl
theorem expect_x (k : Fin 6) (i : Fin 16) (h : i ≠ c) : (Rd I).expect (xc k c i) 0 = Nk k := by
  unfold Schedule.expect Schedule.amountOf
  rw [duties_at, Finset.sum_congr rfl fun d _ => amount_at I c (some (k, i)) 0 d]
  show ∑ _d ∈ (if i = c then ∅ else {0} : Finset (Dev nD)), Nk k = Nk k
  rw [if_neg h, Finset.sum_singleton]

theorem duties_x (k : Fin 6) (i : Fin 16) (h : i ≠ c) : (0 : Dev nD) ∈ (Rd I).duties (xc k c i) 0 := by
  rw [duties_at]; show (0 : Dev nD) ∈ (if i = c then ∅ else {0} : Finset (Dev nD)); rw [if_neg h]; exact Finset.mem_singleton_self _
theorem duties_own (k : Fin 6) : ∀ r, 0 ≤ r → (Rd I).duties (xc k c c) r = ∅ := fun r _ => by
  rcases Nat.eq_zero_or_pos r with rfl | h
  · rw [duties_at]; exact if_pos rfl
  · exact duties_later I _ r h
theorem duties_bar (d : Dev nD) (h : d ≠ c) : d ∈ (Rd I).duties (bar c) 0 := by
  rw [duties_at]; exact Finset.mem_erase.mpr ⟨h, Finset.mem_univ _⟩

/-- The rest of a barrier's round, of a transfer cell's round. -/
theorem rest_bar : bigSep ((Rd I).duties (bar c) 0 \ ∅) (fun d => (Rd I).payload (bar c) 0 d) = bigSep (Finset.univ.erase c) (fun d => barPay c d) := by
  rw [Finset.sdiff_empty, duties_at]
  exact bigSep_congr fun d _ => payload_at I c none 0 d
theorem rest_x (k : Fin 6) (i : Fin 16) (h : i ≠ c) :
    bigSep ((Rd I).duties (xc k c i) 0 \ ∅) (fun d => (Rd I).payload (xc k c i) 0 d) = xPay I k c i := by
  rw [Finset.sdiff_empty, duties_at]
  show bigSep (if i = c then ∅ else {0} : Finset (Dev nD)) _ = _
  rw [if_neg h, bigSep_singleton]
  exact payload_at I c (some (k, i)) 0 0

/-! ## What a device owes; the levels -/

/-- To device `j`: its barrier's unit; the landing of a block of numerators and denominators; the landing of the rows. -/
def oB (j : Dev nD) : CellTallies nD τ sig Unit := tallyAt (bar j) () 1
def oC (c j : Dev nD) : CellTallies nD τ sig Unit := tallyAt (xc 2 j c) () NC
def oE (c j : Dev nD) : CellTallies nD τ sig Unit := tallyAt (xc 3 j c) () NE
def oY (c j : Dev nD) : CellTallies nD τ sig Unit := tallyAt (xc 5 j c) () NC

/-- The other devices from `k` on. -/
def todo (c : Dev nD) (k : ℕ) : Finset (Dev nD) := Finset.univ.filter fun j => k ≤ j.val ∧ j ≠ c
/-- The other devices below `k`. -/
def past (c : Dev nD) (k : ℕ) : Finset (Dev nD) := Finset.univ.filter fun j => j.val < k ∧ j ≠ c

/-- Owed once the first `a` signals are given, the first `b` blocks and the first `d` rows' copies sent. -/
def owed (a b d : ℕ) : CellTallies nD τ sig Unit :=
  (∑ j ∈ todo c a, oB j) + (∑ j ∈ todo c b, (oC c j + oE c j)) + ∑ j ∈ todo c d, oY c j

def L (g : GSem nD τ sig) : Finset Unit := if g.1.2 = .tc then {()} else ∅
/-- Barriers at 1, landings of blocks at 2, landings of rows at 3, the rest at 0. -/
def lvi : Option CI → ℕ
  | some none => 1
  | some (some (k, _)) => if k = 2 ∨ k = 3 then 2 else if k = 5 then 3 else 0
  | none => 0
def lv (g : GSem nD τ sig) (_ : Unit) : ℕ := lvi (idx g.2)

theorem L_tc (sm : SemLoc sig) : L ((c : Thread nD τ), sm) = {()} := if_pos rfl
theorem L_of_ne (g : GSem nD τ sig) (h : g.1.2 ≠ .tc) : L g = ∅ := if_neg h
theorem lv_at (i : CI) (u : Unit) : lv (kcell c i) u = lvi (some i) := by unfold lv; rw [idx_csem]

/-- The cells some owed part is at. -/
def owedAt (a b d : ℕ) (i : CI) : Prop :=
  (a < 16 ∧ i = none) ∨ (b < 16 ∧ ∃ j, i = some (2, j) ∨ i = some (3, j)) ∨ (d < 16 ∧ ∃ j, i = some (5, j))

theorem tally_pos {g g' : GSem nD τ sig} {u : Unit} {n : ℕ} (h : 0 < tallyAt g' () n g u) : g = g' := by
  rw [tallyAt_apply] at h
  by_contra hn
  rw [if_neg fun h' => hn h'.1] at h
  exact Nat.lt_irrefl 0 h

theorem sum_pos {S : Finset (Dev nD)} {f : Dev nD → CellTallies nD τ sig Unit} {g : GSem nD τ sig} {u : Unit}
    (h : 0 < (∑ j ∈ S, f j) g u) : ∃ j ∈ S, 0 < f j g u := by
  by_contra hn
  have : (∑ j ∈ S, f j) g u = ∑ j ∈ S, f j g u := by rw [Finset.sum_apply, Finsupp.finset_sum_apply]
  rw [this, Finset.sum_eq_zero fun j hj => ?_] at h
  · exact Nat.lt_irrefl 0 h
  · by_contra h0; exact hn ⟨j, hj, Nat.pos_of_ne_zero h0⟩

theorem todo_lt {c j : Dev nD} {k : ℕ} (h : j ∈ todo c k) : k < 16 := by
  have h := (Finset.mem_filter.mp h).2.1
  have := j.isLt
  exact lt_of_le_of_lt h this

theorem owed_pos {a b d : ℕ} {g : GSem nD τ sig} {u : Unit} (h : 0 < owed c a b d g u) :
    ∃ (j : Dev nD) (i : CI), g = kcell j i ∧ owedAt a b d i := by
  unfold owed at h
  rw [Pi.add_apply, Finsupp.add_apply, Pi.add_apply, Finsupp.add_apply] at h
  rcases Nat.eq_zero_or_pos ((∑ j ∈ todo c a, oB j) g u) with h1 | h1
  · rcases Nat.eq_zero_or_pos ((∑ j ∈ todo c b, (oC c j + oE c j)) g u) with h2 | h2
    · obtain ⟨j, hj, h3⟩ := sum_pos (show 0 < (∑ j ∈ todo c d, oY c j) g u by omega)
      exact ⟨j, _, tally_pos h3, .inr (.inr ⟨todo_lt hj, c, rfl⟩)⟩
    · obtain ⟨j, hj, h3⟩ := sum_pos h2
      rw [Pi.add_apply, Finsupp.add_apply] at h3
      rcases Nat.eq_zero_or_pos (oC c j g u) with h4 | h4
      · exact ⟨j, _, tally_pos (show 0 < oE c j g u by omega), .inr (.inl ⟨todo_lt hj, c, .inr rfl⟩)⟩
      · exact ⟨j, _, tally_pos h4, .inr (.inl ⟨todo_lt hj, c, .inl rfl⟩)⟩
  · obtain ⟨j, hj, h3⟩ := sum_pos h1
    exact ⟨j, _, tally_pos h3, .inl ⟨todo_lt hj, rfl⟩⟩

/-- A wait on a cell below everything owed. -/
theorem mayWait (sm : SemLoc sig) (a b d n : ℕ) (hn : lvi (idx sm) ≤ n) (hlt : ∀ i, owedAt a b d i → n < lvi (some i)) :
    (levAts L lv : sProp 𝕄) ⊢ MayWait (c : Thread nD τ) sm () (owed c a b d) :=
  MayOwe.of_cut (L := L) (lev := lv) n (fun p hp => by rw [Finset.mem_singleton.mp hp, L_tc]; exact Finset.mem_singleton_self _)
    (fun g u hg => by obtain ⟨j, i, rfl, _⟩ := owed_pos c hg; rw [L_tc]; exact Finset.mem_singleton_self _)
    (fun p hp => by rw [Finset.mem_singleton.mp hp]; exact hn)
    (fun g u hg => by obtain ⟨j, i, rfl, h⟩ := owed_pos c hg; rw [lv_at]; exact hlt i h)

theorem owed_stage : ∀ i, owedAt 0 0 0 i → 0 < lvi (some i) := by
  rintro i (⟨_, rfl⟩ | ⟨_, j, rfl | rfl⟩ | ⟨_, j, rfl⟩)
  · decide
  all_goals (revert j; decide)
theorem owed_bar : ∀ i, owedAt 16 0 0 i → 1 < lvi (some i) := by
  rintro i (⟨h, rfl⟩ | ⟨_, j, rfl | rfl⟩ | ⟨_, j, rfl⟩)
  · exact absurd h (by decide)
  all_goals (revert j; decide)
theorem owed_recv : ∀ i, owedAt 16 16 0 i → 2 < lvi (some i) := by
  rintro i (⟨h, rfl⟩ | ⟨h, j, rfl | rfl⟩ | ⟨_, j, rfl⟩)
  · exact absurd h (by decide)
  · exact absurd h (by decide)
  · exact absurd h (by decide)
  · revert j; decide
theorem owed_end (n : ℕ) : ∀ i, owedAt 16 16 16 i → n < lvi (some i) := by
  rintro i (⟨h, rfl⟩ | ⟨h, _⟩ | ⟨h, _⟩)
  · exact absurd h (by decide)
  · exact absurd h (by decide)
  · exact absurd h (by decide)

theorem todo_none : todo c 16 = ∅ := Finset.filter_eq_empty_iff.mpr fun j _ h => absurd h.1 (Nat.not_le.mpr j.isLt)
theorem past_all : past c 16 = Finset.univ.erase c := by
  ext j; simp only [past, Finset.mem_filter, Finset.mem_univ, true_and, Finset.mem_erase, and_true]
  exact ⟨fun h => h.2, fun h => ⟨j.isLt, h⟩⟩
theorem todo_all : todo c 0 = Finset.univ.erase c := by
  ext j; simp only [todo, Finset.mem_filter, Finset.mem_univ, true_and, Finset.mem_erase, and_true, Nat.zero_le]
theorem past_none : past c 0 = ∅ := Finset.filter_eq_empty_iff.mpr fun j _ h => absurd h.1 (by omega)
theorem owed_none : owed c 16 16 16 = 0 := by unfold owed; rw [todo_none, Finset.sum_empty, Finset.sum_empty, Finset.sum_empty, add_zero, add_zero]

/-- The step of both sets at `j`. -/
theorem todo_step (j : Dev nD) (h : j ≠ c) : todo c j.val = insert j (todo c (j.val + 1)) := by
  ext i; simp only [todo, Finset.mem_filter, Finset.mem_univ, true_and, Finset.mem_insert]
  constructor
  · rintro ⟨h1, h2⟩
    rcases Nat.eq_or_lt_of_le h1 with h3 | h3
    · exact .inl (Fin.ext h3.symm)
    · exact .inr ⟨h3, h2⟩
  · rintro (rfl | ⟨h1, h2⟩)
    · exact ⟨le_refl _, h⟩
    · exact ⟨by omega, h2⟩
theorem todo_skip : todo c c.val = todo c (c.val + 1) := by
  ext i; simp only [todo, Finset.mem_filter, Finset.mem_univ, true_and]
  constructor
  · rintro ⟨h1, h2⟩
    exact ⟨by have : c.val ≠ i.val := fun e => h2 (Fin.ext e.symm)
              omega, h2⟩
  · rintro ⟨h1, h2⟩; exact ⟨by omega, h2⟩
theorem todo_not (j : Dev nD) : j ∉ todo c (j.val + 1) := fun h => absurd (Finset.mem_filter.mp h).2.1 (by omega)
theorem past_step (j : Dev nD) (h : j ≠ c) : past c (j.val + 1) = insert j (past c j.val) := by
  ext i; simp only [past, Finset.mem_filter, Finset.mem_univ, true_and, Finset.mem_insert]
  constructor
  · rintro ⟨h1, h2⟩
    rcases Nat.eq_or_lt_of_le (Nat.lt_succ_iff.mp h1) with h3 | h3
    · exact .inl (Fin.ext h3)
    · exact .inr ⟨h3, h2⟩
  · rintro (rfl | ⟨h1, h2⟩)
    · exact ⟨Nat.lt_succ_self _, h⟩
    · exact ⟨by omega, h2⟩
theorem past_skip : past c (c.val + 1) = past c c.val := by
  ext i; simp only [past, Finset.mem_filter, Finset.mem_univ, true_and]
  constructor
  · rintro ⟨h1, h2⟩
    exact ⟨by have : c.val ≠ i.val := fun e => h2 (Fin.ext e.symm)
              omega, h2⟩
  · rintro ⟨h1, h2⟩; exact ⟨by omega, h2⟩
theorem past_not (j : Dev nD) : j ∉ past c j.val := fun h => absurd (Finset.mem_filter.mp h).2.1 (by omega)

theorem sum_todo (j : Dev nD) (h : j ≠ c) (f : Dev nD → CellTallies nD τ sig Unit) :
    ∑ i ∈ todo c j.val, f i = (∑ i ∈ todo c (j.val + 1), f i) + f j := by
  rw [todo_step c j h, Finset.sum_insert (todo_not c j), add_comm]
theorem owed_a (j : Dev nD) (h : j ≠ c) (b d : ℕ) : owed c j.val b d = owed c (j.val + 1) b d + oB j := by
  unfold owed; rw [sum_todo c j h, add_assoc, add_assoc, add_assoc, add_assoc, add_comm (oB j), add_assoc]
theorem owed_b (j : Dev nD) (h : j ≠ c) (a d : ℕ) : owed c a j.val d = (owed c a (j.val + 1) d + oE c j) + oC c j := by
  unfold owed
  rw [sum_todo c j h, ← add_assoc, add_assoc _ (oC c j + oE c j), add_comm (oC c j + oE c j), ← add_assoc, add_comm (oC c j), ← add_assoc]
theorem owed_d (j : Dev nD) (h : j ≠ c) (a b : ℕ) : owed c a b j.val = owed c a b (j.val + 1) + oY c j := by
  unfold owed; rw [sum_todo c j h, add_assoc, add_assoc, add_assoc]

end Cert.KernelIdeal.Hand

end
-- ==== Proof.KernelIdealRules.lean ====
/-
One rule per effect of the kernel's body, in terms of what a piece of a buffer holds and of the schedule's cells.
-/
module

public import proofs.«01_k».proof.Proof.KernelIdealSched

@[expose] public section

set_option maxRecDepth 65536

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

abbrev 𝒱₀ : Variants := Variants.none

/-- The body's programs, and that one of them runs on device `c` to `Q`. -/
abbrev PG (F : FTy → Type) [FloatOps F] (α : Type) : Type 1 := Prog (TpuEff nD τ sig (Elt F) Λ₀ .tc) α
abbrev WP {α : Type} (c : Dev nD) (p : PG F α) (Q : α → sProp 𝕄) : sProp 𝕄 :=
  wp frame (wpE (defs₀ (F := F)) 𝒱₀ (c : Thread nD τ) none) Set.univ p Q

/-- What every device knows throughout: the invariant of every cell, that every cell has reached round 0, the levels. -/
def Gl (I : Inp F) (K : Dev nD × CI → ℕ) : sProp 𝕄 :=
  iprop(bigSep Finset.univ (fun p : Dev nD × CI => cellInv ER (Rd I) (K p) (kcell p.1 p.2))
    ∗ bigSep Finset.univ (fun p : Dev nD × CI => reached ER (kcell p.1 p.2) 0) ∗ levAts L lv)

instance Gl_persistent (I : Inp F) (K : Dev nD × CI → ℕ) : BI.Persistent (Gl I K) := by unfold Gl; infer_instance

variable (I : Inp F) (K : Dev nD × CI → ℕ) (c : Dev nD)

theorem Gl_inv (j : Dev nD) (i : CI) : Gl I K ⊢ cellInv ER (Rd I) (K (j, i)) (kcell j i) := by
  have h : bigSep Finset.univ (fun p : Dev nD × CI => cellInv ER (Rd I) (K p) (kcell p.1 p.2)) ⊢ (cellInv ER (Rd I) (K (j, i)) (kcell j i) : sProp 𝕄) :=
    bigSep_elim (Φ := fun p : Dev nD × CI => cellInv ER (Rd I) (K p) (kcell p.1 p.2)) (Finset.mem_univ (j, i))
  unfold Gl; iintro ⟨H, -, -⟩
  iapply h; iexact H
theorem Gl_reached (j : Dev nD) (i : CI) : Gl I K ⊢ reached ER (kcell j i) 0 := by
  have h : bigSep Finset.univ (fun p : Dev nD × CI => reached ER (kcell p.1 p.2) 0) ⊢ (reached ER (kcell j i) 0 : sProp 𝕄) :=
    bigSep_elim (Φ := fun p : Dev nD × CI => reached ER (kcell p.1 p.2) 0) (Finset.mem_univ (j, i))
  unfold Gl; iintro ⟨-, H, -⟩
  iapply h; iexact H
theorem Gl_lev : Gl I K ⊢ levAts L lv := by
  unfold Gl; iintro ⟨-, -, H⟩; iexact H

theorem Gl_mayWait (sm : SemLoc sig) (a b d n : ℕ) (hn : lvi (idx sm) ≤ n) (hlt : ∀ i, owedAt a b d i → n < lvi (some i)) :
    Gl I K ⊢ MayWait (c : Thread nD τ) sm () (owed c a b d) := (Gl_lev I K).trans (mayWait c sm a b d n hn hlt)

/-- What the device owes, the waits it has made forgotten. -/
def Ow (a b d : ℕ) : sProp 𝕄 := iprop(∃ W, owes (c : Thread nD τ) (owed c a b d) W)

/-! ## Loads and stores -/

section LoadStore
variable {α : Type} {sh : Shape} {e : EltTy}

/-- A load of a box of a held piece. -/
theorem own_load (m : Memref sig .tc .vmem sh e) (q : PosShare TreeShare) (X : sh.Idx → Elt F e) (off size : Fin sh.rank → ℕ)
    (inb : ∀ a, off a + size a ≤ sh.size a) (hl) (k : (((Rect.unit off size inb).shape.Idx → Elt F e)) → PG F α) (Q : α → sProp 𝕄) :
    iprop(owns (c : Thread nD τ) m q X ∗ (owns (c : Thread nD τ) m q X -∗ WP c (k (window X off size inb)) Q))
      ⊢ WP c (Prog.op (.load m (Rect.unit off size inb).toLoadRect hl) k) Q := by
  unfold owns
  iintro ⟨⟨%f, %hf, H⟩, Hk⟩
  iapply (wp_load 𝒱₀ (c : Thread nD τ) none Set.univ (m := m) (S := m.view.set) (q := q) (f := f) (m.view.setOn_subset_set _)) $$ [H]
  · iexact H
  iintro H
  rw [View.readAt_unit m.view f inb rfl inb, hf]
  iapply Hk; iexists f
  isplitr; · ipureintro; exact hf
  iexact H

/-- A store over a box of a held piece. -/
theorem own_store (m : Memref sig .tc .vmem sh e) (X : sh.Idx → Elt F e) (off size : Fin sh.rank → ℕ)
    (inb : ∀ a, off a + size a ≤ sh.size a) (w : (Rect.unit off size inb).shape.Idx → Elt F e) (h1) (h2) (k : PUnit → PG F α) (Q : α → sProp 𝕄) :
    iprop(owns (c : Thread nD τ) m fullShare X ∗ (owns (c : Thread nD τ) m fullShare (put X off size w) -∗ WP c (k ⟨⟩) Q))
      ⊢ WP c (Prog.op (.store m (Rect.unit off size inb) w Finset.univ h1 h2) k) Q := by
  unfold owns
  iintro ⟨⟨%f, %hf, H⟩, Hk⟩
  iapply (wp_store 𝒱₀ (c : Thread nD τ) none Set.univ (m := m) (r := Rect.unit off size inb) (w := w) (Mk := Finset.univ) (S := m.view.set) (f := f) (View.set_slice_subset _ _)) $$ [H]
  · iexact H
  iintro H
  iapply Hk; iexists _
  isplitr
  · ipureintro
    have := View.read_writes_cons_put m.view f inb w [] rfl
    rw [View.writes_nil, hf] at this
    exact this
  iexact H

/-- A load, through the buffer, of a box inside a held piece of it. -/
theorem own_load_sub (m : Memref sig .tc .vmem sh e) (R : Rect sh) (hR) (q : PosShare TreeShare) (Y : R.shape.Idx → Elt F e) (off size : Fin sh.rank → ℕ)
    (inb : ∀ a, off a + size a ≤ sh.size a) (hl) (g : (Rect.unit off size inb).shape.Idx → R.shape.Idx)
    (hg : ∀ i, (Rect.unit off size inb).emb i = R.emb (g i))
    (k : (((Rect.unit off size inb).shape.Idx → Elt F e)) → PG F α) (Q : α → sProp 𝕄) :
    iprop(owns (c : Thread nD τ) (m.slice R hR) q Y ∗ (owns (c : Thread nD τ) (m.slice R hR) q Y -∗ WP c (k (fun i => Y (g i))) Q))
      ⊢ WP c (Prog.op (.load m (Rect.unit off size inb).toLoadRect hl) k) Q := by
  have hS : m.view.setOn (Rect.unit off size inb).toLoadRect.set ⊆ (m.slice R hR).view.set := by
    show m.view.setOn (Rect.unit off size inb).toLoadRect.set ⊆ (m.view.slice R).set
    rw [View.set_slice]
    refine Finset.map_subset_map.mpr ?_
    intro x hx
    have hx : x ∈ (Rect.unit off size inb).set := hx
    rw [← Rect.map_emb_univ, Finset.mem_map] at hx
    obtain ⟨i, -, rfl⟩ := hx
    rw [hg i, ← Rect.map_emb_univ]; exact Finset.mem_map_of_mem _ (Finset.mem_univ _)
  unfold owns
  iintro ⟨⟨%f, %hf, H⟩, Hk⟩
  have hv : m.view.readAt (Elt F) (Rect.unit off size inb).toLoadRect f = fun i => Y (g i) := by
    rw [View.readAt_unit m.view f inb rfl inb, ← hf]
    funext i
    show m.view.read (Elt F) f ((Rect.unit off size inb).emb i) = m.view.read (Elt F) f (R.emb (g i))
    rw [hg i]
  iapply (wp_load 𝒱₀ (c : Thread nD τ) none Set.univ (m := m) (S := (m.slice R hR).view.set) (q := q) (f := f) hS) $$ [H]
  · iexact H
  iintro H
  rw [hv]
  iapply Hk; iexists f
  isplitr; · ipureintro; exact hf
  iexact H

/-- A store, through the buffer, over a held piece of it. -/
theorem own_store_sub (m : Memref sig .tc .vmem sh e) (off off' size : Fin sh.rank → ℕ)
    (inb : ∀ a, off a + size a ≤ sh.size a) (h : off = off') (inb' : ∀ a, off' a + size a ≤ sh.size a) (Y : (Rect.unit off' size inb').shape.Idx → Elt F e)
    (w : (Rect.unit off size inb).shape.Idx → Elt F e) (h1) (h2) (k : PUnit → PG F α) (Q : α → sProp 𝕄) :
    iprop(owns (c : Thread nD τ) (m.slice (Rect.unit off' size inb') (fun _ => rfl)) fullShare Y
        ∗ (owns (c : Thread nD τ) (m.slice (Rect.unit off' size inb') (fun _ => rfl)) fullShare w -∗ WP c (k ⟨⟩) Q))
      ⊢ WP c (Prog.op (.store m (Rect.unit off size inb) w Finset.univ h1 h2) k) Q := by
  subst h
  unfold owns
  iintro ⟨⟨%f, %hf, H⟩, Hk⟩
  iapply (wp_store 𝒱₀ (c : Thread nD τ) none Set.univ (m := m) (r := Rect.unit off size inb) (w := w) (Mk := Finset.univ)
    (S := (m.slice (Rect.unit off size inb) (fun _ => rfl)).view.set) (f := f) (subset_of_eq rfl)) $$ [H]
  · iexact H
  iintro H
  iapply Hk; iexists _
  isplitr
  · ipureintro; exact Memref.read_slice_write m inb rfl inb f w
  iexact H

end LoadStore

/-! ## Signals, waits and copies -/

section Protocol
variable {α : Type}

/-- The signal to device `j`. -/
theorem sig_rule (j : Dev nD) (hj : j ≠ c) (b d : ℕ) (k : PUnit → PG F α) (Q : α → sProp 𝕄) :
    iprop(Gl I K ∗ Ow c j.val b d ∗ dutyTok ER (bar j) 0 c ∗ barPay j c ∗ (Ow c (j.val + 1) b d -∗ WP c (k ⟨⟩) Q))
      ⊢ WP c (semSignalWord (j : Dev nD) barS 1#32 >>= k) Q := by
  simp only [semSignalWord, Prog.lift, Prog.bind_op, Prog.bind_ret]
  unfold Ow
  iintro ⟨#HG, ⟨%W, HO⟩, Ht, HP, Hk⟩
  ihave #HI := (Gl_inv I K j none) $$ HG
  ihave #HR := (Gl_reached I K j none) $$ HG
  have ha : (Rd I).amount (bar j) 0 c = (1#32).toNat := (amount_at I j none 0 c).trans (by decide)
  iapply (Rounds.wp_signal 𝒱₀ ER (Rd I) (c : Thread nD τ) none (dst := (j : Thread nD τ)) (κ := K (j, none))
      (d := c) (duties_bar I j c (Ne.symm hj)) ha () (owed c (j.val + 1) b d) (owed_a c j hj b d)) $$ [HO Ht HP]
  · isplitr; · iexact HI
    isplitl [HO]; · iexact HO
    isplitl [Ht]; · iexact Ht
    isplitl [HP]; · iapply (Entails.of_eq (payload_at I j none 0 c).symm); unfold payl; iexact HP
    iexact HR
  iintro HO
  iapply Hk; iexists W; iexact HO

/-- The barrier wait. -/
theorem bar_rule (k : PUnit → PG F α) (Q : α → sProp 𝕄) :
    iprop(Gl I K ∗ Ow c 16 0 0 ∗ cred (tallyAt (bar c) () 15) ∗ atPos ER (bar c) 0 ∅ 0
        ∗ (iprop(Ow c 16 0 0 ∗ atPos ER (bar c) 1 ∅ 0 ∗ bigSep (Finset.univ.erase c) (fun d => barPay c d)) -∗ WP c (k ⟨⟩) Q))
      ⊢ WP c (semWaitWord barS 15#32 >>= k) Q := by
  simp only [semWaitWord, Prog.lift, Prog.bind_op, Prog.bind_ret]
  unfold Ow
  iintro ⟨#HG, ⟨%W, HO⟩, HC, Hat, Hk⟩
  ihave #HI := (Gl_inv I K c none) $$ HG
  have he : 0 + (15#32).toNat = (Rd I).expect (bar c) 0 := by rw [expect_bar]; decide
  iapply (Rounds.wp_wait_rest_token 𝒱₀ ER (Rd I) (c : Thread nD τ) none (κ := K (c, none))
      (wpE_semWait_eq 𝒱₀ (c : Thread nD τ) none Set.univ) (Set.mem_univ _) () (O := owed c 16 0 0) (W := W) (R := 0) (m := 0) (T := ∅)
      he) $$ [HC HO Hat]
  · isplitr; · iexact HI
    isplitl [HC]; · iexact HC
    isplitl [HO]; · iexact HO
    isplitr; · iapply (Gl_mayWait I K c (.reg barS) 16 0 0 1 (by rw [show (SemLoc.reg barS : SemLoc sig) = csem none from rfl, idx_csem]; decide) owed_bar); iexact HG
    iexact Hat
  iintro ⟨HO, Hat, -, Hp⟩
  ihave Hp := (Entails.of_eq (rest_bar I c)) $$ Hp
  iapply Hk
  isplitl [HO]; · iexists _; iexact HO
  isplitl [Hat]; · iexact Hat
  iexact Hp

/-- The wait for a transfer. -/
theorem wait_rule (kk : Fin 6) (i : Fin 16) (hi : i ≠ c) (a b d n : ℕ) (hn : lvi (some (some (kk, i))) ≤ n) (hlt : ∀ i, owedAt a b d i → n < lvi (some i))
    {s1 s2 : Shape} {e1 e2 : EltTy} (sem : DmaSem sig) (hsem : sem = xsem kk i)
    (src : Memref sig .tc .vmem s1 e1) (dst : Memref sig .tc .vmem s2 e2) (hcr : dst.view.dmaCredit = Nk kk) (h1) (h2) (k : PUnit → PG F α) (Q : α → sProp 𝕄) :
    iprop(Gl I K ∗ Ow c a b d ∗ cred (tallyAt (xc kk c i) () (Nk kk)) ∗ atPos ER (xc kk c i) 0 ∅ 0
        ∗ (iprop(Ow c a b d ∗ atPos ER (xc kk c i) 1 ∅ 0 ∗ xPay I kk c i) -∗ WP c (k ⟨⟩) Q))
      ⊢ WP c (Prog.op (.waitDma2 sem src dst h1 h2) k) Q := by
  subst hsem
  unfold Ow
  iintro ⟨#HG, ⟨%W, HO⟩, HC, Hat, Hk⟩
  ihave #HI := (Gl_inv I K c (some (kk, i))) $$ HG
  have he : 0 + dst.view.dmaCredit = (Rd I).expect (xc kk c i) 0 := by rw [Nat.zero_add, expect_x I c kk i hi, hcr]
  iapply (Rounds.wp_wait_rest_token 𝒱₀ ER (Rd I) (c : Thread nD τ) none (κ := K (c, some (kk, i)))
      (wpE_waitDma2_eq 𝒱₀ (c : Thread nD τ) none Set.univ) (Set.mem_univ _) () (O := owed c a b d) (W := W) (R := 0) (m := 0) (T := ∅)
      he) $$ [HC HO Hat]
  · isplitr; · iexact HI
    isplitl [HC]; · rw [hcr]; iexact HC
    isplitl [HO]; · iexact HO
    isplitr; · iapply (Gl_mayWait I K c (.dma (xsem kk i)) a b d n (by rw [show (SemLoc.dma (xsem kk i) : SemLoc sig) = csem (some (kk, i)) from rfl, idx_csem]; exact hn) hlt); iexact HG
    iexact Hat
  iintro ⟨HO, Hat, -, Hp⟩
  ihave Hp := (Entails.of_eq (rest_x I c kk i hi)) $$ Hp
  iapply Hk
  isplitl [HO]; · iexists _; iexact HO
  isplitl [Hat]; · iexact Hat
  iexact Hp

/-- A copy to device `j`. -/
theorem send_rule (kS kR : Fin 6) (j : Dev nD) (hj : j ≠ c) (hN : Nk kS = Nk kR) (O₀ O₁ : CellTallies nD τ sig Unit)
    (hO : O₀ = O₁ + tallyAt (xc kR j c) () (Nk kR)) {s1 : Shape} {e1 : EltTy}
    (src dst : Memref sig .tc .vmem s1 e1) (q : PosShare TreeShare) (X : s1.Idx → Elt F e1) (hcr : dst.view.dmaCredit = Nk kR)
    (hp1 : xPay I kS c j = owns (c : Thread nD τ) src q X) (hp2 : xPay I kR j c = owns (j : Thread nD τ) dst fullShare X)
    (dst' : Memref sig .tc .vmem s1 e1) (hdst : dst' = dst) (n : Dev nD) (hn : n = j) (sS sR : DmaSem sig) (hs : sS = xsem kS j) (hr : sR = xsem kR c) (h0) (h1) (h2) (h3) (k : PUnit → PG F α) (Q : α → sProp 𝕄) :
    iprop(Gl I K ∗ (∃ W, owes (c : Thread nD τ) O₀ W) ∗ dutyTok ER (xc kS c j) 0 0 ∗ dutyTok ER (xc kR j c) 0 0
        ∗ owns (c : Thread nD τ) src q X ∗ any j dst
        ∗ (iprop((∃ W, owes (c : Thread nD τ) O₁ W) ∗ cred (tallyAt (xc kS c j) () (Nk kS))) -∗ WP c (k ⟨⟩) Q))
      ⊢ WP c (Prog.op (.enqueueDma src (.remote (Dev.tc n : Thread nD τ) dst' (.dma sS) h0) (.dma sR) h1 h2 h3) k) Q := by
  subst hdst hn hs hr
  unfold any owns
  iintro ⟨#HG, ⟨%W, HO⟩, Ht1, Ht2, ⟨%fs, %hfs, Hs⟩, ⟨%Y, %fd, %hfd, Hd⟩, Hk⟩
  ihave #HI1 := (Gl_inv I K c (some (kS, n))) $$ HG
  ihave #HI2 := (Gl_inv I K n (some (kR, c))) $$ HG
  ihave #HR1 := (Gl_reached I K c (some (kS, n))) $$ HG
  ihave #HR2 := (Gl_reached I K n (some (kR, c))) $$ HG
  iapply (Rounds.wp_send_pointsTo 𝒱₀ ER (Rd I) (c : Thread nD τ) none (κ₁ := K (c, some (kS, n))) (κ₂ := K (n, some (kR, c)))
    (r₁ := 0) (r₂ := 0) (d₁ := 0) (d₂ := 0) (fd := fd) (fs := fs) (q := q)
    (duties_x I c kS n hj) (duties_x I n kR c (Ne.symm hj)) () () (Nk kR) hcr
    ((amount_at I c (some (kS, n)) 0 0).trans hN) (amount_at I n (some (kR, c)) 0 0) O₁ hO (W := W)
    (by
      rw [payload_at]; refine BI.Entails.trans ?_ (Entails.of_eq hp1.symm)
      rw [← hfs]; exact owns_intro _ _ _ _)
    (by
      rw [payload_at]; refine BI.Entails.trans ?_ (Entails.of_eq hp2.symm)
      rw [hfs]
      refine (owns_intro _ _ _ _).trans (Entails.of_eq ?_)
      rw [View.read_write_univ])) $$ [HO Ht1 Ht2 Hs Hd]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨HC, HO⟩
  iapply Hk
  isplitl [HO]; · iexists W; iexact HO
  rw [hN]; iexact HC

end Protocol

end Cert.KernelIdeal.Hand

end
-- ==== Proof.KernelIdealBlocks.lean ====
/-
The body's repeated blocks, one program per kind of block with the other device as a parameter, and that the printed
parts are chains of them.
-/
module

public import proofs.«01_k».proof.Proof.KernelIdealRules

@[expose] public section

set_option maxRecDepth 65536

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

/-! ## The device's index as the kernel computes it -/

abbrev dw (c : Dev nD) : BitVec 32 := Scalar.remsi (Scalar.divsi (Dev.word c) 1#32) 16#32
abbrev jw (j : Fin 16) : BitVec 32 := BitVec.ofNat 32 j.val
abbrev cne (v w : BitVec 32) : BitVec 1 := Scalar.cmpi .ne (Scalar.extui (Scalar.cmpi .ne v w)) 0#32
abbrev ceq (v w : BitVec 32) : BitVec 1 := Scalar.cmpi .ne (Scalar.extui (Scalar.cmpi .eq v w)) 0#32

theorem cne_iff (c : Dev nD) (j : Fin 16) : cne (dw c) (jw j) = 1#1 ↔ (j : Dev nD) ≠ c := by
  revert c j; decide +kernel
theorem ceq_iff (c : Dev nD) (j : Fin 16) : ceq (dw c) (jw j) = 1#1 ↔ (j : Dev nD) = c := by
  revert c j; decide +kernel
theorem dw_toNat (c : Dev nD) : (dw c).toNat = c.val := by revert c; decide +kernel
/-- The first row of the device's own rows. -/
abbrev dr (c : Dev nD) : ℕ := (Scalar.muli (dw c) 16#32).toNat
theorem dr_eq (c : Dev nD) : dr c = 16 * c.val := by revert c; decide +kernel

theorem dsem_inb (c : Dev nD) : ∀ a, (![(dw c).toNat] : Fin 1 → ℕ) a + S1.size a ≤ S16.size a := by rw [dw_toNat]; exact sem_inb c
theorem dslotC_inb (c : Dev nD) : ∀ a, (![(dw c).toNat, 0, 0, 0] : Fin 4 → ℕ) a + S1x2x16x256.size a ≤ S16x2x16x256.size a := by
  rw [dw_toNat]; exact slotC_inb c
theorem dslotE_inb (c : Dev nD) : ∀ a, (![(dw c).toNat, 0, 0, 0] : Fin 4 → ℕ) a + S1x2x16x4.size a ≤ S16x2x16x4.size a := by
  rw [dw_toNat]; exact slotE_inb c
theorem drow_inb (c : Dev nD) : ∀ a, (![0, dr c, 0] : Fin 3 → ℕ) a + S2x16x256.size a ≤ S2x256x256.size a := by
  rw [dr_eq]; exact rowC_inb c
theorem dyb_inb (b : Fin 2) (c : Dev nD) : ∀ a, (![b.val, dr c, 0] : Fin 3 → ℕ) a + S1x16x256.size a ≤ S2x256x256.size a := by
  rw [dr_eq]; exact yb_inb b c
theorem dob_inb (b : Fin 2) (c : Dev nD) : ∀ a, (![b.val, dr c, 0] : Fin 3 → ℕ) a + S1x16x512.size a ≤ S2x256x512.size a := by
  rw [dr_eq]; exact ob_inb b c

/-! ## The pieces and semaphores as printed -/

abbrev semAt (A : DmaSems sig S16) (n : ℕ) (h : ∀ a, (![n] : Fin 1 → ℕ) a + S1.size a ≤ S16.size a) : DmaSem sig :=
  ((A.slice (Rect.unit (s := S16) ![n] S1.size h)).squeeze S_ squeezes_S1_S_).sem
abbrev gCd (c : Dev nD) : Memref sig .tc .vmem S2x16x256 .bf16 :=
  (gC.slice (Rect.unit (s := S16x2x16x256) ![(dw c).toNat, 0, 0, 0] S1x2x16x256.size (dslotC_inb c)) (fun _ => rfl)).squeeze S2x16x256 squeezes_S1x2x16x256_S2x16x256
abbrev gEd (c : Dev nD) : Memref sig .tc .vmem S2x16x4 .bf16 :=
  (gE.slice (Rect.unit (s := S16x2x16x4) ![(dw c).toNat, 0, 0, 0] S1x2x16x4.size (dslotE_inb c)) (fun _ => rfl)).squeeze S2x16x4 squeezes_S1x2x16x4_S2x16x4
abbrev yMd (c : Dev nD) : Memref sig .tc .vmem S2x16x256 .bf16 :=
  yM.slice (Rect.unit (s := S2x256x256) ![0, dr c, 0] S2x16x256.size (drow_inb c)) (fun _ => rfl)

theorem gC_at {n : ℕ} (j : Fin 16) (e : n = j.val) (h : ∀ a, (![n, 0, 0, 0] : Fin 4 → ℕ) a + S1x2x16x256.size a ≤ S16x2x16x256.size a) :
    (gC.slice (Rect.unit (s := S16x2x16x256) ![n, 0, 0, 0] S1x2x16x256.size h) (fun _ => rfl)).squeeze S2x16x256 squeezes_S1x2x16x256_S2x16x256 = gCq j := by
  subst e; rfl
theorem gE_at {n : ℕ} (j : Fin 16) (e : n = j.val) (h : ∀ a, (![n, 0, 0, 0] : Fin 4 → ℕ) a + S1x2x16x4.size a ≤ S16x2x16x4.size a) :
    (gE.slice (Rect.unit (s := S16x2x16x4) ![n, 0, 0, 0] S1x2x16x4.size h) (fun _ => rfl)).squeeze S2x16x4 squeezes_S1x2x16x4_S2x16x4 = gEq j := by
  subst e; rfl
theorem yM_at {n : ℕ} (j : Fin 16) (e : n = 16 * j.val) (h : ∀ a, (![0, n, 0] : Fin 3 → ℕ) a + S2x16x256.size a ≤ S2x256x256.size a) :
    yM.slice (Rect.unit (s := S2x256x256) ![0, n, 0] S2x16x256.size h) (fun _ => rfl) = yMr j := by
  subst e; rfl
theorem sem_at {n : ℕ} (A : DmaSems sig S16) (j : Fin 16) (e : n = j.val) (h : ∀ a, (![n] : Fin 1 → ℕ) a + S1.size a ≤ S16.size a) :
    semAt A n h = semAt A j.val (sem_inb j) := by
  subst e; rfl
theorem gCd_eq (c : Dev nD) : gCd c = gCq c := gC_at c (dw_toNat c) _
theorem gEd_eq (c : Dev nD) : gEd c = gEq c := gE_at c (dw_toNat c) _
theorem yMd_eq (c : Dev nD) : yMd c = yMr c := yM_at c (dr_eq c) _

theorem wwC (j : Fin 16) : (rowCr j).WholeWords (EltTy.packing .bf16) := by revert j; decide +kernel
theorem wwE (j : Fin 16) : (rowEr j).WholeWords (EltTy.packing .bf16) := by revert j; decide +kernel
theorem wwSC (j : Fin 16) : (slotCr j).WholeWords (EltTy.packing .bf16) := by revert j; decide +kernel
theorem wwSE (j : Fin 16) : (slotEr j).WholeWords (EltTy.packing .bf16) := by revert j; decide +kernel
theorem weC (j : Fin 16) : (aCr j).view.WordExact := (Memref.isWhole_whole _).wordExact_slice rfl _ (wwC j)
theorem weE (j : Fin 16) : (aEr j).view.WordExact := (Memref.isWhole_whole _).wordExact_slice rfl _ (wwE j)
theorem weY (j : Fin 16) : (yMr j).view.WordExact := (Memref.isWhole_whole _).wordExact_slice rfl _ (wwC j)
theorem weSC (j : Fin 16) : (gCq j).view.WordExact := ((Memref.isWhole_whole cc0_scratch2).wordExact_slice rfl _ (wwSC j)).reshape _ _
theorem weSE (j : Fin 16) : (gEq j).view.WordExact := ((Memref.isWhole_whole cc0_scratch3).wordExact_slice rfl _ (wwSE j)).reshape _ _
theorem weSCd (c : Dev nD) : (gCd c).view.WordExact := by rw [gCd_eq]; exact weSC c
theorem weSEd (c : Dev nD) : (gEd c).view.WordExact := by rw [gEd_eq]; exact weSE c
theorem weYd (c : Dev nD) : (yMd c).view.WordExact := by rw [yMd_eq]; exact weY c

/-! ## The blocks -/

section Blocks
variable {α : Type} (c : Dev nD)

/-- The blocks over a list of devices, then `k`. -/
def chain (f : Fin 16 → PG F α → PG F α) (js : List (Fin 16)) (k : PG F α) : PG F α := js.foldr f k

def sigBlk (j : Fin 16) (k : PG F α) : PG F α :=
  if h : cne (dw c) (jw j) = 1#1 then semSignalWord (j : Dev nD) barS 1#32 >>= fun _ => k else k

def sendBlk (j : Fin 16) (k : PG F α) : PG F α :=
  if h : cne (dw c) (jw j) = 1#1 then
    (Prog.lift (.enqueueDma (aCr j) (.remote (Dev.tc (j : Dev nD) : Thread nD τ) (gCd c) (.dma (semAt cc0_scratch7 j.val (sem_inb j))))
      (.dma (semAt cc0_scratch9 (dw c).toNat (dsem_inb c))) (weC j) (weSCd c) ⟨⟨rfl, Or.inl rfl⟩, trivial⟩) : PG F PUnit) >>= fun _ =>
    (Prog.lift (.enqueueDma (aEr j) (.remote (Dev.tc (j : Dev nD) : Thread nD τ) (gEd c) (.dma (semAt cc0_scratch8 j.val (sem_inb j))))
      (.dma (semAt cc0_scratch10 (dw c).toNat (dsem_inb c))) (weE j) (weSEd c) ⟨⟨rfl, Or.inl rfl⟩, trivial⟩) : PG F PUnit) >>= fun _ => k
  else k

abbrev loadTC : PG F (Vec F S2x16x256 .f32) :=
  Prog.lift (.load tC (Rect.unit (s := S2x16x256) ![0, 0, 0] S2x16x256.size inb_S2x16x256_S2x16x256_0_0_0).toLoadRect (View.loadsAt_vmem h_S2x16x256))
abbrev storeTC (w : Vec F S2x16x256 .f32) : PG F PUnit :=
  Prog.lift (.store tC (Rect.unit (s := S2x16x256) ![0, 0, 0] S2x16x256.size inb_S2x16x256_S2x16x256_0_0_0) w Finset.univ (View.stores_vmem_bits_univ h_S2x16x256 rfl) (.inl rfl))
abbrev loadTE : PG F (Vec F S2x16x4 .f32) :=
  Prog.lift (.load tE (Rect.unit (s := S2x16x4) ![0, 0, 0] S2x16x4.size inb_S2x16x4_S2x16x4_0_0_0).toLoadRect (View.loadsAt_vmem h_S2x16x4))
abbrev storeTE (w : Vec F S2x16x4 .f32) : PG F PUnit :=
  Prog.lift (.store tE (Rect.unit (s := S2x16x4) ![0, 0, 0] S2x16x4.size inb_S2x16x4_S2x16x4_0_0_0) w Finset.univ (View.stores_vmem_bits_univ h_S2x16x4 rfl) (.inl rfl))

def ownBlk (j : Fin 16) (k : PG F α) : PG F α :=
  if h : ceq (dw c) (jw j) = 1#1 then
    (Prog.lift (.load aC (rowCr j).toLoadRect (View.loadsAt_vmem h_S2x16x256)) : PG F (Vec F S2x16x256 .bf16)) >>= fun v =>
    loadTC >>= fun _ => storeTC (k0_pay57 v) >>= fun _ =>
    (Prog.lift (.load aE (rowEr j).toLoadRect (View.loadsAt_vmem h_S2x16x4)) : PG F (Vec F S2x16x4 .bf16)) >>= fun v =>
    loadTE >>= fun _ => storeTE (k0_pay58 v) >>= fun _ => k
  else k

def soBlk (j : Fin 16) (k : PG F α) : PG F α := sendBlk c j (ownBlk c j k)

def recvBlk (j : Fin 16) (k : PG F α) : PG F α :=
  if h : cne (dw c) (jw j) = 1#1 then
    (Prog.lift (.waitDma2 (semAt cc0_scratch9 j.val (sem_inb j)) (aCr 0) (gCq j) (weC 0) (weSC j)) : PG F PUnit) >>= fun _ =>
    (Prog.lift (.waitDma2 (semAt cc0_scratch10 j.val (sem_inb j)) (aEr 0) (gEq j) (weE 0) (weSE j)) : PG F PUnit) >>= fun _ =>
    loadTC >>= fun t =>
    (Prog.lift (.load gC (slotCr j).toLoadRect (View.loadsAt_vmem h_S1x2x16x256)) : PG F (Vec F S1x2x16x256 .bf16)) >>= fun v =>
    loadTC >>= fun _ => storeTC (k0_pay1 t v) >>= fun _ =>
    loadTE >>= fun t =>
    (Prog.lift (.load gE (slotEr j).toLoadRect (View.loadsAt_vmem h_S1x2x16x4)) : PG F (Vec F S1x2x16x4 .bf16)) >>= fun v =>
    loadTE >>= fun _ => storeTE (k0_pay89 t v) >>= fun _ => k
  else k

def ysendBlk (j : Fin 16) (k : PG F α) : PG F α :=
  if h : cne (dw c) (jw j) = 1#1 then
    (Prog.lift (.enqueueDma (yMd c) (.remote (Dev.tc (j : Dev nD) : Thread nD τ) (yMd c) (.dma (semAt cc0_scratch11 j.val (sem_inb j))))
      (.dma (semAt cc0_scratch12 (dw c).toNat (dsem_inb c))) (weYd c) (weYd c) ⟨⟨rfl, Or.inl rfl⟩, trivial⟩) : PG F PUnit) >>= fun _ => k
  else k

/-- One batch entry's result rows of device `j`. -/
abbrev outStep (wo : FVec F S256x512 .f32) (off off' : Fin 3 → ℕ) (h : ∀ a, off a + S1x16x256.size a ≤ S2x256x256.size a)
    (h' : ∀ a, off' a + S1x16x512.size a ≤ S2x256x512.size a) (k : PG F α) : PG F α :=
    (Prog.lift (.load yM (Rect.unit (s := S2x256x256) off S1x16x256.size h).toLoadRect (View.loadsAt_vmem h_S1x16x256)) : PG F (Vec F S1x16x256 .bf16)) >>= fun v =>
    (Prog.lift (.load oM (Rect.unit (s := S2x256x512) off' S1x16x512.size h').toLoadRect (View.loadsAt_vmem h_S1x16x512)) : PG F (Vec F S1x16x512 .f32)) >>= fun _ =>
    (Prog.lift (.store oM (Rect.unit (s := S2x256x512) off' S1x16x512.size h') (k0_pay110 wo v) Finset.univ (View.stores_vmem_bits_univ h_S1x16x512 rfl) (.inl rfl)) : PG F PUnit) >>= fun _ => k

def yrecvBlk (wo : FVec F S256x512 .f32) (j : Fin 16) (k : PG F α) : PG F α :=
  if h : cne (dw c) (jw j) = 1#1 then
    (Prog.lift (.waitDma2 (semAt cc0_scratch12 j.val (sem_inb j)) (yMr j) (yMr j) (weY j) (weY j)) : PG F PUnit) >>= fun _ =>
    outStep wo ![0, 16 * j.val, 0] ![0, 16 * j.val, 0] (yb_inb 0 j) (ob_inb 0 j)
      (outStep wo ![1, 16 * j.val, 0] ![1, 16 * j.val, 0] (yb_inb 1 j) (ob_inb 1 j) k)
  else k

def swaitBlk (j : Fin 16) (k : PG F α) : PG F α :=
  if h : cne (dw c) (jw j) = 1#1 then
    (Prog.lift (.waitDma2 (semAt cc0_scratch7 j.val (sem_inb j)) (gCq j) (aCr 0) (weSC j) (weC 0)) : PG F PUnit) >>= fun _ =>
    (Prog.lift (.waitDma2 (semAt cc0_scratch8 j.val (sem_inb j)) (gEq j) (aEr 0) (weSE j) (weE 0)) : PG F PUnit) >>= fun _ =>
    (Prog.lift (.waitDma2 (semAt cc0_scratch11 j.val (sem_inb j)) (yMr 0) (yMr 0) (weY 0) (weY 0)) : PG F PUnit) >>= fun _ => k
  else k

/-- Two programs that begin with the same effect. -/
theorem op_congr {β : Type} (e : PG F β) {k k' : β → PG F α} (h : ∀ v, k v = k' v) : e >>= k = e >>= k' := congrArg _ (funext h)

end Blocks

end Cert.KernelIdeal.Hand

end
-- ==== Proof.KernelIdealBlockRules.lean ====
/-
One rule per kind of block: what the block of one other device takes and gives, and from it what a chain of blocks does.
-/
module

public import proofs.«01_k».proof.Proof.KernelIdealBlocks

@[expose] public section

set_option maxRecDepth 65536

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

/-! ## Boxes of a value -/

section Box
variable {A : Type} {s : Shape}

theorem put_in (x : s.Idx → A) (off size : Fin s.rank → ℕ) (w : ((a : Fin s.rank) → Fin (size a)) → A) (z : s.Idx)
    (l : (a : Fin s.rank) → Fin (size a)) (h : ∀ a, (z a).val = off a + (l a).val) : put x off size w z = w l := by
  unfold put
  rw [dif_pos fun a => ⟨by rw [h a]; exact Nat.le_add_right _ _, by rw [h a]; exact Nat.add_lt_add_left (l a).isLt _⟩]
  refine congrArg w (funext fun a => Fin.ext ?_)
  show (z a).val - off a = (l a).val
  rw [h a]; omega
theorem put_out (x : s.Idx → A) (off size : Fin s.rank → ℕ) (w : ((a : Fin s.rank) → Fin (size a)) → A) (z : s.Idx)
    (a : Fin s.rank) (h : (z a).val < off a ∨ off a + size a ≤ (z a).val) : put x off size w z = x z := by
  unfold put
  rw [dif_neg fun hn => by have := hn a; omega]

end Box

/-! ## Whole loads and stores, and a receive slot under both its shapes -/

section Full
variable {α : Type} {sh : Shape} {e : EltTy} (c : Dev nD)

theorem own_load_full (m : Memref sig .tc .vmem sh e) (q : PosShare TreeShare) (X : sh.Idx → Elt F e) (off : Fin sh.rank → ℕ)
    (inb : ∀ a, off a + sh.size a ≤ sh.size a) (hl) (k : (((Rect.unit off sh.size inb).shape.Idx → Elt F e)) → PG F α) (Q : α → sProp 𝕄) :
    iprop(owns (c : Thread nD τ) m q X ∗ (owns (c : Thread nD τ) m q X -∗ WP c (k X) Q))
      ⊢ WP c (Prog.op (.load m (Rect.unit off sh.size inb).toLoadRect hl) k) Q := by
  have h := own_load c m q X off sh.size inb hl k Q
  rw [show (window X off sh.size inb) = X from funext fun z => congrArg X (Rect.emb_unit_full inb z)] at h
  exact h

theorem own_store_full (m : Memref sig .tc .vmem sh e) (off : Fin sh.rank → ℕ)
    (inb : ∀ a, off a + sh.size a ≤ sh.size a) (w : (Rect.unit off sh.size inb).shape.Idx → Elt F e) (h1) (h2) (k : PUnit → PG F α) (Q : α → sProp 𝕄) :
    iprop(any c m ∗ (owns (c : Thread nD τ) m fullShare w -∗ WP c (k ⟨⟩) Q))
      ⊢ WP c (Prog.op (.store m (Rect.unit off sh.size inb) w Finset.univ h1 h2) k) Q := by
  unfold any
  iintro ⟨⟨%X, H⟩, Hk⟩
  iapply (own_store c m X off sh.size inb w h1 h2 k Q)
  isplitl [H]; · iexact H
  have e : put X off sh.size w = w := funext fun z => put_in X off sh.size w z z fun a => by have := inb a; omega
  rw [e]
  iexact Hk

theorem own_any {sp : Space} (m : Memref sig .tc sp sh e) (X : sh.Idx → Elt F e) : (owns (c : Thread nD τ) m fullShare X : sProp 𝕄) ⊢ any c m := by
  unfold any; iintro H; iexists X; iexact H

theorem squeeze_to (m : Memref sig .tc .vmem sh e) {s' : Shape} (h : sh.Squeezes s') (q : PosShare TreeShare) (W : s'.Idx → Elt F e) :
    (owns (c : Thread nD τ) (m.squeeze s' h) q W : sProp 𝕄) ⊢ owns (c : Thread nD τ) m q (fun y => W ((Shape.reshapeEquiv h.numel_eq).symm y)) := by
  unfold owns
  iintro ⟨%f, %hf, H⟩
  iexists f
  isplitr
  · ipureintro
    funext y
    rw [← hf]
    show m.view.read (Elt F) f y = m.view.read (Elt F) f (Shape.reshapeEquiv h.numel_eq ((Shape.reshapeEquiv h.numel_eq).symm y))
    rw [Equiv.apply_symm_apply]
  · rw [show (m.squeeze s' h).view.set = m.view.set from View.set_reshape m.view h.numel_eq]
    iexact H

theorem squeeze_of (m : Memref sig .tc .vmem sh e) {s' : Shape} (h : sh.Squeezes s') (q : PosShare TreeShare) (W : sh.Idx → Elt F e) :
    (owns (c : Thread nD τ) m q W : sProp 𝕄) ⊢ owns (c : Thread nD τ) (m.squeeze s' h) q (fun y => W (Shape.reshapeEquiv h.numel_eq y)) := by
  unfold owns
  iintro ⟨%f, %hf, H⟩
  iexists f
  isplitr
  · ipureintro
    funext y
    rw [← hf]
    rfl
  · rw [show (m.squeeze s' h).view.set = m.view.set from View.set_reshape m.view h.numel_eq]
    iexact H

end Full

/-! ## Chains -/

section Chain
variable {α : Type} (I : Inp F) (K : Dev nD × CI → ℕ) (c : Dev nD)

/-- A chain of blocks, from what one block does at another device and at the device itself: `Pre` of each device not yet
    met becomes `Post`, and `R` moves on by one. -/
theorem phase_rule (f : Fin 16 → PG F α → PG F α) (Pre Post : Dev nD → sProp 𝕄) (R : ℕ → sProp 𝕄)
    (hne : ∀ (j : Dev nD) (k : PG F α) (Q : α → sProp 𝕄), j ≠ c →
      iprop(Gl I K ∗ Pre j ∗ R j.val ∗ (iprop(Post j ∗ R (j.val + 1)) -∗ WP c k Q)) ⊢ WP c (f j k) Q)
    (heq : ∀ (k : PG F α) (Q : α → sProp 𝕄), iprop(Gl I K ∗ R c.val ∗ (R (c.val + 1) -∗ WP c k Q)) ⊢ WP c (f c k) Q) :
    ∀ (js : List (Fin 16)) (a : ℕ) (h : js.map Fin.val = List.range' a js.length) (k : PG F α) (Q : α → sProp 𝕄),
      iprop(Gl I K ∗ bigSep (todo c a) Pre ∗ bigSep (past c a) Post ∗ R a
          ∗ (iprop(bigSep (todo c (a + js.length)) Pre ∗ bigSep (past c (a + js.length)) Post ∗ R (a + js.length)) -∗ WP c k Q))
        ⊢ WP c (chain f js k) Q
  | [], a, h, k, Q => by
    show iprop(_ ∗ _ ∗ _ ∗ _ ∗ (iprop(bigSep (todo c a) Pre ∗ bigSep (past c a) Post ∗ R a) -∗ WP c k Q)) ⊢ WP c k Q
    iintro ⟨-, HA, HB, HR, Hk⟩
    iapply Hk
    isplitl [HA]; · iexact HA
    isplitl [HB]; · iexact HB
    iexact HR
  | j :: js, a, h, k, Q => by
    have hc : (j :: js).map Fin.val = a :: List.range' (a + 1) js.length := h
    rw [List.map_cons] at hc
    have hj : j.val = a := (List.cons.inj hc).1
    have ht : js.map Fin.val = List.range' (a + 1) js.length := (List.cons.inj hc).2
    subst hj
    have ih := phase_rule f Pre Post R hne heq js (j.val + 1) ht k Q
    have el : j.val + (j :: js).length = j.val + 1 + js.length := by rw [List.length_cons]; omega
    rw [el]
    show _ ⊢ WP c (f j (chain f js k)) Q
    by_cases hjc : j = c
    · subst hjc
      rw [todo_skip j, ← past_skip j]
      iintro ⟨#HG, HA, HB, HR, Hk⟩
      iapply (heq (chain f js k) Q)
      isplitr; · iexact HG
      isplitl [HR]; · iexact HR
      iintro HR
      iapply ih
      isplitr; · iexact HG
      isplitl [HA]; · iexact HA
      isplitl [HB]; · iexact HB
      isplitl [HR]; · iexact HR
      iexact Hk
    · have hA : bigSep (todo c j.val) Pre = iprop(Pre j ∗ bigSep (todo c (j.val + 1)) Pre) := by
        rw [todo_step c j hjc]; exact bigSep_insert (todo_not c j)
      have hB : bigSep (past c (j.val + 1)) Post = iprop(Post j ∗ bigSep (past c j.val) Post) := by
        rw [past_step c j hjc]; exact bigSep_insert (past_not c j)
      rw [hA]
      iintro ⟨#HG, ⟨Hj, HA⟩, HB, HR, Hk⟩
      iapply (hne j (chain f js k) Q hjc)
      isplitr; · iexact HG
      isplitl [Hj]; · iexact Hj
      isplitl [HR]; · iexact HR
      iintro ⟨Hj, HR⟩
      iapply ih
      isplitr; · iexact HG
      isplitl [HA]; · iexact HA
      isplitl [HB Hj]
      · rw [hB]
        isplitl [Hj]; · iexact Hj
        iexact HB
      isplitl [HR]; · iexact HR
      iexact Hk

end Chain

/-! ## The blocks' rules -/

section Rules
variable {α : Type} (I : Inp F) (K : Dev nD × CI → ℕ) (c : Dev nD)

theorem Ow_a (b d : ℕ) : Ow (F := F) c c.val b d = Ow c (c.val + 1) b d := by unfold Ow owed; rw [todo_skip c]
theorem Ow_b (a d : ℕ) : Ow (F := F) c a c.val d = Ow c a (c.val + 1) d := by unfold Ow owed; rw [todo_skip c]
theorem Ow_d (a b : ℕ) : Ow (F := F) c a b c.val = Ow c a b (c.val + 1) := by unfold Ow owed; rw [todo_skip c]

/-- Signals. -/
def sigPre (j : Dev nD) : sProp 𝕄 := iprop(dutyTok ER (bar j) 0 c ∗ barPay j c)
def nil (j : Dev nD) : sProp 𝕄 := iprop(emp)
def sigR (n : ℕ) : sProp 𝕄 := Ow c n 0 0

theorem sig_ne (j : Dev nD) (k : PG F α) (Q : α → sProp 𝕄) (hj : j ≠ c) :
    iprop(Gl I K ∗ sigPre c j ∗ sigR c j.val ∗ (iprop(nil j ∗ sigR c (j.val + 1)) -∗ WP c k Q)) ⊢ WP c (sigBlk c j k) Q := by
  unfold sigBlk sigPre sigR nil
  rw [dif_pos ((cne_iff c j).mpr hj)]
  iintro ⟨HG, ⟨Ht, HP⟩, HO, Hk⟩
  iapply (sig_rule I K c j hj 0 0 (fun _ => k) Q)
  isplitl [HG]; · iexact HG
  isplitl [HO]; · iexact HO
  isplitl [Ht]; · iexact Ht
  isplitl [HP]; · iexact HP
  iintro HO
  iapply Hk
  isplitr; · iempintro
  iexact HO
theorem sig_eq (k : PG F α) (Q : α → sProp 𝕄) :
    iprop(Gl I K ∗ sigR c c.val ∗ (sigR c (c.val + 1) -∗ WP c k Q)) ⊢ WP c (sigBlk c c k) Q := by
  unfold sigBlk sigR
  rw [dif_neg fun h => (cne_iff c c).mp h rfl, Ow_a]
  iintro ⟨-, HO, Hk⟩
  iapply Hk; iexact HO

/-- Sends of the partial sums, and the device's own. -/
def soPre (j : Dev nD) : sProp 𝕄 :=
  iprop((dutyTok ER (xc 0 c j) 0 0 ∗ dutyTok ER (xc 2 j c) 0 0 ∗ dutyTok ER (xc 1 c j) 0 0 ∗ dutyTok ER (xc 3 j c) 0 0)
    ∗ owns (c : Thread nD τ) (aCr j) fullShare (I.ctxSlab c j) ∗ owns (c : Thread nD τ) (aEr j) fullShare (I.denSlab c j) ∗ any j (gCq c) ∗ any j (gEq c))
def soPost (j : Dev nD) : sProp 𝕄 := iprop(cred (tallyAt (xc 0 c j) () (Nk 0)) ∗ cred (tallyAt (xc 1 c j) () (Nk 1)))
def soR (n : ℕ) : sProp 𝕄 :=
  iprop(Ow c 16 n 0 ∗ (owns (c : Thread nD τ) (aCr c) fullShare (I.ctxSlab c c) ∗ owns (c : Thread nD τ) (aEr c) fullShare (I.denSlab c c))
    ∗ (if n ≤ c.val then iprop(any c tC ∗ any c tE) else iprop(owns (c : Thread nD τ) tC fullShare (I.accC c 0) ∗ owns (c : Thread nD τ) tE fullShare (I.accE c 0))))

theorem so_ne (j : Dev nD) (k : PG F α) (Q : α → sProp 𝕄) (hj : j ≠ c) :
    iprop(Gl I K ∗ soPre I c j ∗ soR I c j.val ∗ (iprop(soPost c j ∗ soR I c (j.val + 1)) -∗ WP c k Q)) ⊢ WP c (soBlk c j k) Q := by
  have hif : (j.val + 1 ≤ c.val) = (j.val ≤ c.val) := propext ⟨fun h => by omega, fun h => by
    have : j.val ≠ c.val := fun e => hj (Fin.ext e)
    omega⟩
  unfold soBlk sendBlk ownBlk soPre soPost soR
  rw [dif_pos ((cne_iff c j).mpr hj), dif_neg fun h => hj ((ceq_iff c j).mp h)]
  simp only [Prog.lift, Prog.bind_op, Prog.bind_ret, hif]
  unfold Ow
  iintro ⟨#HG, ⟨⟨T0, T2, T1, T3⟩, HC, HE, HgC, HgE⟩, ⟨HO, HR⟩, Hk⟩
  iapply (send_rule I K c 0 2 j hj rfl (owed c 16 j.val 0) (owed c 16 (j.val + 1) 0 + oE c j) (owed_b c j hj 16 0) (aCr j) (gCq c) fullShare (I.ctxSlab c j)
    rfl rfl rfl (gCd c) (gCd_eq c) j rfl (semAt cc0_scratch7 j.val (sem_inb j)) (semAt cc0_scratch9 (dw c).toNat (dsem_inb c)) (sem_s1C j _)
    ((sem_at cc0_scratch9 c (dw_toNat c) _).trans (sem_r1C c _)) _ _ _ _ _ Q)
  isplitr; · iexact HG
  isplitl [HO]; · iexact HO
  isplitl [T0]; · iexact T0
  isplitl [T2]; · iexact T2
  isplitl [HC]; · iexact HC
  isplitl [HgC]; · iexact HgC
  iintro ⟨HO, C0⟩
  iapply (send_rule I K c 1 3 j hj rfl (owed c 16 (j.val + 1) 0 + oE c j) (owed c 16 (j.val + 1) 0) rfl (aEr j) (gEq c) fullShare (I.denSlab c j)
    rfl rfl rfl (gEd c) (gEd_eq c) j rfl (semAt cc0_scratch8 j.val (sem_inb j)) (semAt cc0_scratch10 (dw c).toNat (dsem_inb c)) (sem_s1E j _)
    ((sem_at cc0_scratch10 c (dw_toNat c) _).trans (sem_r1E c _)) _ _ _ _ _ Q)
  isplitr; · iexact HG
  isplitl [HO]; · iexact HO
  isplitl [T1]; · iexact T1
  isplitl [T3]; · iexact T3
  isplitl [HE]; · iexact HE
  isplitl [HgE]; · iexact HgE
  iintro ⟨HO, C1⟩
  iapply Hk
  isplitl [C0 C1]
  · isplitl [C0]; · iexact C0
    iexact C1
  isplitl [HO]; · iexact HO
  iexact HR

theorem so_eq (k : PG F α) (Q : α → sProp 𝕄) :
    iprop(Gl I K ∗ soR I c c.val ∗ (soR I c (c.val + 1) -∗ WP c k Q)) ⊢ WP c (soBlk c c k) Q := by
  unfold soBlk sendBlk ownBlk soR
  rw [dif_neg fun h => (cne_iff c c).mp h rfl, dif_pos ((ceq_iff c c).mpr rfl), Ow_b, if_pos (Nat.le_refl _), if_neg (by omega : ¬ c.val + 1 ≤ c.val)]
  simp only [Prog.lift, Prog.bind_op, Prog.bind_ret]
  iintro ⟨-, ⟨HO, ⟨HC, HE⟩, HtC, HtE⟩, Hk⟩
  iapply (own_load_sub c aC (rowCr c) (fun _ => rfl) fullShare (I.ctxSlab c c) ![0, 16 * c.val, 0] S2x16x256.size (rowC_inb c) _ (fun i => i) (fun _ => rfl) _ Q)
  isplitl [HC]; · iexact HC
  iintro HC
  unfold any
  icases HtC with ⟨%X, HtC⟩
  iapply (own_load_full c tC fullShare X _ _ _ _ Q)
  isplitl [HtC]; · iexact HtC
  iintro HtC
  iapply (own_store_full c tC _ _ _ _ _ _ Q)
  isplitl [HtC]; · iapply (own_any c tC X); iexact HtC
  iintro HtC
  iapply (own_load_sub c aE (rowEr c) (fun _ => rfl) fullShare (I.denSlab c c) ![0, 16 * c.val, 0] S2x16x4.size (rowE_inb c) _ (fun i => i) (fun _ => rfl) _ Q)
  isplitl [HE]; · iexact HE
  iintro HE
  icases HtE with ⟨%Y, HtE⟩
  iapply (own_load_full c tE fullShare Y _ _ _ _ Q)
  isplitl [HtE]; · iexact HtE
  iintro HtE
  iapply (own_store_full c tE _ _ _ _ _ _ Q)
  isplitl [HtE]; · iapply (own_any c tE Y); iexact HtE
  iintro HtE
  iapply Hk
  isplitl [HO]; · iexact HO
  isplitl [HC HE]
  · isplitl [HC]; · iexact HC
    iexact HE
  isplitl [HtC]; · iexact HtC
  iexact HtE

end Rules

end Cert.KernelIdeal.Hand

end
-- ==== Proof.KernelIdealBlockRules2.lean ====
/-
The rules of the blocks that receive, gather and put out rows, and that wait for the copies sent.
-/
module

public import proofs.«01_k».proof.Proof.KernelIdealBlockRules

@[expose] public section

set_option maxRecDepth 65536

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

section Rules
variable {α : Type} (I : Inp F) (K : Dev nD × CI → ℕ) (c : Dev nD)

theorem nk_gC (i : Fin 16) : (gCq i).view.dmaCredit = Nk 2 := cred_gC i

/-- Receiving the partial sums. -/
def rcPre (j : Dev nD) : sProp 𝕄 :=
  iprop((cred (tallyAt (xc 2 c j) () (Nk 2)) ∗ cred (tallyAt (xc 3 c j) () (Nk 3))) ∗ atPos ER (xc 2 c j) 0 ∅ 0 ∗ atPos ER (xc 3 c j) 0 ∅ 0)
def rcPost (j : Dev nD) : sProp 𝕄 :=
  iprop((atPos ER (xc 2 c j) 1 ∅ 0 ∗ atPos ER (xc 3 c j) 1 ∅ 0) ∗ any c (gCq j) ∗ any c (gEq j))
def rcR (n : ℕ) : sProp 𝕄 :=
  iprop(Ow c 16 16 0 ∗ owns (c : Thread nD τ) tC fullShare (I.accC c n) ∗ owns (c : Thread nD τ) tE fullShare (I.accE c n))

theorem accC_ne (j : Dev nD) (hj : j ≠ c) : I.accC c (j.val + 1) = k0_pay1 (I.accC c j.val) (Inp.unsqC (I.ctxSlab j c)) := by
  show (if h : j.val < 16 ∧ j.val ≠ c.val then _ else _) = _
  rw [dif_pos ⟨j.isLt, fun e => hj (Fin.ext e)⟩]
theorem accC_eq : I.accC c (c.val + 1) = I.accC c c.val := by
  show (if h : c.val < 16 ∧ c.val ≠ c.val then _ else _) = _
  rw [dif_neg fun h => h.2 rfl]
theorem accE_ne (j : Dev nD) (hj : j ≠ c) : I.accE c (j.val + 1) = k0_pay89 (I.accE c j.val) (Inp.unsqE (I.denSlab j c)) := by
  show (if h : j.val < 16 ∧ j.val ≠ c.val then _ else _) = _
  rw [dif_pos ⟨j.isLt, fun e => hj (Fin.ext e)⟩]
theorem accE_eq : I.accE c (c.val + 1) = I.accE c c.val := by
  show (if h : c.val < 16 ∧ c.val ≠ c.val then _ else _) = _
  rw [dif_neg fun h => h.2 rfl]

theorem rc_ne (j : Dev nD) (k : PG F α) (Q : α → sProp 𝕄) (hj : j ≠ c) :
    iprop(Gl I K ∗ rcPre c j ∗ rcR I c j.val ∗ (iprop(rcPost c j ∗ rcR I c (j.val + 1)) -∗ WP c k Q)) ⊢ WP c (recvBlk c j k) Q := by
  unfold recvBlk rcPre rcPost rcR
  rw [dif_pos ((cne_iff c j).mpr hj), accC_ne I c j hj, accE_ne I c j hj]
  simp only [Prog.lift, Prog.bind_op, Prog.bind_ret]
  iintro ⟨#HG, ⟨⟨C2, C3⟩, A2, A3⟩, ⟨HO, HtC, HtE⟩, Hk⟩
  iapply (wait_rule I K c 2 j hj 16 16 0 2 (Nat.le_refl _) owed_recv (semAt cc0_scratch9 j.val (sem_inb j)) (sem_r1C j _) (aCr 0) (gCq j) rfl _ _ _ Q)
  isplitr; · iexact HG
  isplitl [HO]; · iexact HO
  isplitl [C2]; · iexact C2
  isplitl [A2]; · iexact A2
  iintro ⟨HO, A2, HC⟩
  ihave HC := (Entails.of_eq (show xPay I 2 c j = owns (c : Thread nD τ) (gCq j) fullShare (I.ctxSlab j c) from rfl)) $$ HC
  iapply (wait_rule I K c 3 j hj 16 16 0 2 (Nat.le_refl _) owed_recv (semAt cc0_scratch10 j.val (sem_inb j)) (sem_r1E j _) (aEr 0) (gEq j) rfl _ _ _ Q)
  isplitr; · iexact HG
  isplitl [HO]; · iexact HO
  isplitl [C3]; · iexact C3
  isplitl [A3]; · iexact A3
  iintro ⟨HO, A3, HE⟩
  ihave HE := (Entails.of_eq (show xPay I 3 c j = owns (c : Thread nD τ) (gEq j) fullShare (I.denSlab j c) from rfl)) $$ HE
  ihave HC := (squeeze_to c (gCs j) squeezes_S1x2x16x256_S2x16x256 fullShare (I.ctxSlab j c)) $$ HC
  ihave HE := (squeeze_to c (gEs j) squeezes_S1x2x16x4_S2x16x4 fullShare (I.denSlab j c)) $$ HE
  iapply (own_load_full c tC fullShare (I.accC c j.val) _ _ _ _ Q)
  isplitl [HtC]; · iexact HtC
  iintro HtC
  iapply (own_load_sub c gC (slotCr j) (fun _ => rfl) fullShare (Inp.unsqC (I.ctxSlab j c)) ![j.val, 0, 0, 0] S1x2x16x256.size (slotC_inb j) _ (fun i => i) (fun _ => rfl) _ Q)
  isplitl [HC]; · iexact HC
  iintro HC
  iapply (own_load_full c tC fullShare (I.accC c j.val) _ _ _ _ Q)
  isplitl [HtC]; · iexact HtC
  iintro HtC
  iapply (own_store_full c tC _ _ _ _ _ _ Q)
  isplitl [HtC]; · iapply (own_any c tC (I.accC c j.val)); iexact HtC
  iintro HtC
  iapply (own_load_full c tE fullShare (I.accE c j.val) _ _ _ _ Q)
  isplitl [HtE]; · iexact HtE
  iintro HtE
  iapply (own_load_sub c gE (slotEr j) (fun _ => rfl) fullShare (Inp.unsqE (I.denSlab j c)) ![j.val, 0, 0, 0] S1x2x16x4.size (slotE_inb j) _ (fun i => i) (fun _ => rfl) _ Q)
  isplitl [HE]; · iexact HE
  iintro HE
  iapply (own_load_full c tE fullShare (I.accE c j.val) _ _ _ _ Q)
  isplitl [HtE]; · iexact HtE
  iintro HtE
  iapply (own_store_full c tE _ _ _ _ _ _ Q)
  isplitl [HtE]; · iapply (own_any c tE (I.accE c j.val)); iexact HtE
  iintro HtE
  iapply Hk
  isplitl [A2 A3 HC HE]
  · isplitl [A2 A3]
    · isplitl [A2]; · iexact A2
      iexact A3
    isplitl [HC]
    · iapply (own_any c (gCq j) _); iapply (squeeze_of c (gCs j) squeezes_S1x2x16x256_S2x16x256 fullShare _); iexact HC
    · iapply (own_any c (gEq j) _); iapply (squeeze_of c (gEs j) squeezes_S1x2x16x4_S2x16x4 fullShare _); iexact HE
  isplitl [HO]; · iexact HO
  isplitl [HtC]; · iexact HtC
  iexact HtE

theorem rc_eq (k : PG F α) (Q : α → sProp 𝕄) :
    iprop(Gl I K ∗ rcR I c c.val ∗ (rcR I c (c.val + 1) -∗ WP c k Q)) ⊢ WP c (recvBlk c c k) Q := by
  unfold recvBlk rcR
  rw [dif_neg fun h => (cne_iff c c).mp h rfl, accC_eq, accE_eq]
  iintro ⟨-, HO, Hk⟩
  iapply Hk; iexact HO

/-- Sends of the finished rows. -/
def ysPre (j : Dev nD) : sProp 𝕄 :=
  iprop((dutyTok ER (xc 4 c j) 0 0 ∗ dutyTok ER (xc 5 j c) 0 0) ∗ owns (c : Thread nD τ) (yMr c) (ySh j) (I.y c) ∗ any j (yMr c))
def ysPost (j : Dev nD) : sProp 𝕄 := cred (tallyAt (xc 4 c j) () (Nk 4))
def ysR (n : ℕ) : sProp 𝕄 := Ow c 16 16 n

theorem ys_ne (j : Dev nD) (k : PG F α) (Q : α → sProp 𝕄) (hj : j ≠ c) :
    iprop(Gl I K ∗ ysPre I c j ∗ ysR c j.val ∗ (iprop(ysPost c j ∗ ysR c (j.val + 1)) -∗ WP c k Q)) ⊢ WP c (ysendBlk c j k) Q := by
  unfold ysendBlk ysPre ysPost ysR
  rw [dif_pos ((cne_iff c j).mpr hj)]
  simp only [Prog.lift, Prog.bind_op, Prog.bind_ret]
  unfold Ow
  have e := yMd_eq c
  iintro ⟨#HG, ⟨⟨T4, T5⟩, HY, Hy⟩, HO, Hk⟩
  iapply (send_rule I K c 4 5 j hj rfl (owed c 16 16 j.val) (owed c 16 16 (j.val + 1)) (owed_d c j hj 16 16) (yMd c) (yMr c) (ySh j) (I.y c)
    rfl (by rw [e]; rfl) rfl (yMd c) (yMd_eq c) j rfl (semAt cc0_scratch11 j.val (sem_inb j)) (semAt cc0_scratch12 (dw c).toNat (dsem_inb c)) (sem_s2 j _)
    ((sem_at cc0_scratch12 c (dw_toNat c) _).trans (sem_r2 c _)) _ _ _ _ _ Q)
  isplitr; · iexact HG
  isplitl [HO]; · iexact HO
  isplitl [T4]; · iexact T4
  isplitl [T5]; · iexact T5
  isplitl [HY]; · rw [e]; iexact HY
  isplitl [Hy]; · iexact Hy
  iintro ⟨HO, C⟩
  iapply Hk
  isplitl [C]; · iexact C
  iexact HO
theorem ys_eq (k : PG F α) (Q : α → sProp 𝕄) :
    iprop(Gl I K ∗ ysR c c.val ∗ (ysR c (c.val + 1) -∗ WP c k Q)) ⊢ WP c (ysendBlk c c k) Q := by
  unfold ysendBlk ysR
  rw [dif_neg fun h => (cne_iff c c).mp h rfl, Ow_d]
  iintro ⟨-, HO, Hk⟩
  iapply Hk; iexact HO

/-- A batch entry's result rows from device `j`'s finished rows. -/
theorem out_step (j : Dev nD) (b : Fin 2) (q : PosShare TreeShare) (X : S2x256x512.Idx → Elt F .f32) (n : ℕ) (e : n = 16 * j.val) (h) (h')
    (k : PG F α) (Q : α → sProp 𝕄) :
    iprop(owns (c : Thread nD τ) (yMr j) q (I.y j) ∗ owns (c : Thread nD τ) oM fullShare X
        ∗ (iprop(owns (c : Thread nD τ) (yMr j) q (I.y j)
            ∗ owns (c : Thread nD τ) oM fullShare (put X ![b.val, 16 * j.val, 0] S1x16x512.size (I.outBox c j b))) -∗ WP c k Q))
      ⊢ WP c (outStep (k0_pay106 (I.wo c)) ![b.val, n, 0] ![b.val, n, 0] h h' k) Q := by
  subst e
  unfold outStep
  simp only [Prog.lift, Prog.bind_op, Prog.bind_ret]
  iintro ⟨HY, HX, Hk⟩
  iapply (own_load_sub c yM (rowCr j) (fun _ => rfl) q (I.y j) ![b.val, 16 * j.val, 0] S1x16x256.size h _
    (fun i => (Rect.unit (s := S2x16x256) ![b.val, 0, 0] S1x16x256.size (yb0_inb b)).emb i)
    (fun i => funext fun a => Fin.ext (by
      fin_cases a
      · show b.val + 1 * (i 0).val = 0 + 1 * (b.val + 1 * (i 0).val); omega
      · show 16 * j.val + 1 * (i 1).val = 16 * j.val + 1 * (0 + 1 * (i 1).val); omega
      · show 0 + 1 * (i 2).val = 0 + 1 * (0 + 1 * (i 2).val); omega)) _ Q)
  isplitl [HY]; · iexact HY
  iintro HY
  iapply (own_load c oM fullShare X _ _ _ _ _ Q)
  isplitl [HX]; · iexact HX
  iintro HX
  iapply (own_store c oM X _ _ _ _ _ _ _ Q)
  isplitl [HX]; · iexact HX
  iintro HX
  iapply Hk
  isplitl [HY]; · iexact HY
  iexact HX

/-- The result once the rows of the devices below `n`, and of the device itself, are in. -/
def outOk (n : ℕ) (X : S2x256x512.Idx → Elt F .f32) : Prop := ∀ z, (z 1).val / 16 = c.val ∨ (z 1).val / 16 < n → X z = I.out c z

theorem put_rows (j : Dev nD) (X : S2x256x512.Idx → Elt F .f32) (z : S2x256x512.Idx) :
    put (put X ![(0 : Fin 2).val, 16 * j.val, 0] S1x16x512.size (I.outBox c j 0)) ![(1 : Fin 2).val, 16 * j.val, 0] S1x16x512.size (I.outBox c j 1) z
      = if (z 1).val / 16 = j.val then I.out c z else X z := by
  have hj : j.val < 16 := j.isLt
  have h1 : (z 1).val < 256 := (z 1).isLt
  by_cases hz : (z 1).val / 16 = j.val
  · rw [if_pos hz]
    have hd : Inp.rowDev (z 1).val (z 1).isLt = j := Fin.ext hz
    unfold Inp.out
    rw [hd]
    have h0 : (z 0).val < 2 := (z 0).isLt
    rcases (by omega : (z 0).val = 0 ∨ (z 0).val = 1) with e0 | e0
    · have e0' : z 0 = (0 : Fin 2) := Fin.ext e0
      rw [put_out _ _ _ _ z 0 (Or.inl (by rw [e0]; exact Nat.one_pos)), e0']
      refine put_in _ _ _ _ z _ fun a => ?_
      fin_cases a
      · exact e0
      · show (z 1).val = 16 * j.val + (z 1).val % 16; omega
      · show (z 2).val = 0 + (z 2).val; omega
    · have e0' : z 0 = (1 : Fin 2) := Fin.ext e0
      rw [e0']
      refine put_in _ _ _ _ z _ fun a => ?_
      fin_cases a
      · exact e0
      · show (z 1).val = 16 * j.val + (z 1).val % 16; omega
      · show (z 2).val = 0 + (z 2).val; omega
  · rw [if_neg hz]
    have ho : (z 1).val < 16 * j.val ∨ 16 * j.val + 16 ≤ (z 1).val := by omega
    rw [put_out _ _ _ _ z 1 ho, put_out _ _ _ _ z 1 ho]

theorem outOk_ne (j : Dev nD) (X : S2x256x512.Idx → Elt F .f32) (h : outOk I c j.val X) :
    outOk I c (j.val + 1) (put (put X ![(0 : Fin 2).val, 16 * j.val, 0] S1x16x512.size (I.outBox c j 0)) ![(1 : Fin 2).val, 16 * j.val, 0] S1x16x512.size (I.outBox c j 1)) := by
  intro z hz
  rw [put_rows]
  split
  · rfl
  · exact h z (by omega)
theorem outOk_own (X : S2x256x512.Idx → Elt F .f32) :
    outOk I c 0 (put (put X ![(0 : Fin 2).val, 16 * c.val, 0] S1x16x512.size (I.outBox c c 0)) ![(1 : Fin 2).val, 16 * c.val, 0] S1x16x512.size (I.outBox c c 1)) := by
  intro z hz
  rw [put_rows, if_pos (by omega)]

/-- Receiving the finished rows. -/
def yrPre (j : Dev nD) : sProp 𝕄 := iprop(cred (tallyAt (xc 5 c j) () (Nk 5)) ∗ atPos ER (xc 5 c j) 0 ∅ 0)
def yrPost (j : Dev nD) : sProp 𝕄 := iprop(atPos ER (xc 5 c j) 1 ∅ 0 ∗ any c (yMr j))
def yrR (n : ℕ) : sProp 𝕄 := iprop(Ow c 16 16 16 ∗ ∃ X, owns (c : Thread nD τ) oM fullShare X ∗ ⌜outOk I c n X⌝)

theorem yr_ne (j : Dev nD) (k : PG F α) (Q : α → sProp 𝕄) (hj : j ≠ c) :
    iprop(Gl I K ∗ yrPre c j ∗ yrR I c j.val ∗ (iprop(yrPost c j ∗ yrR I c (j.val + 1)) -∗ WP c k Q))
      ⊢ WP c (yrecvBlk c (k0_pay106 (I.wo c)) j k) Q := by
  unfold yrecvBlk yrPre yrPost yrR
  rw [dif_pos ((cne_iff c j).mpr hj)]
  simp only [Prog.lift, Prog.bind_op, Prog.bind_ret]
  iintro ⟨#HG, ⟨C, A⟩, ⟨HO, %X, HX, %hX⟩, Hk⟩
  iapply (wait_rule I K c 5 j hj 16 16 16 3 (Nat.le_refl _) (owed_end 3) (semAt cc0_scratch12 j.val (sem_inb j)) (sem_r2 j _) (yMr j) (yMr j) rfl _ _ _ Q)
  isplitr; · iexact HG
  isplitl [HO]; · iexact HO
  isplitl [C]; · iexact C
  isplitl [A]; · iexact A
  iintro ⟨HO, A, HY⟩
  ihave HY := (Entails.of_eq (show xPay I 5 c j = owns (c : Thread nD τ) (yMr j) fullShare (I.y j) from rfl)) $$ HY
  iapply (out_step I c j 0 fullShare X (16 * j.val) rfl _ _ _ Q)
  isplitl [HY]; · iexact HY
  isplitl [HX]; · iexact HX
  iintro ⟨HY, HX⟩
  iapply (out_step I c j 1 fullShare _ (16 * j.val) rfl _ _ _ Q)
  isplitl [HY]; · iexact HY
  isplitl [HX]; · iexact HX
  iintro ⟨HY, HX⟩
  iapply Hk
  isplitl [A HY]
  · isplitl [A]; · iexact A
    iapply (own_any c (yMr j) (I.y j)); iexact HY
  isplitl [HO]; · iexact HO
  iexists _
  isplitl [HX]; · iexact HX
  ipureintro; exact outOk_ne I c j X hX
theorem yr_eq (k : PG F α) (Q : α → sProp 𝕄) :
    iprop(Gl I K ∗ yrR I c c.val ∗ (yrR I c (c.val + 1) -∗ WP c k Q)) ⊢ WP c (yrecvBlk c (k0_pay106 (I.wo c)) c k) Q := by
  unfold yrecvBlk yrR
  rw [dif_neg fun h => (cne_iff c c).mp h rfl]
  iintro ⟨-, ⟨HO, %X, HX, %hX⟩, Hk⟩
  iapply Hk
  isplitl [HO]; · iexact HO
  iexists X
  isplitl [HX]; · iexact HX
  ipureintro
  exact fun z hz => hX z (by omega)

/-- Waiting for the copies sent. -/
def swPre (j : Dev nD) : sProp 𝕄 :=
  iprop((cred (tallyAt (xc 0 c j) () (Nk 0)) ∗ cred (tallyAt (xc 1 c j) () (Nk 1)) ∗ cred (tallyAt (xc 4 c j) () (Nk 4)))
    ∗ atPos ER (xc 0 c j) 0 ∅ 0 ∗ atPos ER (xc 1 c j) 0 ∅ 0 ∗ atPos ER (xc 4 c j) 0 ∅ 0)
def swPost (j : Dev nD) : sProp 𝕄 :=
  iprop((atPos ER (xc 0 c j) 1 ∅ 0 ∗ atPos ER (xc 1 c j) 1 ∅ 0 ∗ atPos ER (xc 4 c j) 1 ∅ 0)
    ∗ any c (aCr j) ∗ any c (aEr j) ∗ owns (c : Thread nD τ) (yMr c) (ySh j) (I.y c))
def swR (n : ℕ) : sProp 𝕄 := Ow c 16 16 16

theorem sw_ne (j : Dev nD) (k : PG F α) (Q : α → sProp 𝕄) (hj : j ≠ c) :
    iprop(Gl I K ∗ swPre c j ∗ swR c j.val ∗ (iprop(swPost I c j ∗ swR c (j.val + 1)) -∗ WP c k Q)) ⊢ WP c (swaitBlk c j k) Q := by
  unfold swaitBlk swPre swPost swR
  rw [dif_pos ((cne_iff c j).mpr hj)]
  simp only [Prog.lift, Prog.bind_op, Prog.bind_ret]
  iintro ⟨#HG, ⟨⟨C0, C1, C4⟩, A0, A1, A4⟩, HO, Hk⟩
  iapply (wait_rule I K c 0 j hj 16 16 16 0 (Nat.le_refl _) (owed_end 0) (semAt cc0_scratch7 j.val (sem_inb j)) (sem_s1C j _) (gCq j) (aCr 0) rfl _ _ _ Q)
  isplitr; · iexact HG
  isplitl [HO]; · iexact HO
  isplitl [C0]; · iexact C0
  isplitl [A0]; · iexact A0
  iintro ⟨HO, A0, HC⟩
  ihave HC := (Entails.of_eq (show xPay I 0 c j = owns (c : Thread nD τ) (aCr j) fullShare (I.ctxSlab c j) from rfl)) $$ HC
  iapply (wait_rule I K c 1 j hj 16 16 16 0 (Nat.le_refl _) (owed_end 0) (semAt cc0_scratch8 j.val (sem_inb j)) (sem_s1E j _) (gEq j) (aEr 0) rfl _ _ _ Q)
  isplitr; · iexact HG
  isplitl [HO]; · iexact HO
  isplitl [C1]; · iexact C1
  isplitl [A1]; · iexact A1
  iintro ⟨HO, A1, HE⟩
  ihave HE := (Entails.of_eq (show xPay I 1 c j = owns (c : Thread nD τ) (aEr j) fullShare (I.denSlab c j) from rfl)) $$ HE
  iapply (wait_rule I K c 4 j hj 16 16 16 0 (Nat.le_refl _) (owed_end 0) (semAt cc0_scratch11 j.val (sem_inb j)) (sem_s2 j _) (yMr 0) (yMr 0) rfl _ _ _ Q)
  isplitr; · iexact HG
  isplitl [HO]; · iexact HO
  isplitl [C4]; · iexact C4
  isplitl [A4]; · iexact A4
  iintro ⟨HO, A4, HY⟩
  ihave HY := (Entails.of_eq (show xPay I 4 c j = owns (c : Thread nD τ) (yMr c) (ySh j) (I.y c) from rfl)) $$ HY
  iapply Hk
  isplitr [HO]
  · isplitl [A0 A1 A4]
    · isplitl [A0]; · iexact A0
      isplitl [A1]; · iexact A1
      iexact A4
    isplitl [HC]; · iapply (own_any c (aCr j) (I.ctxSlab c j)); iexact HC
    isplitl [HE]; · iapply (own_any c (aEr j) (I.denSlab c j)); iexact HE
    iexact HY
  iexact HO
theorem sw_eq (k : PG F α) (Q : α → sProp 𝕄) :
    iprop(Gl I K ∗ swR c c.val ∗ (swR c (c.val + 1) -∗ WP c k Q)) ⊢ WP c (swaitBlk c c k) Q := by
  unfold swaitBlk swR
  rw [dif_neg fun h => (cne_iff c c).mp h rfl]
  iintro ⟨-, HO, Hk⟩
  iapply Hk; iexact HO

end Rules

end Cert.KernelIdeal.Hand

end
-- ==== Proof.KernelIdealParts.lean ====
/-
The printed parts are chains of the body's blocks.
-/
module

public import proofs.«01_k».proof.Proof.KernelIdealBlocks

@[expose] public section

set_option maxRecDepth 65536

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

section Parts
variable {α : Type} (c : Dev nD)

theorem part17_eq : (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 : PG F _)
      = (Prog.lift .deviceId : PG F (Dev nD)) >>= fun c => chain (sigBlk c) [0, 1, 2, 3, 4, 5, 6, 7] (pure ⟨c, dw c, SemArray.scalar (sig.barrier 0 rfl)⟩) := by
  refine Eq.trans (b := (Prog.lift .deviceId : PG F (Dev nD)) >>= fun c => _) rfl (congrArg _ (funext fun c => ?_))
  refine Eq.trans (b := sigBlk c 0 _) rfl (congrArg (sigBlk c 0) ?_)
  refine Eq.trans (b := sigBlk c 1 _) rfl (congrArg (sigBlk c 1) ?_)
  refine Eq.trans (b := sigBlk c 2 _) rfl (congrArg (sigBlk c 2) ?_)
  refine Eq.trans (b := sigBlk c 3 _) rfl (congrArg (sigBlk c 3) ?_)
  refine Eq.trans (b := sigBlk c 4 _) rfl (congrArg (sigBlk c 4) ?_)
  refine Eq.trans (b := sigBlk c 5 _) rfl (congrArg (sigBlk c 5) ?_)
  refine Eq.trans (b := sigBlk c 6 _) rfl (congrArg (sigBlk c 6) ?_)
  refine Eq.trans (b := sigBlk c 7 _) rfl (congrArg (sigBlk c 7) ?_)
  rfl

theorem part18_eq : (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 c (dw c) (SemArray.scalar (sig.barrier 0 rfl)) : PG F _)
      = chain (sigBlk c) [8, 9, 10, 11, 12, 13, 14, 15] (semWaitWord barS 15#32 >>= fun _ => (Prog.lift (.load wqM (Rect.unit (s := S512x256) ![0, 0] S512x256.size inb_S512x256_S512x256_0_0).toLoadRect (View.loadsAt_vmem h_S512x256)) : PG F (Vec F S512x256 .f32)) >>= fun v => pure ⟨k0_pay17 v, iota .tc S256x256 32 [0] iota_S256x256_d0_w32, 64#32, k0_pay18, k0_pay19, 0#32⟩) := by
  refine Eq.trans (b := sigBlk c 8 _) rfl (congrArg (sigBlk c 8) ?_)
  refine Eq.trans (b := sigBlk c 9 _) rfl (congrArg (sigBlk c 9) ?_)
  refine Eq.trans (b := sigBlk c 10 _) rfl (congrArg (sigBlk c 10) ?_)
  refine Eq.trans (b := sigBlk c 11 _) rfl (congrArg (sigBlk c 11) ?_)
  refine Eq.trans (b := sigBlk c 12 _) rfl (congrArg (sigBlk c 12) ?_)
  refine Eq.trans (b := sigBlk c 13 _) rfl (congrArg (sigBlk c 13) ?_)
  refine Eq.trans (b := sigBlk c 14 _) rfl (congrArg (sigBlk c 14) ?_)
  refine Eq.trans (b := sigBlk c 15 _) rfl (congrArg (sigBlk c 15) ?_)
  rfl

theorem part26_eq : (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 c (dw c) (Scalar.extui (Scalar.cmpi .ne (dw c) 4#32)) : PG F _)
      = chain (soBlk c) [4, 5, 6, 7, 8] (pure (Scalar.extui (Scalar.cmpi .ne (dw c) 9#32))) := by
  refine Eq.trans (b := sendBlk c 4 _) rfl (congrArg (sendBlk c 4) ?_)
  refine Eq.trans (b := ownBlk c 4 _) rfl (congrArg (ownBlk c 4) ?_)
  refine Eq.trans (b := sendBlk c 5 _) rfl (congrArg (sendBlk c 5) ?_)
  refine Eq.trans (b := ownBlk c 5 _) rfl (congrArg (ownBlk c 5) ?_)
  refine Eq.trans (b := sendBlk c 6 _) rfl (congrArg (sendBlk c 6) ?_)
  refine Eq.trans (b := ownBlk c 6 _) rfl (congrArg (ownBlk c 6) ?_)
  refine Eq.trans (b := sendBlk c 7 _) rfl (congrArg (sendBlk c 7) ?_)
  refine Eq.trans (b := ownBlk c 7 _) rfl (congrArg (ownBlk c 7) ?_)
  refine Eq.trans (b := sendBlk c 8 _) rfl (congrArg (sendBlk c 8) ?_)
  refine Eq.trans (b := ownBlk c 8 _) rfl (congrArg (ownBlk c 8) ?_)
  rfl

theorem part27_eq : (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 c (dw c) (Scalar.extui (Scalar.cmpi .ne (dw c) 9#32)) : PG F _)
      = chain (soBlk c) [9, 10, 11, 12, 13] (pure (Scalar.extui (Scalar.cmpi .ne (dw c) 14#32))) := by
  refine Eq.trans (b := sendBlk c 9 _) rfl (congrArg (sendBlk c 9) ?_)
  refine Eq.trans (b := ownBlk c 9 _) rfl (congrArg (ownBlk c 9) ?_)
  refine Eq.trans (b := sendBlk c 10 _) rfl (congrArg (sendBlk c 10) ?_)
  refine Eq.trans (b := ownBlk c 10 _) rfl (congrArg (ownBlk c 10) ?_)
  refine Eq.trans (b := sendBlk c 11 _) rfl (congrArg (sendBlk c 11) ?_)
  refine Eq.trans (b := ownBlk c 11 _) rfl (congrArg (ownBlk c 11) ?_)
  refine Eq.trans (b := sendBlk c 12 _) rfl (congrArg (sendBlk c 12) ?_)
  refine Eq.trans (b := ownBlk c 12 _) rfl (congrArg (ownBlk c 12) ?_)
  refine Eq.trans (b := sendBlk c 13 _) rfl (congrArg (sendBlk c 13) ?_)
  refine Eq.trans (b := ownBlk c 13 _) rfl (congrArg (ownBlk c 13) ?_)
  rfl

theorem part28_eq : (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 c (dw c) (Scalar.extui (Scalar.cmpi .ne (dw c) 14#32)) : PG F _)
      = chain (soBlk c) [14, 15] (chain (recvBlk c) [0, 1, 2, 3, 4, 5] (pure (Scalar.extui (Scalar.cmpi .ne (dw c) 6#32)))) := by
  refine Eq.trans (b := sendBlk c 14 _) rfl (congrArg (sendBlk c 14) ?_)
  refine Eq.trans (b := ownBlk c 14 _) rfl (congrArg (ownBlk c 14) ?_)
  refine Eq.trans (b := sendBlk c 15 _) rfl (congrArg (sendBlk c 15) ?_)
  refine Eq.trans (b := ownBlk c 15 _) rfl (congrArg (ownBlk c 15) ?_)
  refine Eq.trans (b := recvBlk c 0 _) rfl (congrArg (recvBlk c 0) ?_)
  refine Eq.trans (b := recvBlk c 1 _) rfl (congrArg (recvBlk c 1) ?_)
  refine Eq.trans (b := recvBlk c 2 _) rfl (congrArg (recvBlk c 2) ?_)
  refine Eq.trans (b := recvBlk c 3 _) rfl (congrArg (recvBlk c 3) ?_)
  refine Eq.trans (b := recvBlk c 4 _) rfl (congrArg (recvBlk c 4) ?_)
  refine Eq.trans (b := recvBlk c 5 _) rfl (congrArg (recvBlk c 5) ?_)
  rfl

theorem part29_eq : (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 (dw c) (Scalar.extui (Scalar.cmpi .ne (dw c) 6#32)) : PG F _)
      = chain (recvBlk c) [6, 7, 8, 9, 10, 11, 12, 13, 14, 15] (pure ⟨⟩) := by
  refine Eq.trans (b := recvBlk c 6 _) rfl (congrArg (recvBlk c 6) ?_)
  refine Eq.trans (b := recvBlk c 7 _) rfl (congrArg (recvBlk c 7) ?_)
  refine Eq.trans (b := recvBlk c 8 _) rfl (congrArg (recvBlk c 8) ?_)
  refine Eq.trans (b := recvBlk c 9 _) rfl (congrArg (recvBlk c 9) ?_)
  refine Eq.trans (b := recvBlk c 10 _) rfl (congrArg (recvBlk c 10) ?_)
  refine Eq.trans (b := recvBlk c 11 _) rfl (congrArg (recvBlk c 11) ?_)
  refine Eq.trans (b := recvBlk c 12 _) rfl (congrArg (recvBlk c 12) ?_)
  refine Eq.trans (b := recvBlk c 13 _) rfl (congrArg (recvBlk c 13) ?_)
  refine Eq.trans (b := recvBlk c 14 _) rfl (congrArg (recvBlk c 14) ?_)
  refine Eq.trans (b := recvBlk c 15 _) rfl (congrArg (recvBlk c 15) ?_)
  rfl

theorem part25_eq (v280 v281 v282 v283 : FVec F S256x1 .f32) : (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 c (dw c) v280 v281 v282 v283 : PG F _)
      = (Prog.lift (.load aE (Rect.unit (s := S2x256x4) ![1, 0, 0] S1x256x4.size inb_S2x256x4_S1x256x4_1_0_0).toLoadRect (View.loadsAt_vmem h_S1x256x4)) : PG F (Vec F S1x256x4 .bf16)) >>= fun _ => (Prog.lift (.store aE (Rect.unit (s := S2x256x4) ![1, 0, 0] S1x256x4.size inb_S2x256x4_S1x256x4_1_0_0) (k0_pay56 v280 v281 v282 v283) Finset.univ (View.stores_vmem h_S1x256x4 ((Memref.isWhole_whole cc0_scratch1).storeExact_slice rfl _ packedbf16_S2x256x4_S1x256x4_1_0_0) (fun _ => rfl)) (.inl rfl)) : PG F PUnit) >>= fun _ => chain (soBlk c) [0, 1, 2, 3] (pure (Scalar.extui (Scalar.cmpi .ne (dw c) 4#32))) := by
  rw [k0_part25_eq_skeleton]; unfold k0_part25_skel
  refine op_congr _ (fun _ => ?_)
  refine op_congr _ (fun _ => ?_)
  refine Eq.trans (b := sendBlk c 0 _) rfl (congrArg (sendBlk c 0) ?_)
  refine Eq.trans (b := ownBlk c 0 _) rfl (congrArg (ownBlk c 0) ?_)
  refine Eq.trans (b := sendBlk c 1 _) rfl (congrArg (sendBlk c 1) ?_)
  refine Eq.trans (b := ownBlk c 1 _) rfl (congrArg (ownBlk c 1) ?_)
  refine Eq.trans (b := sendBlk c 2 _) rfl (congrArg (sendBlk c 2) ?_)
  refine Eq.trans (b := ownBlk c 2 _) rfl (congrArg (ownBlk c 2) ?_)
  refine Eq.trans (b := sendBlk c 3 _) rfl (congrArg (sendBlk c 3) ?_)
  refine Eq.trans (b := ownBlk c 3 _) rfl (congrArg (ownBlk c 3) ?_)
  rfl

theorem part30_eq : (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 c (dw c) : PG F _)
      = loadTC >>= fun t => loadTE >>= fun e => (Prog.lift (.load yM (Rect.unit (s := S2x256x256) ![0, dr c, 0] S2x16x256.size (drow_inb c)).toLoadRect (View.loadsAt_vmem h_S2x16x256)) : PG F (Vec F S2x16x256 .bf16)) >>= fun _ => (Prog.lift (.store yM (Rect.unit (s := S2x256x256) ![0, dr c, 0] S2x16x256.size (drow_inb c)) (k0_pay105 t e) Finset.univ (View.stores_vmem h_S2x16x256 ((Memref.isWhole_whole cc0_scratch6).storeExact_slice rfl _ (k0_off49_packedbf16 c)) (fun _ => rfl)) (.inl rfl)) : PG F PUnit) >>= fun _ => chain (ysendBlk c) [0, 1, 2, 3, 4, 5] (pure ⟨(Scalar.extui (Scalar.cmpi .ne (dw c) 6#32)), 0#32⟩) := by
  rw [k0_part30_eq_skeleton]; unfold k0_part30_skel
  refine op_congr _ (fun _ => ?_)
  refine op_congr _ (fun _ => ?_)
  refine op_congr _ (fun _ => ?_)
  refine op_congr _ (fun _ => ?_)
  refine Eq.trans (b := ysendBlk c 0 _) rfl (congrArg (ysendBlk c 0) ?_)
  refine Eq.trans (b := ysendBlk c 1 _) rfl (congrArg (ysendBlk c 1) ?_)
  refine Eq.trans (b := ysendBlk c 2 _) rfl (congrArg (ysendBlk c 2) ?_)
  refine Eq.trans (b := ysendBlk c 3 _) rfl (congrArg (ysendBlk c 3) ?_)
  refine Eq.trans (b := ysendBlk c 4 _) rfl (congrArg (ysendBlk c 4) ?_)
  refine Eq.trans (b := ysendBlk c 5 _) rfl (congrArg (ysendBlk c 5) ?_)
  rfl

theorem part31_eq (v465 c0 : BitVec 32) : (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 c (dw c) v465 c0 : PG F _)
      = chain (ysendBlk c) [6, 7, 8, 9, 10, 11, 12, 13, 14, 15] ((Prog.lift (.load woM (Rect.unit (s := S256x512) ![0, 0] S256x512.size inb_S256x512_S256x512_0_0).toLoadRect (View.loadsAt_vmem h_S256x512)) : PG F (Vec F S256x512 .f32)) >>= fun v => pure (k0_pay106 v)) := by
  refine Eq.trans (b := ysendBlk c 6 _) rfl (congrArg (ysendBlk c 6) ?_)
  refine Eq.trans (b := ysendBlk c 7 _) rfl (congrArg (ysendBlk c 7) ?_)
  refine Eq.trans (b := ysendBlk c 8 _) rfl (congrArg (ysendBlk c 8) ?_)
  refine Eq.trans (b := ysendBlk c 9 _) rfl (congrArg (ysendBlk c 9) ?_)
  refine Eq.trans (b := ysendBlk c 10 _) rfl (congrArg (ysendBlk c 10) ?_)
  refine Eq.trans (b := ysendBlk c 11 _) rfl (congrArg (ysendBlk c 11) ?_)
  refine Eq.trans (b := ysendBlk c 12 _) rfl (congrArg (ysendBlk c 12) ?_)
  refine Eq.trans (b := ysendBlk c 13 _) rfl (congrArg (ysendBlk c 13) ?_)
  refine Eq.trans (b := ysendBlk c 14 _) rfl (congrArg (ysendBlk c 14) ?_)
  refine Eq.trans (b := ysendBlk c 15 _) rfl (congrArg (ysendBlk c 15) ?_)
  rfl

theorem part32_eq (wo : FVec F S256x512 .f32) : (k0_part32 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 c (dw c) wo : PG F _)
      = outStep wo ![0, dr c, 0] ![0, dr c, 0] (dyb_inb 0 c) (dob_inb 0 c) (outStep wo ![1, dr c, 0] ![1, dr c, 0] (dyb_inb 1 c) (dob_inb 1 c) (chain (yrecvBlk c wo) [0, 1, 2] (pure ⟨k0_pay107 wo, (cne (dw c) 3#32)⟩))) := by
  rw [k0_part32_eq_skeleton]; unfold k0_part32_skel
  refine op_congr _ (fun _ => ?_)
  refine op_congr _ (fun _ => ?_)
  refine op_congr _ (fun _ => ?_)
  refine op_congr _ (fun _ => ?_)
  refine op_congr _ (fun _ => ?_)
  refine op_congr _ (fun _ => ?_)
  refine Eq.trans (b := yrecvBlk c wo 0 _) rfl (congrArg (yrecvBlk c wo 0) ?_)
  refine Eq.trans (b := yrecvBlk c wo 1 _) rfl (congrArg (yrecvBlk c wo 1) ?_)
  refine Eq.trans (b := yrecvBlk c wo 2 _) rfl (congrArg (yrecvBlk c wo 2) ?_)
  rfl

theorem part33_eq (wo : FVec F S256x512 .f32) : (k0_part33 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 (dw c) (k0_pay107 wo) (cne (dw c) 3#32) : PG F _)
      = chain (yrecvBlk c wo) [3, 4, 5, 6, 7, 8, 9, 10, 11, 12] (pure (cne (dw c) 13#32)) := by
  refine Eq.trans (b := yrecvBlk c wo 3 _) rfl (congrArg (yrecvBlk c wo 3) ?_)
  refine Eq.trans (b := yrecvBlk c wo 4 _) rfl (congrArg (yrecvBlk c wo 4) ?_)
  refine Eq.trans (b := yrecvBlk c wo 5 _) rfl (congrArg (yrecvBlk c wo 5) ?_)
  refine Eq.trans (b := yrecvBlk c wo 6 _) rfl (congrArg (yrecvBlk c wo 6) ?_)
  refine Eq.trans (b := yrecvBlk c wo 7 _) rfl (congrArg (yrecvBlk c wo 7) ?_)
  refine Eq.trans (b := yrecvBlk c wo 8 _) rfl (congrArg (yrecvBlk c wo 8) ?_)
  refine Eq.trans (b := yrecvBlk c wo 9 _) rfl (congrArg (yrecvBlk c wo 9) ?_)
  refine Eq.trans (b := yrecvBlk c wo 10 _) rfl (congrArg (yrecvBlk c wo 10) ?_)
  refine Eq.trans (b := yrecvBlk c wo 11 _) rfl (congrArg (yrecvBlk c wo 11) ?_)
  refine Eq.trans (b := yrecvBlk c wo 12 _) rfl (congrArg (yrecvBlk c wo 12) ?_)
  rfl

theorem part34_eq (wo : FVec F S256x512 .f32) : (k0_part34 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 (dw c) (k0_pay107 wo) (cne (dw c) 13#32) : PG F _)
      = chain (yrecvBlk c wo) [13, 14, 15] (chain (swaitBlk c) [0, 1, 2, 3, 4, 5, 6] (pure (cne (dw c) 7#32))) := by
  refine Eq.trans (b := yrecvBlk c wo 13 _) rfl (congrArg (yrecvBlk c wo 13) ?_)
  refine Eq.trans (b := yrecvBlk c wo 14 _) rfl (congrArg (yrecvBlk c wo 14) ?_)
  refine Eq.trans (b := yrecvBlk c wo 15 _) rfl (congrArg (yrecvBlk c wo 15) ?_)
  refine Eq.trans (b := swaitBlk c 0 _) rfl (congrArg (swaitBlk c 0) ?_)
  refine Eq.trans (b := swaitBlk c 1 _) rfl (congrArg (swaitBlk c 1) ?_)
  refine Eq.trans (b := swaitBlk c 2 _) rfl (congrArg (swaitBlk c 2) ?_)
  refine Eq.trans (b := swaitBlk c 3 _) rfl (congrArg (swaitBlk c 3) ?_)
  refine Eq.trans (b := swaitBlk c 4 _) rfl (congrArg (swaitBlk c 4) ?_)
  refine Eq.trans (b := swaitBlk c 5 _) rfl (congrArg (swaitBlk c 5) ?_)
  refine Eq.trans (b := swaitBlk c 6 _) rfl (congrArg (swaitBlk c 6) ?_)
  rfl

end Parts

end Cert.KernelIdeal.Hand

end
-- ==== Proof.KernelIdealCompute.lean ====
/-
The partial sums: what the loads, the arithmetic and the stores before the first copies leave in the two partial-sum buffers.
-/
module

public import proofs.«01_k».proof.Proof.KernelIdealBlockRules2
public import proofs.«01_k».proof.Proof.KernelIdealParts

@[expose] public section

set_option maxRecDepth 65536

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

section Compute
variable (I : Inp F) (c : Dev nD)

theorem done {α : Type} (v w : α) (e : v = w) (Q : α → sProp 𝕄) : Q w ⊢ WP c (pure v) Q := by
  subst e
  show _ ⊢ wp _ _ _ (pure v) Q
  rw [wp_pure]; iintro H; imodintro; iexact H

/-- The first `n` boxes of the partial numerators (batch entry, then head) are in; -/
def ctxOk (n : ℕ) (X : S2x256x256.Idx → Elt F .bf16) : Prop := ∀ y, 4 * (y 0).val + (y 2).val / 64 < n → X y = I.ctx c y
/-- the first `n` boxes of the partial denominators are in. -/
def denOk (n : ℕ) (X : S2x256x4.Idx → Elt F .bf16) : Prop := ∀ y, (y 0).val < n → X y = I.den c y

def cR (n : ℕ) : sProp 𝕄 := iprop(∃ X, owns (c : Thread nD τ) aC fullShare X ∗ ⌜ctxOk I c n X⌝)
def eR (n : ℕ) : sProp 𝕄 := iprop(∃ X, owns (c : Thread nD τ) aE fullShare X ∗ ⌜denOk I c n X⌝)

theorem ctxOk_put (b : Fin 2) (h : Fin 4) (X : S2x256x256.Idx → Elt F .bf16) (hX : ctxOk I c (4 * b.val + h.val) X) :
    ctxOk I c (4 * b.val + h.val + 1) (put X ![b.val, 0, 64 * h.val] S1x256x64.size (I.ctxBox c b h)) := by
  intro y hy
  have hh := h.isLt
  have hb := b.isLt
  have h0 : (y 0).val < 2 := (y 0).isLt
  have h2 : (y 2).val < 256 := (y 2).isLt
  by_cases hlt : 4 * (y 0).val + (y 2).val / 64 < 4 * b.val + h.val
  · rw [← hX y hlt]
    by_cases e0 : (y 0).val = b.val
    · refine put_out _ _ _ _ y 2 (Or.inl ?_)
      show (y 2).val < 64 * h.val
      omega
    · refine put_out _ _ _ _ y 0 (Or.inl ?_)
      show (y 0).val < b.val
      omega
  · have e0' : (y 0).val = b.val := by omega
    have e2' : (y 2).val / 64 = h.val := by omega
    have e0 : y 0 = b := Fin.ext e0'
    have e2 : (⟨(y 2).val / 64, by omega⟩ : Fin 4) = h := Fin.ext e2'
    unfold Inp.ctx
    rw [e0, e2]
    refine put_in _ _ _ _ y _ fun a => ?_
    fin_cases a
    · exact congrArg Fin.val e0
    · show (y 1).val = 0 + (y 1).val; omega
    · show (y 2).val = 64 * h.val + (y 2).val % 64; omega

theorem denOk_put (b : Fin 2) (X : S2x256x4.Idx → Elt F .bf16) (hX : denOk I c b.val X) :
    denOk I c (b.val + 1) (put X ![b.val, 0, 0] S1x256x4.size (I.denBox c b)) := by
  intro y hy
  by_cases hlt : (y 0).val < b.val
  · rw [← hX y hlt]
    exact put_out _ _ _ _ y 0 (Or.inl hlt)
  · have e0 : y 0 = b := Fin.ext (by omega)
    unfold Inp.den
    rw [e0]
    refine put_in _ _ _ _ y _ fun a => ?_
    fin_cases a
    · exact congrArg Fin.val e0
    · show (y 1).val = 0 + (y 1).val; omega
    · show (y 2).val = 0 + (y 2).val; omega

/-- A box of the partial numerators: the load whose result is not used, then the store. -/
theorem ctx_step {α : Type} (b : Fin 2) (h : Fin 4) (inb : ∀ a, (![b.val, 0, 64 * h.val] : Fin 3 → ℕ) a + S1x256x64.size a ≤ S2x256x256.size a)
    (w : FVec F S1x256x64 .bf16) (ew : w = I.ctxBox c b h) (hl) (h1) (h2) (k : PUnit → PG F α) (Q : α → sProp 𝕄) :
    iprop(cR I c (4 * b.val + h.val) ∗ (cR I c (4 * b.val + h.val + 1) -∗ WP c (k ⟨⟩) Q))
      ⊢ WP c (Prog.op (.load aC (Rect.unit (s := S2x256x256) ![b.val, 0, 64 * h.val] S1x256x64.size inb).toLoadRect hl) fun _ =>
          Prog.op (.store aC (Rect.unit (s := S2x256x256) ![b.val, 0, 64 * h.val] S1x256x64.size inb) w Finset.univ h1 h2) k) Q := by
  subst ew
  unfold cR
  iintro ⟨⟨%X, HX, %hX⟩, Hk⟩
  iapply (own_load c aC fullShare X _ _ _ _ _ Q)
  isplitl [HX]; · iexact HX
  iintro HX
  iapply (own_store c aC X _ _ _ _ _ _ k Q)
  isplitl [HX]; · iexact HX
  iintro HX
  iapply Hk
  iexists _
  isplitl [HX]; · iexact HX
  ipureintro; exact ctxOk_put I c b h X hX

/-- A box of the partial denominators. -/
theorem den_step {α : Type} (b : Fin 2) (inb : ∀ a, (![b.val, 0, 0] : Fin 3 → ℕ) a + S1x256x4.size a ≤ S2x256x4.size a)
    (w : FVec F S1x256x4 .bf16) (ew : w = I.denBox c b) (hl) (h1) (h2) (k : PUnit → PG F α) (Q : α → sProp 𝕄) :
    iprop(eR I c b.val ∗ (eR I c (b.val + 1) -∗ WP c (k ⟨⟩) Q))
      ⊢ WP c (Prog.op (.load aE (Rect.unit (s := S2x256x4) ![b.val, 0, 0] S1x256x4.size inb).toLoadRect hl) fun _ =>
          Prog.op (.store aE (Rect.unit (s := S2x256x4) ![b.val, 0, 0] S1x256x4.size inb) w Finset.univ h1 h2) k) Q := by
  subst ew
  unfold eR
  iintro ⟨⟨%X, HX, %hX⟩, Hk⟩
  iapply (own_load c aE fullShare X _ _ _ _ _ Q)
  isplitl [HX]; · iexact HX
  iintro HX
  iapply (own_store c aE X _ _ _ _ _ _ k Q)
  isplitl [HX]; · iexact HX
  iintro HX
  iapply Hk
  iexists _
  isplitl [HX]; · iexact HX
  ipureintro; exact denOk_put I c b X hX

/-- The staged arguments that the arithmetic reads. -/
def inR : sProp 𝕄 := iprop(owns (c : Thread nD τ) xM fullShare (I.x c) ∗ owns (c : Thread nD τ) kM fullShare (I.k c) ∗ owns (c : Thread nD τ) vM fullShare (I.v c))

abbrev kb (b : Fin 2) (h : Fin 4) : Vec F S1x256x64 .f32 := window (s := S2x256x256) (I.k c) ![b.val, 0, 64 * h.val] S1x256x64.size (hb_inb b h)
abbrev vb (b : Fin 2) (h : Fin 4) : Vec F S1x256x64 .f32 := window (s := S2x256x256) (I.v c) ![b.val, 0, 64 * h.val] S1x256x64.size (hb_inb b h)
abbrev m5 : IVec S256x256 1 := k0_pay20 (iota .tc S256x256 32 [0] iota_S256x256_d0_w32) 64#32 k0_pay18 k0_pay19 0#32
/-- The product of queries and keys that the last lines of the first batch entry leave for the second. -/
abbrev s1 : FVec F S256x256 .f32 := k0_pay40 (I.q c 1) (kb I c 1 0)
abbrev sc : F .f32 := Scalar.ofBits .f32 0x3E000000#32

theorem part20_rule (Q : _ → sProp 𝕄) :
    iprop(inR I c ∗ cR I c 0 ∗ eR I c 0 ∗ (iprop(inR I c ∗ cR I c 1 ∗ eR I c 0) -∗ Q ⟨maskV, I.q c 0, I.q c 1, (wsum (I.w c 0 0)), k0_pay29 (kb I c 0 1)⟩))
      ⊢ WP c (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 (k0_pay17 (I.wq c)) m5 k0_pay21 k0_pay22) Q := by
  rw [k0_part20_eq_skeleton]; unfold k0_part20_skel inR
  simp only [Prog.lift, Prog.bind_op, Prog.bind_ret]
  iintro ⟨⟨Hx, Hk, Hv⟩, HC, HE, HQ⟩
  iapply (own_load c xM fullShare (I.x c) _ _ _ _ _ Q)
  isplitl [Hx]; · iexact Hx
  iintro Hx
  iapply (own_load c xM fullShare (I.x c) _ _ _ _ _ Q)
  isplitl [Hx]; · iexact Hx
  iintro Hx
  iapply (own_load c kM fullShare (I.k c) _ _ _ _ _ Q)
  isplitl [Hk]; · iexact Hk
  iintro Hk
  iapply (own_load c vM fullShare (I.v c) _ _ _ _ _ Q)
  isplitl [Hv]; · iexact Hv
  iintro Hv
  iapply (ctx_step I c 0 0 _ _ rfl _ _ _ _ Q)
  isplitl [HC]; · iexact HC
  iintro HC
  iapply (own_load c kM fullShare (I.k c) _ _ _ _ _ Q)
  isplitl [Hk]; · iexact Hk
  iintro Hk
  iapply (done c _ ⟨maskV, I.q c 0, I.q c 1, (wsum (I.w c 0 0)), k0_pay29 (kb I c 0 1)⟩ rfl Q)
  iapply HQ
  isplitl [Hx Hk Hv]
  · isplitl [Hx]; · iexact Hx
    isplitl [Hk]; · iexact Hk
    iexact Hv
  isplitl [HC]; · iexact HC
  iexact HE

theorem part21_rule (Q : _ → sProp 𝕄) :
    iprop(inR I c ∗ cR I c 1 ∗ eR I c 0 ∗ (iprop(inR I c ∗ cR I c 3 ∗ eR I c 0) -∗ Q ⟨(wsum (I.w c 0 1)), (wsum (I.w c 0 2))⟩))
      ⊢ WP c (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 maskV (I.q c 0) (k0_pay29 (kb I c 0 1))) Q := by
  rw [k0_part21_eq_skeleton]; unfold k0_part21_skel inR
  simp only [Prog.lift, Prog.bind_op, Prog.bind_ret]
  iintro ⟨⟨Hx, Hk, Hv⟩, HC, HE, HQ⟩
  iapply (own_load c vM fullShare (I.v c) _ _ _ _ _ Q)
  isplitl [Hv]; · iexact Hv
  iintro Hv
  iapply (ctx_step I c 0 1 _ _ rfl _ _ _ _ Q)
  isplitl [HC]; · iexact HC
  iintro HC
  iapply (own_load c kM fullShare (I.k c) _ _ _ _ _ Q)
  isplitl [Hk]; · iexact Hk
  iintro Hk
  iapply (own_load c vM fullShare (I.v c) _ _ _ _ _ Q)
  isplitl [Hv]; · iexact Hv
  iintro Hv
  iapply (ctx_step I c 0 2 _ _ rfl _ _ _ _ Q)
  isplitl [HC]; · iexact HC
  iintro HC
  iapply (done c _ ⟨(wsum (I.w c 0 1)), (wsum (I.w c 0 2))⟩ rfl Q)
  iapply HQ
  isplitl [Hx Hk Hv]
  · isplitl [Hx]; · iexact Hx
    isplitl [Hk]; · iexact Hk
    iexact Hv
  isplitl [HC]; · iexact HC
  iexact HE

theorem part22_rule (Q : _ → sProp 𝕄) :
    iprop(inR I c ∗ cR I c 3 ∗ eR I c 0 ∗ (iprop(inR I c ∗ cR I c 4 ∗ eR I c 1) -∗ Q ⟨k0_pay39 (vb I c 1 0), s1 I c, sc⟩))
      ⊢ WP c (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 maskV (I.q c 0) (I.q c 1) (wsum (I.w c 0 0)) (wsum (I.w c 0 1)) (wsum (I.w c 0 2))) Q := by
  rw [k0_part22_eq_skeleton]; unfold k0_part22_skel inR
  simp only [Prog.lift, Prog.bind_op, Prog.bind_ret]
  iintro ⟨⟨Hx, Hk, Hv⟩, HC, HE, HQ⟩
  iapply (own_load c kM fullShare (I.k c) _ _ _ _ _ Q)
  isplitl [Hk]; · iexact Hk
  iintro Hk
  iapply (own_load c vM fullShare (I.v c) _ _ _ _ _ Q)
  isplitl [Hv]; · iexact Hv
  iintro Hv
  iapply (ctx_step I c 0 3 _ _ rfl _ _ _ _ Q)
  isplitl [HC]; · iexact HC
  iintro HC
  iapply (den_step I c 0 _ _ rfl _ _ _ _ Q)
  isplitl [HE]; · iexact HE
  iintro HE
  iapply (own_load c kM fullShare (I.k c) _ _ _ _ _ Q)
  isplitl [Hk]; · iexact Hk
  iintro Hk
  iapply (own_load c vM fullShare (I.v c) _ _ _ _ _ Q)
  isplitl [Hv]; · iexact Hv
  iintro Hv
  iapply (done c _ ⟨k0_pay39 (vb I c 1 0), s1 I c, sc⟩ rfl Q)
  iapply HQ
  isplitl [Hx Hk Hv]
  · isplitl [Hx]; · iexact Hx
    isplitl [Hk]; · iexact Hk
    iexact Hv
  isplitl [HC]; · iexact HC
  iexact HE

theorem part23_rule (Q : _ → sProp 𝕄) :
    iprop(inR I c ∗ cR I c 4 ∗ eR I c 1 ∗ (iprop(inR I c ∗ cR I c 6 ∗ eR I c 1) -∗ Q ⟨(wsum (I.w c 1 0)), (wsum (I.w c 1 1)), k0_pay47 (kb I c 1 2), vb I c 1 2⟩))
      ⊢ WP c (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 maskV (I.q c 1) (k0_pay39 (vb I c 1 0)) (s1 I c) sc) Q := by
  rw [k0_part23_eq_skeleton]; unfold k0_part23_skel inR
  simp only [Prog.lift, Prog.bind_op, Prog.bind_ret]
  iintro ⟨⟨Hx, Hk, Hv⟩, HC, HE, HQ⟩
  iapply (ctx_step I c 1 0 _ _ rfl _ _ _ _ Q)
  isplitl [HC]; · iexact HC
  iintro HC
  iapply (own_load c kM fullShare (I.k c) _ _ _ _ _ Q)
  isplitl [Hk]; · iexact Hk
  iintro Hk
  iapply (own_load c vM fullShare (I.v c) _ _ _ _ _ Q)
  isplitl [Hv]; · iexact Hv
  iintro Hv
  iapply (ctx_step I c 1 1 _ _ rfl _ _ _ _ Q)
  isplitl [HC]; · iexact HC
  iintro HC
  iapply (own_load c kM fullShare (I.k c) _ _ _ _ _ Q)
  isplitl [Hk]; · iexact Hk
  iintro Hk
  iapply (own_load c vM fullShare (I.v c) _ _ _ _ _ Q)
  isplitl [Hv]; · iexact Hv
  iintro Hv
  iapply (done c _ ⟨(wsum (I.w c 1 0)), (wsum (I.w c 1 1)), k0_pay47 (kb I c 1 2), vb I c 1 2⟩ rfl Q)
  iapply HQ
  isplitl [Hx Hk Hv]
  · isplitl [Hx]; · iexact Hx
    isplitl [Hk]; · iexact Hk
    iexact Hv
  isplitl [HC]; · iexact HC
  iexact HE

theorem part24_rule (Q : _ → sProp 𝕄) :
    iprop(inR I c ∗ cR I c 6 ∗ eR I c 1 ∗ (iprop(inR I c ∗ cR I c 8 ∗ eR I c 1) -∗ Q ⟨I.denCol c 1 0, I.denCol c 1 1, I.denCol c 1 2, I.denCol c 1 3⟩))
      ⊢ WP c (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 maskV (I.q c 1) (wsum (I.w c 1 0)) (wsum (I.w c 1 1)) (k0_pay47 (kb I c 1 2)) (vb I c 1 2)) Q := by
  rw [k0_part24_eq_skeleton]; unfold k0_part24_skel inR
  simp only [Prog.lift, Prog.bind_op, Prog.bind_ret]
  iintro ⟨⟨Hx, Hk, Hv⟩, HC, HE, HQ⟩
  iapply (ctx_step I c 1 2 _ _ rfl _ _ _ _ Q)
  isplitl [HC]; · iexact HC
  iintro HC
  iapply (own_load c kM fullShare (I.k c) _ _ _ _ _ Q)
  isplitl [Hk]; · iexact Hk
  iintro Hk
  iapply (own_load c vM fullShare (I.v c) _ _ _ _ _ Q)
  isplitl [Hv]; · iexact Hv
  iintro Hv
  iapply (ctx_step I c 1 3 _ _ rfl _ _ _ _ Q)
  isplitl [HC]; · iexact HC
  iintro HC
  iapply (done c _ ⟨I.denCol c 1 0, I.denCol c 1 1, I.denCol c 1 2, I.denCol c 1 3⟩ rfl Q)
  iapply HQ
  isplitl [Hx Hk Hv]
  · isplitl [Hx]; · iexact Hx
    isplitl [Hk]; · iexact Hk
    iexact Hv
  isplitl [HC]; · iexact HC
  iexact HE

theorem ctxOk_all (X : S2x256x256.Idx → Elt F .bf16) (h : ctxOk I c 8 X) : X = I.ctx c := funext fun y => h y (by
  have h0 : (y 0).val < 2 := (y 0).isLt
  have h2 : (y 2).val < 256 := (y 2).isLt
  omega)
theorem denOk_all (X : S2x256x4.Idx → Elt F .bf16) (h : denOk I c 2 X) : X = I.den c := funext fun y => h y (y 0).isLt

end Compute

end Cert.KernelIdeal.Hand

end
-- ==== Proof.KernelIdealPieces.lean ====
/-
A buffer and its sixteen pieces, and the sixteen shares of the finished rows.
-/
module

public import proofs.«01_k».proof.Proof.KernelIdealCompute
public import Idealize.ShloMosaic.Lib.MemrefSat

@[expose] public section

set_option maxRecDepth 65536

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

instance elt_nonempty (e : EltTy) : Nonempty (Elt F e) := by
  cases e
  case fp8e4m3 => exact ⟨(Scalar.ofBits .fp8e4m3 0 : F .fp8e4m3)⟩
  case fp8e5m2 => exact ⟨(Scalar.ofBits .fp8e5m2 0 : F .fp8e5m2)⟩
  case bf16 => exact ⟨(Scalar.ofBits .bf16 0 : F .bf16)⟩
  case f16 => exact ⟨(Scalar.ofBits .f16 0 : F .f16)⟩
  case f32 => exact ⟨(Scalar.ofBits .f32 0 : F .f32)⟩
  all_goals exact ⟨0#_⟩

theorem bs_mono {J : Type} {s : Finset J} {Φ Ψ : J → sProp 𝕄} (h : ∀ j, Φ j ⊢ Ψ j) : bigSep s Φ ⊢ bigSep s Ψ := bigSep_mono fun j _ => h j

section Pieces
variable (c : Dev nD)

theorem rect_sep {s : Shape} {off off' size : Fin s.rank → ℕ} {i1} {i2} (a : Fin s.rank) (h : off a + size a ≤ off' a ∨ off' a + size a ≤ off a) :
    Disjoint (Rect.unit (s := s) off size i1).set (Rect.unit (s := s) off' size i2).set := by
  rw [Finset.disjoint_left]
  intro x h1 h2
  have h1 := Rect.mem_set_unit.mp h1 a
  have h2 := Rect.mem_set_unit.mp h2 a
  omega

theorem rowC_disj (i j : Fin 16) (h : i ≠ j) : Disjoint (rowCr i).set (rowCr j).set :=
  rect_sep 1 (by
    show 16 * i.val + 16 ≤ 16 * j.val ∨ 16 * j.val + 16 ≤ 16 * i.val
    have : i.val ≠ j.val := fun e => h (Fin.ext e)
    omega)
theorem rowE_disj (i j : Fin 16) (h : i ≠ j) : Disjoint (rowEr i).set (rowEr j).set :=
  rect_sep 1 (by
    show 16 * i.val + 16 ≤ 16 * j.val ∨ 16 * j.val + 16 ≤ 16 * i.val
    have : i.val ≠ j.val := fun e => h (Fin.ext e)
    omega)
theorem slotC_disj (i j : Fin 16) (h : i ≠ j) : Disjoint (slotCr i).set (slotCr j).set :=
  rect_sep 0 (by
    show i.val + 1 ≤ j.val ∨ j.val + 1 ≤ i.val
    have : i.val ≠ j.val := fun e => h (Fin.ext e)
    omega)
theorem slotE_disj (i j : Fin 16) (h : i ≠ j) : Disjoint (slotEr i).set (slotEr j).set :=
  rect_sep 0 (by
    show i.val + 1 ≤ j.val ∨ j.val + 1 ≤ i.val
    have : i.val ≠ j.val := fun e => h (Fin.ext e)
    omega)

theorem rowC_cov : (Finset.univ : Finset (Fin 16)).biUnion (fun t => (rowCr t).set) = Finset.univ := by
  refine Finset.eq_univ_iff_forall.mpr fun x => ?_
  have h1 : (x 1).val < 256 := (x 1).isLt
  refine Finset.mem_biUnion.mpr ⟨⟨(x 1).val / 16, by omega⟩, Finset.mem_univ _, Rect.mem_set_unit.mpr fun a => ?_⟩
  fin_cases a
  · exact ⟨Nat.zero_le _, by show _ < 0 + 2; rw [Nat.zero_add]; exact (x 0).isLt⟩
  · show 16 * ((x 1).val / 16) ≤ (x 1).val ∧ (x 1).val < 16 * ((x 1).val / 16) + 16; omega
  · exact ⟨Nat.zero_le _, by show _ < 0 + 256; rw [Nat.zero_add]; exact (x 2).isLt⟩
theorem rowE_cov : (Finset.univ : Finset (Fin 16)).biUnion (fun t => (rowEr t).set) = Finset.univ := by
  refine Finset.eq_univ_iff_forall.mpr fun x => ?_
  have h1 : (x 1).val < 256 := (x 1).isLt
  refine Finset.mem_biUnion.mpr ⟨⟨(x 1).val / 16, by omega⟩, Finset.mem_univ _, Rect.mem_set_unit.mpr fun a => ?_⟩
  fin_cases a
  · exact ⟨Nat.zero_le _, by show _ < 0 + 2; rw [Nat.zero_add]; exact (x 0).isLt⟩
  · show 16 * ((x 1).val / 16) ≤ (x 1).val ∧ (x 1).val < 16 * ((x 1).val / 16) + 16; omega
  · exact ⟨Nat.zero_le _, by show _ < 0 + 4; rw [Nat.zero_add]; exact (x 2).isLt⟩
theorem slotC_cov : (Finset.univ : Finset (Fin 16)).biUnion (fun t => (slotCr t).set) = Finset.univ := by
  refine Finset.eq_univ_iff_forall.mpr fun x => ?_
  refine Finset.mem_biUnion.mpr ⟨⟨(x 0).val, (x 0).isLt⟩, Finset.mem_univ _, Rect.mem_set_unit.mpr fun a => ?_⟩
  fin_cases a
  · exact ⟨Nat.le_refl _, Nat.lt_succ_self _⟩
  · exact ⟨Nat.zero_le _, by show _ < 0 + 2; rw [Nat.zero_add]; exact (x 1).isLt⟩
  · exact ⟨Nat.zero_le _, by show _ < 0 + 16; rw [Nat.zero_add]; exact (x 2).isLt⟩
  · exact ⟨Nat.zero_le _, by show _ < 0 + 256; rw [Nat.zero_add]; exact (x 3).isLt⟩
theorem slotE_cov : (Finset.univ : Finset (Fin 16)).biUnion (fun t => (slotEr t).set) = Finset.univ := by
  refine Finset.eq_univ_iff_forall.mpr fun x => ?_
  refine Finset.mem_biUnion.mpr ⟨⟨(x 0).val, (x 0).isLt⟩, Finset.mem_univ _, Rect.mem_set_unit.mpr fun a => ?_⟩
  fin_cases a
  · exact ⟨Nat.le_refl _, Nat.lt_succ_self _⟩
  · exact ⟨Nat.zero_le _, by show _ < 0 + 2; rw [Nat.zero_add]; exact (x 1).isLt⟩
  · exact ⟨Nat.zero_le _, by show _ < 0 + 16; rw [Nat.zero_add]; exact (x 2).isLt⟩
  · exact ⟨Nat.zero_le _, by show _ < 0 + 4; rw [Nat.zero_add]; exact (x 3).isLt⟩

/-- A buffer at some contents is its pieces at some contents, and back. -/
theorem any_split {sh : Shape} {e : EltTy} (m : Memref sig .tc .vmem sh e) (r : Fin 16 → Rect sh) (hr : ∀ t a, (r t).stride a = 1)
    (hd : ∀ i j, i ≠ j → Disjoint (r i).set (r j).set) (hc : (Finset.univ : Finset (Fin 16)).biUnion (fun t => (r t).set) = Finset.univ) :
    (any c m : sProp 𝕄) ⊢ bigSep Finset.univ fun j => any c (m.slice (r j) (hr j)) := by
  unfold any
  iintro ⟨%X, H⟩
  ihave H := (owns_rects (c : Thread nD τ) m fullShare r hr hd hc X) $$ H
  iapply (bs_mono fun j => (show owns (c : Thread nD τ) (m.slice (r j) (hr j)) fullShare (fun i => X ((r j).emb i))
    ⊢ (iprop(∃ X, owns (c : Thread nD τ) (m.slice (r j) (hr j)) fullShare X) : sProp 𝕄) from by iintro H; iexists _; iexact H))
  iexact H
theorem any_join {sh : Shape} {e : EltTy} (m : Memref sig .tc .vmem sh e) (r : Fin 16 → Rect sh) (hr : ∀ t a, (r t).stride a = 1)
    (hd : ∀ i j, i ≠ j → Disjoint (r i).set (r j).set) (hc : (Finset.univ : Finset (Fin 16)).biUnion (fun t => (r t).set) = Finset.univ) :
    bigSep Finset.univ (fun j => any c (m.slice (r j) (hr j))) ⊢ (any c m : sProp 𝕄) := by
  unfold any
  refine BIBase.Entails.trans (bs_mono fun j => (ownsSat_true (c : Thread nD τ) (m.slice (r j) (hr j)) fullShare).2) ?_
  refine BIBase.Entails.trans (ownsSat_of_rects (c : Thread nD τ) m fullShare r hr hd hc (fun _ _ => True)) ?_
  exact ownsSat_any _ _ _

theorem any_squeeze {sh s' : Shape} {e : EltTy} (m : Memref sig .tc .vmem sh e) (h : sh.Squeezes s') : (any c m : sProp 𝕄) ⊢ any c (m.squeeze s' h) := by
  unfold any
  iintro ⟨%X, H⟩
  iexists _
  iapply (squeeze_of c m h fullShare X); iexact H
theorem any_unsqueeze {sh s' : Shape} {e : EltTy} (m : Memref sig .tc .vmem sh e) (h : sh.Squeezes s') : (any c (m.squeeze s' h) : sProp 𝕄) ⊢ any c m := by
  unfold any
  iintro ⟨%X, H⟩
  iexists _
  iapply (squeeze_to c m h fullShare X); iexact H

theorem gC_split : (any c gC : sProp 𝕄) ⊢ bigSep Finset.univ fun j => any c (gCq j) :=
  (any_split c gC slotCr (fun _ _ => rfl) slotC_disj slotC_cov).trans (bs_mono fun j => any_squeeze c (gCs j) _)
theorem gE_split : (any c gE : sProp 𝕄) ⊢ bigSep Finset.univ fun j => any c (gEq j) :=
  (any_split c gE slotEr (fun _ _ => rfl) slotE_disj slotE_cov).trans (bs_mono fun j => any_squeeze c (gEs j) _)
theorem yM_split : (any c yM : sProp 𝕄) ⊢ bigSep Finset.univ fun j => any c (yMr j) :=
  any_split c yM rowCr (fun _ _ => rfl) rowC_disj rowC_cov
theorem gC_join : bigSep Finset.univ (fun j => any c (gCq j)) ⊢ (any c gC : sProp 𝕄) :=
  BIBase.Entails.trans (bs_mono fun j => any_unsqueeze c (gCs j) _) (any_join c gC slotCr (fun _ _ => rfl) slotC_disj slotC_cov)
theorem gE_join : bigSep Finset.univ (fun j => any c (gEq j)) ⊢ (any c gE : sProp 𝕄) :=
  BIBase.Entails.trans (bs_mono fun j => any_unsqueeze c (gEs j) _) (any_join c gE slotEr (fun _ _ => rfl) slotE_disj slotE_cov)
theorem yM_join : bigSep Finset.univ (fun j => any c (yMr j)) ⊢ (any c yM : sProp 𝕄) :=
  any_join c yM rowCr (fun _ _ => rfl) rowC_disj rowC_cov
theorem aC_join : bigSep Finset.univ (fun j => any c (aCr j)) ⊢ (any c aC : sProp 𝕄) :=
  any_join c aC rowCr (fun _ _ => rfl) rowC_disj rowC_cov
theorem aE_join : bigSep Finset.univ (fun j => any c (aEr j)) ⊢ (any c aE : sProp 𝕄) :=
  any_join c aE rowEr (fun _ _ => rfl) rowE_disj rowE_cov
theorem aC_split (I : Inp F) : (owns (c : Thread nD τ) aC fullShare (I.ctx c) : sProp 𝕄) ⊢ bigSep Finset.univ fun j => owns (c : Thread nD τ) (aCr j) fullShare (I.ctxSlab c j) :=
  owns_rects (c : Thread nD τ) aC fullShare rowCr (fun _ _ => rfl) rowC_disj rowC_cov (I.ctx c)
theorem aE_split (I : Inp F) : (owns (c : Thread nD τ) aE fullShare (I.den c) : sProp 𝕄) ⊢ bigSep Finset.univ fun j => owns (c : Thread nD τ) (aEr j) fullShare (I.denSlab c j) :=
  owns_rects (c : Thread nD τ) aE fullShare rowEr (fun _ _ => rfl) rowE_disj rowE_cov (I.den c)

/-- A holder's share halved sixteen times: the halves for the copies, and what is left. -/
theorem y_range {sh : Shape} {e : EltTy} (m : Memref sig .tc .vmem sh e) (X : sh.Idx → Elt F e) (n : ℕ) :
    (owns (c : Thread nD τ) m fullShare X : sProp 𝕄)
      ⊣⊢ iprop(owns (c : Thread nD τ) m (Transfers.shareDrop fullShare n) X
        ∗ bigSep (Finset.range n) fun i => owns (c : Thread nD τ) m (Transfers.shareTokN fullShare i) X) := by
  induction n with
  | zero =>
    rw [Finset.range_zero, bigSep_empty]
    constructor
    · iintro H
      isplitl [H]; · iexact H
      iempintro
    · iintro ⟨H, -⟩; iexact H
  | succ n ih =>
    have hb : bigSep (Finset.range (n + 1)) (fun i => (owns (c : Thread nD τ) m (Transfers.shareTokN fullShare i) X : sProp 𝕄))
        = iprop(owns (c : Thread nD τ) m (Transfers.shareTokN fullShare n) X
          ∗ bigSep (Finset.range n) fun i => owns (c : Thread nD τ) m (Transfers.shareTokN fullShare i) X) := by
      rw [Finset.range_add_one]; exact bigSep_insert Finset.notMem_range_self
    rw [hb]
    have hh := owns_halves (Ix := Unit) (Name := ℕ) (U := UU) (Lvl := ℕ) (c : Thread nD τ) m (Transfers.shareDrop fullShare n) X
    constructor
    · refine BIBase.Entails.trans ih.1 ?_
      iintro ⟨H, Hr⟩
      ihave H := hh.1 $$ H
      icases H with ⟨Hl, Ht⟩
      isplitl [Hl]; · iexact Hl
      isplitl [Ht]; · iexact Ht
      iexact Hr
    · refine BIBase.Entails.trans ?_ ih.2
      iintro ⟨Hl, Ht, Hr⟩
      isplitl [Hl Ht]
      · iapply hh.2
        isplitl [Hl]; · iexact Hl
        iexact Ht
      iexact Hr
theorem y_shares {sh : Shape} {e : EltTy} (m : Memref sig .tc .vmem sh e) (X : sh.Idx → Elt F e) :
    (owns (c : Thread nD τ) m fullShare X : sProp 𝕄)
      ⊣⊢ iprop(owns (c : Thread nD τ) m yRest X ∗ bigSep Finset.univ fun j => owns (c : Thread nD τ) m (ySh j) X) := by
  have e : bigSep Finset.univ (fun j : Fin 16 => (owns (c : Thread nD τ) m (ySh j) X : sProp 𝕄))
      = bigSep (Finset.range 16) fun i => owns (c : Thread nD τ) m (Transfers.shareTokN fullShare i) X := by
    rw [← Nat.Iio_eq_range, ← Fin.map_valEmbedding_univ, bigSep_map]; rfl
  rw [e]
  exact y_range c m X 16

end Pieces

end Cert.KernelIdeal.Hand

end
-- ==== Proof.KernelIdealBody.lean ====
/-
What one device's whole body does, part by part, then end to end.
-/
module

public import proofs.«01_k».proof.Proof.KernelIdealPieces

@[expose] public section

set_option maxRecDepth 65536

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

section Body
variable (I : Inp F) (K : Dev nD × CI → ℕ) (c : Dev nD)

theorem bind_rule {α β : Type} (p : PG F β) (k : β → PG F α) (Q : α → sProp 𝕄) : WP c p (fun a => WP c (k a) Q) ⊢ WP c (p >>= k) Q := by
  show _ ⊢ wp _ _ _ (p >>= k) Q
  rw [wp_bind]

theorem part_rule {α : Type} {p p' : PG F α} (e : p = p') (Q : α → sProp 𝕄) : WP c p' Q ⊢ WP c p Q := by rw [e]

/-- How far a phase has come: the devices to go, the devices done, and what moves along. -/
def ph (Pre Post : Dev nD → sProp 𝕄) (R : ℕ → sProp 𝕄) (n : ℕ) : sProp 𝕄 := iprop(bigSep (todo c n) Pre ∗ bigSep (past c n) Post ∗ R n)

theorem ph_start (Pre Post : Dev nD → sProp 𝕄) (R : ℕ → sProp 𝕄) : iprop(bigSep (Finset.univ.erase c) Pre ∗ R 0) ⊢ ph c Pre Post R 0 := by
  unfold ph
  rw [todo_all, past_none, bigSep_empty]
  iintro ⟨H, HR⟩
  isplitl [H]; · iexact H
  isplitr; · iempintro
  iexact HR
theorem ph_end (Pre Post : Dev nD → sProp 𝕄) (R : ℕ → sProp 𝕄) : ph c Pre Post R 16 ⊢ iprop(bigSep (Finset.univ.erase c) Post ∗ R 16) := by
  unfold ph
  rw [past_all]
  iintro ⟨-, H, HR⟩
  isplitl [H]; · iexact H
  iexact HR

theorem phase {α : Type} (f : Fin 16 → PG F α → PG F α) (Pre Post : Dev nD → sProp 𝕄) (R : ℕ → sProp 𝕄)
    (hne : ∀ (j : Dev nD) (k : PG F α) (Q : α → sProp 𝕄), j ≠ c →
      iprop(Gl I K ∗ Pre j ∗ R j.val ∗ (iprop(Post j ∗ R (j.val + 1)) -∗ WP c k Q)) ⊢ WP c (f j k) Q)
    (heq : ∀ (k : PG F α) (Q : α → sProp 𝕄), iprop(Gl I K ∗ R c.val ∗ (R (c.val + 1) -∗ WP c k Q)) ⊢ WP c (f c k) Q)
    (js : List (Fin 16)) (a b : ℕ) (h : js.map Fin.val = List.range' a js.length) (hb : a + js.length = b) (k : PG F α) (Q : α → sProp 𝕄) :
    iprop(Gl I K ∗ ph c Pre Post R a ∗ (ph c Pre Post R b -∗ WP c k Q)) ⊢ WP c (chain f js k) Q := by
  subst hb
  unfold ph
  iintro ⟨HG, ⟨H1, H2, H3⟩, Hk⟩
  iapply (phase_rule I K c f Pre Post R hne heq js a h k Q)
  isplitl [HG]; · iexact HG
  isplitl [H1]; · iexact H1
  isplitl [H2]; · iexact H2
  isplitl [H3]; · iexact H3
  iexact Hk

abbrev sigP (n : ℕ) : sProp 𝕄 := ph c (sigPre c) nil (sigR (F := F) c) n
abbrev soP (n : ℕ) : sProp 𝕄 := ph c (soPre I c) (soPost c) (soR I c) n
abbrev rcP (n : ℕ) : sProp 𝕄 := ph c (rcPre c) (rcPost c) (rcR I c) n
abbrev ysP (n : ℕ) : sProp 𝕄 := ph c (ysPre I c) (ysPost c) (ysR (F := F) c) n
abbrev yrP (n : ℕ) : sProp 𝕄 := ph c (yrPre c) (yrPost c) (yrR I c) n
abbrev swP (n : ℕ) : sProp 𝕄 := ph c (swPre c) (swPost I c) (swR (F := F) c) n

theorem sig_phase {α : Type} (js : List (Fin 16)) (a b : ℕ) (h : js.map Fin.val = List.range' a js.length) (hb : a + js.length = b) (k : PG F α) (Q : α → sProp 𝕄) :
    iprop(Gl I K ∗ sigP c a ∗ (sigP c b -∗ WP c k Q)) ⊢ WP c (chain (sigBlk c) js k) Q :=
  phase I K c (sigBlk c) _ _ _ (sig_ne I K c) (sig_eq I K c) js a b h hb k Q
theorem so_phase {α : Type} (js : List (Fin 16)) (a b : ℕ) (h : js.map Fin.val = List.range' a js.length) (hb : a + js.length = b) (k : PG F α) (Q : α → sProp 𝕄) :
    iprop(Gl I K ∗ soP I c a ∗ (soP I c b -∗ WP c k Q)) ⊢ WP c (chain (soBlk c) js k) Q :=
  phase I K c (soBlk c) _ _ _ (so_ne I K c) (so_eq I K c) js a b h hb k Q
theorem rc_phase {α : Type} (js : List (Fin 16)) (a b : ℕ) (h : js.map Fin.val = List.range' a js.length) (hb : a + js.length = b) (k : PG F α) (Q : α → sProp 𝕄) :
    iprop(Gl I K ∗ rcP I c a ∗ (rcP I c b -∗ WP c k Q)) ⊢ WP c (chain (recvBlk c) js k) Q :=
  phase I K c (recvBlk c) _ _ _ (rc_ne I K c) (rc_eq I K c) js a b h hb k Q
theorem ys_phase {α : Type} (js : List (Fin 16)) (a b : ℕ) (h : js.map Fin.val = List.range' a js.length) (hb : a + js.length = b) (k : PG F α) (Q : α → sProp 𝕄) :
    iprop(Gl I K ∗ ysP I c a ∗ (ysP I c b -∗ WP c k Q)) ⊢ WP c (chain (ysendBlk c) js k) Q :=
  phase I K c (ysendBlk c) _ _ _ (ys_ne I K c) (ys_eq I K c) js a b h hb k Q
theorem yr_phase {α : Type} (js : List (Fin 16)) (a b : ℕ) (h : js.map Fin.val = List.range' a js.length) (hb : a + js.length = b) (k : PG F α) (Q : α → sProp 𝕄) :
    iprop(Gl I K ∗ yrP I c a ∗ (yrP I c b -∗ WP c k Q)) ⊢ WP c (chain (yrecvBlk c (k0_pay106 (I.wo c))) js k) Q :=
  phase I K c (yrecvBlk c (k0_pay106 (I.wo c))) _ _ _ (yr_ne I K c) (yr_eq I K c) js a b h hb k Q
theorem sw_phase {α : Type} (js : List (Fin 16)) (a b : ℕ) (h : js.map Fin.val = List.range' a js.length) (hb : a + js.length = b) (k : PG F α) (Q : α → sProp 𝕄) :
    iprop(Gl I K ∗ swP I c a ∗ (swP I c b -∗ WP c k Q)) ⊢ WP c (chain (swaitBlk c) js k) Q :=
  phase I K c (swaitBlk c) _ _ _ (sw_ne I K c) (sw_eq I K c) js a b h hb k Q

/-! ## The parts -/

theorem part17_rule (Q : _ → sProp 𝕄) :
    iprop(Gl I K ∗ sigP c 0 ∗ (sigP c 8 -∗ Q ⟨c, dw c, SemArray.scalar (sig.barrier 0 rfl)⟩)) ⊢ WP c (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12) Q := by
  refine BIBase.Entails.trans ?_ (part_rule c part17_eq Q)
  simp only [Prog.lift, Prog.bind_op, Prog.bind_ret]
  rw [show ∀ k, WP (F := F) c (Prog.op .deviceId k) Q = WP c (k c) Q from fun k => wp_deviceId 𝒱₀ (c : Thread nD τ) none Set.univ]
  iintro ⟨HG, H, HQ⟩
  iapply (sig_phase I K c _ 0 8 rfl rfl _ Q)
  isplitl [HG]; · iexact HG
  isplitl [H]; · iexact H
  iintro H
  iapply (done c _ _ rfl Q)
  iapply HQ; iexact H

theorem part18_rule (Q : _ → sProp 𝕄) :
    iprop(Gl I K ∗ sigP c 8 ∗ (cred (tallyAt (bar c) () 15) ∗ atPos ER (bar c) 0 ∅ 0) ∗ owns (c : Thread nD τ) wqM fullShare (I.wq c)
        ∗ (iprop(Ow c 16 0 0 ∗ atPos ER (bar c) 1 ∅ 0 ∗ bigSep (Finset.univ.erase c) (fun d => barPay c d) ∗ owns (c : Thread nD τ) wqM fullShare (I.wq c)) -∗
          Q ⟨k0_pay17 (I.wq c), iota .tc S256x256 32 [0] iota_S256x256_d0_w32, 64#32, k0_pay18, k0_pay19, 0#32⟩))
      ⊢ WP c (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 c (dw c) (SemArray.scalar (sig.barrier 0 rfl))) Q := by
  refine BIBase.Entails.trans ?_ (part_rule c (part18_eq c) Q)
  iintro ⟨#HG, H, ⟨HC, HA⟩, Hq, HQ⟩
  iapply (sig_phase I K c _ 8 16 rfl rfl _ Q)
  isplitr; · iexact HG
  isplitl [H]; · iexact H
  iintro H
  ihave H := (ph_end c _ _ _) $$ H
  unfold sigR
  icases H with ⟨-, HO⟩
  iapply (bar_rule I K c _ Q)
  isplitr; · iexact HG
  isplitl [HO]; · iexact HO
  isplitl [HC]; · iexact HC
  isplitl [HA]; · iexact HA
  iintro ⟨HO, HA, HB⟩
  simp only [Prog.lift, Prog.bind_op, Prog.bind_ret]
  iapply (own_load_full c wqM fullShare (I.wq c) _ _ _ _ Q)
  isplitl [Hq]; · iexact Hq
  iintro Hq
  iapply (done c _ _ rfl Q)
  iapply HQ
  isplitl [HO]; · iexact HO
  isplitl [HA]; · iexact HA
  isplitl [HB]; · iexact HB
  iexact Hq

theorem part19_rule (Q : _ → sProp 𝕄) :
    Q ⟨m5, k0_pay21, k0_pay22⟩ ⊢ WP c (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 (iota .tc S256x256 32 [0] iota_S256x256_d0_w32) 64#32 k0_pay18 k0_pay19 0#32) Q := by
  rw [k0_part19_eq_skeleton]; unfold k0_part19_skel
  exact done c _ _ rfl Q

theorem part25_rule (Q : _ → sProp 𝕄) :
    iprop(Gl I K ∗ eR I c 1 ∗ (owns (c : Thread nD τ) aE fullShare (I.den c) -∗ soP I c 0) ∗ (soP I c 4 -∗ Q (Scalar.extui (Scalar.cmpi .ne (dw c) 4#32))))
      ⊢ WP c (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 c (dw c) (I.denCol c 1 0) (I.denCol c 1 1) (I.denCol c 1 2) (I.denCol c 1 3)) Q := by
  refine BIBase.Entails.trans ?_ (part_rule c (part25_eq c _ _ _ _) Q)
  simp only [Prog.lift, Prog.bind_op, Prog.bind_ret]
  iintro ⟨#HG, HE, Hw, HQ⟩
  iapply (den_step I c 1 _ _ rfl _ _ _ _ Q)
  isplitl [HE]; · iexact HE
  iintro HE
  unfold eR
  icases HE with ⟨%X, HE, %hX⟩
  rw [denOk_all I c X hX]
  ihave H := Hw $$ HE
  iapply (so_phase I K c _ 0 4 rfl rfl _ Q)
  isplitr; · iexact HG
  isplitl [H]; · iexact H
  iintro H
  iapply (done c _ _ rfl Q)
  iapply HQ; iexact H

theorem part26_rule (Q : _ → sProp 𝕄) :
    iprop(Gl I K ∗ soP I c 4 ∗ (soP I c 9 -∗ Q (Scalar.extui (Scalar.cmpi .ne (dw c) 9#32))))
      ⊢ WP c (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 c (dw c) (Scalar.extui (Scalar.cmpi .ne (dw c) 4#32))) Q := by
  refine BIBase.Entails.trans ?_ (part_rule c (part26_eq c) Q)
  iintro ⟨#HG, H, HQ⟩
  iapply (so_phase I K c _ 4 9 rfl rfl _ Q)
  isplitr; · iexact HG
  isplitl [H]; · iexact H
  iintro H
  iapply (done c _ _ rfl Q)
  iapply HQ; iexact H

theorem part27_rule (Q : _ → sProp 𝕄) :
    iprop(Gl I K ∗ soP I c 9 ∗ (soP I c 14 -∗ Q (Scalar.extui (Scalar.cmpi .ne (dw c) 14#32))))
      ⊢ WP c (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 c (dw c) (Scalar.extui (Scalar.cmpi .ne (dw c) 9#32))) Q := by
  refine BIBase.Entails.trans ?_ (part_rule c (part27_eq c) Q)
  iintro ⟨#HG, H, HQ⟩
  iapply (so_phase I K c _ 9 14 rfl rfl _ Q)
  isplitr; · iexact HG
  isplitl [H]; · iexact H
  iintro H
  iapply (done c _ _ rfl Q)
  iapply HQ; iexact H

/-- What the sends leave: the device's own block, and a credit for every copy. -/
def soEnd : sProp 𝕄 :=
  iprop(bigSep (Finset.univ.erase c) (soPost c) ∗ owns (c : Thread nD τ) (aCr c) fullShare (I.ctxSlab c c) ∗ owns (c : Thread nD τ) (aEr c) fullShare (I.denSlab c c))

theorem part28_rule (Q : _ → sProp 𝕄) :
    iprop(Gl I K ∗ soP I c 14 ∗ bigSep (Finset.univ.erase c) (rcPre c)
        ∗ (iprop(soEnd I c ∗ rcP I c 6) -∗ Q (Scalar.extui (Scalar.cmpi .ne (dw c) 6#32))))
      ⊢ WP c (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 c (dw c) (Scalar.extui (Scalar.cmpi .ne (dw c) 14#32))) Q := by
  refine BIBase.Entails.trans ?_ (part_rule c (part28_eq c) Q)
  iintro ⟨#HG, H, Hr, HQ⟩
  iapply (so_phase I K c _ 14 16 rfl rfl _ Q)
  isplitr; · iexact HG
  isplitl [H]; · iexact H
  iintro H
  ihave H := (ph_end c _ _ _) $$ H
  unfold soR soEnd
  rw [if_neg (by have : c.val < 16 := c.isLt; omega : ¬ 16 ≤ c.val)]
  icases H with ⟨Hp, HO, ⟨HC, HE⟩, HtC, HtE⟩
  iapply (rc_phase I K c _ 0 6 rfl rfl _ Q)
  isplitr; · iexact HG
  isplitl [Hr HO HtC HtE]
  · iapply (ph_start c _ _ _)
    isplitl [Hr]; · iexact Hr
    unfold rcR
    isplitl [HO]; · iexact HO
    isplitl [HtC]; · iexact HtC
    iexact HtE
  iintro H
  iapply (done c _ _ rfl Q)
  iapply HQ
  isplitr [H]
  · isplitl [Hp]; · iexact Hp
    isplitl [HC]; · iexact HC
    iexact HE
  iexact H

theorem part29_rule (Q : _ → sProp 𝕄) :
    iprop(Gl I K ∗ rcP I c 6 ∗ (rcP I c 16 -∗ Q ⟨⟩))
      ⊢ WP c (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 (dw c) (Scalar.extui (Scalar.cmpi .ne (dw c) 6#32))) Q := by
  refine BIBase.Entails.trans ?_ (part_rule c (part29_eq c) Q)
  iintro ⟨#HG, H, HQ⟩
  iapply (rc_phase I K c _ 6 16 rfl rfl _ Q)
  isplitr; · iexact HG
  isplitl [H]; · iexact H
  iintro H
  iapply (done c _ _ rfl Q)
  iapply HQ; iexact H

theorem part30_rule (Z : sProp 𝕄) (Q : _ → sProp 𝕄) :
    iprop(Gl I K ∗ rcR I c 16 ∗ any c (yMr c)
        ∗ (iprop(owns (c : Thread nD τ) (yMr c) fullShare (I.y c) ∗ ysR c 0) -∗ (Z ∗ ysP I c 0))
        ∗ (iprop(owns (c : Thread nD τ) tC fullShare (I.accC c 16) ∗ owns (c : Thread nD τ) tE fullShare (I.accE c 16) ∗ Z ∗ ysP I c 6)
            -∗ Q ⟨Scalar.extui (Scalar.cmpi .ne (dw c) 6#32), 0#32⟩))
      ⊢ WP c (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 c (dw c)) Q := by
  refine BIBase.Entails.trans ?_ (part_rule c (part30_eq c) Q)
  simp only [Prog.lift, Prog.bind_op, Prog.bind_ret]
  unfold rcR any
  have hoff : (![0, dr c, 0] : Fin 3 → ℕ) = ![0, 16 * c.val, 0] := by rw [dr_eq]
  iintro ⟨#HG, ⟨HO, HtC, HtE⟩, ⟨%Y, Hy⟩, Hw, HQ⟩
  iapply (own_load_full c tC fullShare (I.accC c 16) _ _ _ _ Q)
  isplitl [HtC]; · iexact HtC
  iintro HtC
  iapply (own_load_full c tE fullShare (I.accE c 16) _ _ _ _ Q)
  isplitl [HtE]; · iexact HtE
  iintro HtE
  iapply (own_load_sub c yM (rowCr c) (fun _ => rfl) fullShare Y ![0, dr c, 0] S2x16x256.size (drow_inb c) _ (fun i => i)
    (fun i => funext fun a => Fin.ext (by
      show (![0, dr c, 0] : Fin 3 → ℕ) a + 1 * (i a).val = (![0, 16 * c.val, 0] : Fin 3 → ℕ) a + 1 * (i a).val
      exact congrArg (fun t => t + 1 * (i a).val) (congrFun hoff a))) _ Q)
  isplitl [Hy]; · iexact Hy
  iintro Hy
  iapply (own_store_sub c yM ![0, dr c, 0] ![0, 16 * c.val, 0] S2x16x256.size (drow_inb c) hoff (rowC_inb c) Y _ _ _ _ Q)
  isplitl [Hy]; · iexact Hy
  iintro Hy
  ihave H := Hw $$ [HO Hy]
  · isplitl [Hy]; · iexact Hy
    unfold ysR; iexact HO
  icases H with ⟨HZ, H⟩
  iapply (ys_phase I K c _ 0 6 rfl rfl _ Q)
  isplitr; · iexact HG
  isplitl [H]; · iexact H
  iintro H
  iapply (done c _ _ rfl Q)
  iapply HQ
  isplitl [HtC]; · iexact HtC
  isplitl [HtE]; · iexact HtE
  isplitl [HZ]; · iexact HZ
  iexact H

theorem part31_rule (v465 c0 : BitVec 32) (Q : _ → sProp 𝕄) :
    iprop(Gl I K ∗ ysP I c 6 ∗ owns (c : Thread nD τ) woM fullShare (I.wo c)
        ∗ (iprop(ysP I c 16 ∗ owns (c : Thread nD τ) woM fullShare (I.wo c)) -∗ Q (k0_pay106 (I.wo c))))
      ⊢ WP c (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 c (dw c) v465 c0) Q := by
  refine BIBase.Entails.trans ?_ (part_rule c (part31_eq c v465 c0) Q)
  iintro ⟨#HG, H, Hw, HQ⟩
  iapply (ys_phase I K c _ 6 16 rfl rfl _ Q)
  isplitr; · iexact HG
  isplitl [H]; · iexact H
  iintro H
  simp only [Prog.lift, Prog.bind_op, Prog.bind_ret]
  iapply (own_load_full c woM fullShare (I.wo c) _ _ _ _ Q)
  isplitl [Hw]; · iexact Hw
  iintro Hw
  iapply (done c _ _ rfl Q)
  iapply HQ
  isplitl [H]; · iexact H
  iexact Hw

theorem part32_rule (Q : _ → sProp 𝕄) :
    iprop(Gl I K ∗ Ow c 16 16 16 ∗ owns (c : Thread nD τ) (yMr c) yRest (I.y c) ∗ any c oM ∗ bigSep (Finset.univ.erase c) (yrPre c)
        ∗ (iprop(yrP I c 3 ∗ owns (c : Thread nD τ) (yMr c) yRest (I.y c)) -∗ Q ⟨k0_pay107 (k0_pay106 (I.wo c)), cne (dw c) 3#32⟩))
      ⊢ WP c (k0_part32 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 c (dw c) (k0_pay106 (I.wo c))) Q := by
  refine BIBase.Entails.trans ?_ (part_rule c (part32_eq c _) Q)
  unfold any
  iintro ⟨#HG, HO, Hy, ⟨%X, HX⟩, Hr, HQ⟩
  iapply (out_step I c c 0 yRest X (dr c) (dr_eq c) _ _ _ Q)
  isplitl [Hy]; · iexact Hy
  isplitl [HX]; · iexact HX
  iintro ⟨Hy, HX⟩
  iapply (out_step I c c 1 yRest _ (dr c) (dr_eq c) _ _ _ Q)
  isplitl [Hy]; · iexact Hy
  isplitl [HX]; · iexact HX
  iintro ⟨Hy, HX⟩
  iapply (yr_phase I K c _ 0 3 rfl rfl _ Q)
  isplitr; · iexact HG
  isplitl [Hr HO HX]
  · iapply (ph_start c _ _ _)
    isplitl [Hr]; · iexact Hr
    unfold yrR
    isplitl [HO]; · iexact HO
    iexists _
    isplitl [HX]; · iexact HX
    ipureintro; exact outOk_own I c X
  iintro H
  iapply (done c _ _ rfl Q)
  iapply HQ
  isplitl [H]; · iexact H
  iexact Hy

theorem part33_rule (Q : _ → sProp 𝕄) :
    iprop(Gl I K ∗ yrP I c 3 ∗ (yrP I c 13 -∗ Q (cne (dw c) 13#32)))
      ⊢ WP c (k0_part33 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 (dw c) (k0_pay107 (k0_pay106 (I.wo c))) (cne (dw c) 3#32)) Q := by
  refine BIBase.Entails.trans ?_ (part_rule c (part33_eq c _) Q)
  iintro ⟨#HG, H, HQ⟩
  iapply (yr_phase I K c _ 3 13 rfl rfl _ Q)
  isplitr; · iexact HG
  isplitl [H]; · iexact H
  iintro H
  iapply (done c _ _ rfl Q)
  iapply HQ; iexact H

theorem outOk_all (X : S2x256x512.Idx → Elt F .f32) (h : outOk I c 16 X) : X = I.out c := funext fun z => h z (Or.inr (by
  have h1 : (z 1).val < 256 := (z 1).isLt
  omega))

theorem part34_rule (Q : _ → sProp 𝕄) :
    iprop(Gl I K ∗ yrP I c 13 ∗ bigSep (Finset.univ.erase c) (swPre c)
        ∗ (iprop((bigSep (Finset.univ.erase c) (yrPost c) ∗ owns (c : Thread nD τ) oM fullShare (I.out c)) ∗ swP I c 7) -∗ Q (cne (dw c) 7#32)))
      ⊢ WP c (k0_part34 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 (dw c) (k0_pay107 (k0_pay106 (I.wo c))) (cne (dw c) 13#32)) Q := by
  refine BIBase.Entails.trans ?_ (part_rule c (part34_eq c _) Q)
  iintro ⟨#HG, H, Hs, HQ⟩
  iapply (yr_phase I K c _ 13 16 rfl rfl _ Q)
  isplitr; · iexact HG
  isplitl [H]; · iexact H
  iintro H
  ihave H := (ph_end c _ _ _) $$ H
  unfold yrR
  icases H with ⟨Hp, HO, %X, HX, %hX⟩
  rw [outOk_all I c X hX]
  iapply (sw_phase I K c _ 0 7 rfl rfl _ Q)
  isplitr; · iexact HG
  isplitl [Hs HO]
  · iapply (ph_start c _ _ _)
    isplitl [Hs]; · iexact Hs
    unfold swR; iexact HO
  iintro H
  iapply (done c _ _ rfl Q)
  iapply HQ
  isplitr [H]
  · isplitl [Hp]; · iexact Hp
    iexact HX
  iexact H

/-! ## End to end -/

theorem bs_split (s : Finset (Dev nD)) (A B C : Dev nD → sProp 𝕄) (h : ∀ j, C j ⊢ iprop(A j ∗ B j)) : bigSep s C ⊢ iprop(bigSep s A ∗ bigSep s B) :=
  BIBase.Entails.trans (bs_mono h) (BIBase.Entails.of_eq (bigSep_sep s A B))
theorem bs_zip (s : Finset (Dev nD)) (A B C : Dev nD → sProp 𝕄) (h : ∀ j, iprop(A j ∗ B j) ⊢ C j) : iprop(bigSep s A ∗ bigSep s B) ⊢ bigSep s C :=
  BIBase.Entails.trans (BIBase.Entails.of_eq (bigSep_sep s A B).symm) (bs_mono h)
theorem bs_own (Φ : Dev nD → sProp 𝕄) : bigSep Finset.univ Φ ⊣⊢ iprop(Φ c ∗ bigSep (Finset.univ.erase c) Φ) :=
  ⟨BIBase.Entails.of_eq (bigSep_erase (Finset.mem_univ c)), BIBase.Entails.of_eq (bigSep_erase (Finset.mem_univ c)).symm⟩

/-- The tokens of the duties a device discharges towards device `j`. -/
def soTok (j : Dev nD) : sProp 𝕄 := iprop(dutyTok ER (xc 0 c j) 0 0 ∗ dutyTok ER (xc 2 j c) 0 0 ∗ dutyTok ER (xc 1 c j) 0 0 ∗ dutyTok ER (xc 3 j c) 0 0)
def ysTok (j : Dev nD) : sProp 𝕄 := iprop(dutyTok ER (xc 4 c j) 0 0 ∗ dutyTok ER (xc 5 j c) 0 0)
def swAt (n : ℕ) (j : Dev nD) : sProp 𝕄 := iprop(atPos ER (xc 0 c j) n ∅ 0 ∗ atPos ER (xc 1 c j) n ∅ 0 ∗ atPos ER (xc 4 c j) n ∅ 0)
def rcAt (n : ℕ) (j : Dev nD) : sProp 𝕄 := iprop(atPos ER (xc 2 c j) n ∅ 0 ∗ atPos ER (xc 3 c j) n ∅ 0)

/-- The device's own part of the protocol at the start: tokens, credits, positions. -/
def prot : sProp 𝕄 :=
  iprop(bigSep (Finset.univ.erase c) (fun j => dutyTok ER (bar j) 0 c)
    ∗ (cred (tallyAt (bar c) () 15) ∗ atPos ER (bar c) 0 ∅ 0)
    ∗ bigSep (Finset.univ.erase c) (soTok c) ∗ bigSep (Finset.univ.erase c) (rcPre c) ∗ bigSep (Finset.univ.erase c) (ysTok c)
    ∗ bigSep (Finset.univ.erase c) (yrPre c) ∗ bigSep (Finset.univ.erase c) (swAt c 0))
/-- The positions at the end. -/
def protEnd : sProp 𝕄 :=
  iprop(atPos ER (bar c) 1 ∅ 0 ∗ bigSep (Finset.univ.erase c) (rcAt c 1) ∗ bigSep (Finset.univ.erase c) (fun j => atPos ER (xc 5 c j) 1 ∅ 0)
    ∗ bigSep (Finset.univ.erase c) (swAt c 1))
/-- The scratch buffers. -/
def scr : sProp 𝕄 := iprop(any c aC ∗ any c aE ∗ any c gC ∗ any c gE ∗ any c tC ∗ any c tE ∗ any c yM)
/-- The staged arguments. -/
def args : sProp 𝕄 := iprop(inR I c ∗ owns (c : Thread nD τ) wqM fullShare (I.wq c) ∗ owns (c : Thread nD τ) woM fullShare (I.wo c))

/-- What is held from the received barrier to the end of the waits, besides the running phase. -/
theorem so_intro : iprop(Ow c 16 0 0 ∗ bigSep (Finset.univ.erase c) (soTok c) ∗ owns (c : Thread nD τ) aC fullShare (I.ctx c)
      ∗ owns (c : Thread nD τ) aE fullShare (I.den c) ∗ (any c tC ∗ any c tE)
      ∗ bigSep (Finset.univ.erase c) (fun j => iprop(any j (gCq c) ∗ any j (gEq c)))) ⊢ soP I c 0 := by
  refine BIBase.Entails.trans ?_ (ph_start c _ _ _)
  unfold soR
  rw [if_pos (Nat.zero_le _)]
  iintro ⟨HO, HT, HC, HE, Ht, Hg⟩
  ihave HC := (aC_split c I) $$ HC
  ihave HE := (aE_split c I) $$ HE
  ihave HC := (bs_own c (fun j => owns (c : Thread nD τ) (aCr j) fullShare (I.ctxSlab c j))).1 $$ HC
  ihave HE := (bs_own c (fun j => owns (c : Thread nD τ) (aEr j) fullShare (I.denSlab c j))).1 $$ HE
  icases HC with ⟨HCc, HC⟩
  icases HE with ⟨HEc, HE⟩
  isplitr [HO HCc HEc Ht]
  · iapply (bs_zip _ (fun j => iprop(soTok c j ∗ owns (c : Thread nD τ) (aCr j) fullShare (I.ctxSlab c j)))
      (fun j => iprop(owns (c : Thread nD τ) (aEr j) fullShare (I.denSlab c j) ∗ any j (gCq c) ∗ any j (gEq c))) (soPre I c) fun j => by
        unfold soPre soTok
        iintro ⟨⟨H1, H2⟩, H3, H4⟩
        isplitl [H1]; · iexact H1
        isplitl [H2]; · iexact H2
        isplitl [H3]; · iexact H3
        iexact H4)
    isplitl [HT HC]
    · iapply (bs_zip _ (soTok c) (fun j => owns (c : Thread nD τ) (aCr j) fullShare (I.ctxSlab c j)) _ fun j => .rfl)
      isplitl [HT]; · iexact HT
      iexact HC
    · iapply (bs_zip _ (fun j => owns (c : Thread nD τ) (aEr j) fullShare (I.denSlab c j)) (fun j => iprop(any j (gCq c) ∗ any j (gEq c))) _ fun j => .rfl)
      isplitl [HE]; · iexact HE
      iexact Hg
  isplitl [HO]; · iexact HO
  isplitl [HCc HEc]
  · isplitl [HCc]; · iexact HCc
    iexact HEc
  iexact Ht

theorem sig_intro : iprop(Ow c 0 0 0 ∗ bigSep (Finset.univ.erase c) (fun j => dutyTok ER (bar j) 0 c) ∗ any c gC ∗ any c gE ∗ any c yM)
    ⊢ (iprop((any c (gCq c) ∗ any c (gEq c) ∗ any c (yMr c)) ∗ sigP c 0) : sProp 𝕄) := by
  iintro ⟨HO, HT, HC, HE, HY⟩
  ihave HC := (gC_split c) $$ HC
  ihave HE := (gE_split c) $$ HE
  ihave HY := (yM_split c) $$ HY
  ihave HC := (bs_own c (fun j => any c (gCq j))).1 $$ HC
  ihave HE := (bs_own c (fun j => any c (gEq j))).1 $$ HE
  ihave HY := (bs_own c (fun j => any c (yMr j))).1 $$ HY
  icases HC with ⟨HCc, HC⟩
  icases HE with ⟨HEc, HE⟩
  icases HY with ⟨HYc, HY⟩
  isplitl [HCc HEc HYc]
  · isplitl [HCc]; · iexact HCc
    isplitl [HEc]; · iexact HEc
    iexact HYc
  iapply (ph_start c _ _ _)
  isplitr [HO]
  · iapply (bs_zip _ (fun j => dutyTok ER (bar j) 0 c) (fun j => barPay j c) (sigPre c) fun j => .rfl)
    isplitl [HT]; · iexact HT
    iapply (bs_zip _ (fun j => any c (gCq j)) (fun j => iprop(any c (gEq j) ∗ any c (yMr j))) (fun j => barPay j c) fun j => .rfl)
    isplitl [HC]; · iexact HC
    iapply (bs_zip _ (fun j => any c (gEq j)) (fun j => any c (yMr j)) _ fun j => .rfl)
    isplitl [HE]; · iexact HE
    iexact HY
  unfold sigR; iexact HO

theorem ys_intro : iprop((bigSep (Finset.univ.erase c) (ysTok c) ∗ bigSep (Finset.univ.erase c) (fun j => any j (yMr c)))
      ∗ owns (c : Thread nD τ) (yMr c) fullShare (I.y c) ∗ ysR c 0)
    ⊢ iprop((owns (c : Thread nD τ) (yMr c) yRest (I.y c) ∗ owns (c : Thread nD τ) (yMr c) (ySh c) (I.y c)) ∗ ysP I c 0) := by
  iintro ⟨⟨HT, Hy⟩, HY, HO⟩
  ihave HY := (y_shares c (yMr c) (I.y c)).1 $$ HY
  icases HY with ⟨Hr, HY⟩
  ihave HY := (bs_own c (fun j => owns (c : Thread nD τ) (yMr c) (ySh j) (I.y c))).1 $$ HY
  icases HY with ⟨HYc, HY⟩
  isplitl [Hr HYc]
  · isplitl [Hr]; · iexact Hr
    iexact HYc
  iapply (ph_start c _ _ _)
  isplitr [HO]
  · iapply (bs_zip _ (ysTok c) (fun j => iprop(owns (c : Thread nD τ) (yMr c) (ySh j) (I.y c) ∗ any j (yMr c))) (ysPre I c) fun j => .rfl)
    isplitl [HT]; · iexact HT
    iapply (bs_zip _ (fun j => owns (c : Thread nD τ) (yMr c) (ySh j) (I.y c)) (fun j => any j (yMr c)) _ fun j => .rfl)
    isplitl [HY]; · iexact HY
    iexact Hy
  iexact HO

theorem sw_intro : iprop(bigSep (Finset.univ.erase c) (soPost c) ∗ bigSep (Finset.univ.erase c) (ysPost (F := F) c) ∗ bigSep (Finset.univ.erase c) (swAt c 0))
    ⊢ bigSep (Finset.univ.erase c) (swPre (F := F) c) := by
  iintro ⟨H1, H2, H3⟩
  iapply (bs_zip _ (soPost c) (fun j => iprop(ysPost (F := F) c j ∗ swAt c 0 j)) (swPre c) fun j => by
    unfold soPost ysPost swAt swPre
    iintro ⟨⟨H1, H2⟩, H3, H4⟩
    isplitr [H4]
    · isplitl [H1]; · iexact H1
      isplitl [H2]; · iexact H2
      iexact H3
    iexact H4)
  isplitl [H1]; · iexact H1
  iapply (bs_zip _ (ysPost (F := F) c) (swAt c 0) _ fun j => .rfl)
  isplitl [H2]; · iexact H2
  iexact H3

/-- The tail of the last part but the body's own. -/
theorem part35_rule (Q : _ → sProp 𝕄) :
    iprop(Gl I K ∗ Ow c 0 0 0 ∗ prot c ∗ args I c ∗ any c oM ∗ scr c
        ∗ (iprop(swP I c 14 ∗ atPos ER (bar c) 1 ∅ 0 ∗ bigSep (Finset.univ.erase c) (rcPost c) ∗ bigSep (Finset.univ.erase c) (yrPost c)
              ∗ args I c ∗ owns (c : Thread nD τ) oM fullShare (I.out c)
              ∗ (any c (gCq c) ∗ any c (gEq c)) ∗ (any c (aCr c) ∗ any c (aEr c)) ∗ (any c tC ∗ any c tE)
              ∗ owns (c : Thread nD τ) (yMr c) yRest (I.y c) ∗ owns (c : Thread nD τ) (yMr c) (ySh c) (I.y c)) -∗
            Q ⟨dw c, cne (dw c) 14#32⟩))
      ⊢ WP c (k0_part35 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12) Q := by
  rw [k0_part35_eq_skeleton]; unfold k0_part35_skel prot args scr
  iintro ⟨#HG, HO, ⟨HtB, HbB, HtS, HrP, HtY, HyP, HsA⟩, ⟨Hin, Hwq, Hwo⟩, Ho, ⟨HaC, HaE, HgC, HgE, HtC, HtE, HyM⟩, HQ⟩
  ihave H := (sig_intro c) $$ [HO HtB HgC HgE HyM]
  · isplitl [HO]; · iexact HO
    isplitl [HtB]; · iexact HtB
    isplitl [HgC]; · iexact HgC
    isplitl [HgE]; · iexact HgE
    iexact HyM
  icases H with ⟨⟨HgC, HgE, HyM⟩, H⟩
  iapply (bind_rule c _ _ Q)
  iapply (part17_rule I K c _)
  isplitr; · iexact HG
  isplitl [H]; · iexact H
  iintro H
  dsimp only
  iapply (bind_rule c _ _ Q)
  iapply (part18_rule I K c _)
  isplitr; · iexact HG
  isplitl [H]; · iexact H
  isplitl [HbB]; · iexact HbB
  isplitl [Hwq]; · iexact Hwq
  iintro ⟨HO, HA, HB, Hwq⟩
  dsimp only
  iapply (bind_rule c _ _ Q)
  iapply (part19_rule c _)
  dsimp only
  ihave HC : cR I c 0 $$ [HaC]
  · unfold any cR
    icases HaC with ⟨%X, HaC⟩
    iexists X
    isplitl [HaC]; · iexact HaC
    ipureintro; exact fun y h => absurd h (Nat.not_lt_zero _)
  ihave HE : eR I c 0 $$ [HaE]
  · unfold any eR
    icases HaE with ⟨%X, HaE⟩
    iexists X
    isplitl [HaE]; · iexact HaE
    ipureintro; exact fun y h => absurd h (Nat.not_lt_zero _)
  iapply (bind_rule c _ _ Q)
  iapply (part20_rule I c _)
  isplitl [Hin]; · iexact Hin
  isplitl [HC]; · iexact HC
  isplitl [HE]; · iexact HE
  iintro ⟨Hin, HC, HE⟩
  dsimp only
  iapply (bind_rule c _ _ Q)
  iapply (part21_rule I c _)
  isplitl [Hin]; · iexact Hin
  isplitl [HC]; · iexact HC
  isplitl [HE]; · iexact HE
  iintro ⟨Hin, HC, HE⟩
  dsimp only
  iapply (bind_rule c _ _ Q)
  iapply (part22_rule I c _)
  isplitl [Hin]; · iexact Hin
  isplitl [HC]; · iexact HC
  isplitl [HE]; · iexact HE
  iintro ⟨Hin, HC, HE⟩
  dsimp only
  iapply (bind_rule c _ _ Q)
  iapply (part23_rule I c _)
  isplitl [Hin]; · iexact Hin
  isplitl [HC]; · iexact HC
  isplitl [HE]; · iexact HE
  iintro ⟨Hin, HC, HE⟩
  dsimp only
  iapply (bind_rule c _ _ Q)
  iapply (part24_rule I c _)
  isplitl [Hin]; · iexact Hin
  isplitl [HC]; · iexact HC
  isplitl [HE]; · iexact HE
  iintro ⟨Hin, HC, HE⟩
  dsimp only
  ihave HB := (bs_split _ (fun d => iprop(any d (gCq c) ∗ any d (gEq c))) (fun d => any d (yMr c)) (fun d => barPay c d) fun d => by
    unfold barPay
    iintro ⟨H1, H2, H3⟩
    isplitr [H3]
    · isplitl [H1]; · iexact H1
      iexact H2
    iexact H3) $$ HB
  icases HB with ⟨HBg, HBy⟩
  iapply (bind_rule c _ _ Q)
  iapply (part25_rule I K c _)
  isplitr; · iexact HG
  isplitl [HE]; · iexact HE
  isplitl [HO HtS HC HtC HtE HBg]
  · iintro HE
    unfold cR
    icases HC with ⟨%X, HC, %hX⟩
    rw [ctxOk_all I c X hX]
    iapply (so_intro I c)
    isplitl [HO]; · iexact HO
    isplitl [HtS]; · iexact HtS
    isplitl [HC]; · iexact HC
    isplitl [HE]; · iexact HE
    isplitl [HtC HtE]
    · isplitl [HtC]; · iexact HtC
      iexact HtE
    iexact HBg
  iintro H
  iapply (bind_rule c _ _ Q)
  iapply (part26_rule I K c _)
  isplitr; · iexact HG
  isplitl [H]; · iexact H
  iintro H
  iapply (bind_rule c _ _ Q)
  iapply (part27_rule I K c _)
  isplitr; · iexact HG
  isplitl [H]; · iexact H
  iintro H
  iapply (bind_rule c _ _ Q)
  iapply (part28_rule I K c _)
  isplitr; · iexact HG
  isplitl [H]; · iexact H
  isplitl [HrP]; · iexact HrP
  unfold soEnd
  iintro ⟨⟨HsP, HaC, HaE⟩, H⟩
  iapply (bind_rule c _ _ Q)
  iapply (part29_rule I K c _)
  isplitr; · iexact HG
  isplitl [H]; · iexact H
  iintro H
  ihave H := (ph_end c _ _ _) $$ H
  icases H with ⟨HrP, H⟩
  iapply (bind_rule c _ _ Q)
  iapply (part30_rule I K c iprop(owns (c : Thread nD τ) (yMr c) yRest (I.y c) ∗ owns (c : Thread nD τ) (yMr c) (ySh c) (I.y c)) _)
  isplitr; · iexact HG
  isplitl [H]; · iexact H
  isplitl [HyM]; · iexact HyM
  isplitl [HtY HBy]
  · iintro H
    iapply (ys_intro I c)
    isplitr [H]
    · isplitl [HtY]; · iexact HtY
      iexact HBy
    iexact H
  iintro ⟨HtC, HtE, ⟨Hyr, Hyc⟩, H⟩
  dsimp only
  iapply (bind_rule c _ _ Q)
  iapply (part31_rule I K c _ _ _)
  isplitr; · iexact HG
  isplitl [H]; · iexact H
  isplitl [Hwo]; · iexact Hwo
  iintro ⟨H, Hwo⟩
  ihave H := (ph_end c _ _ _) $$ H
  unfold ysR
  icases H with ⟨HyS, HO⟩
  iapply (bind_rule c _ _ Q)
  iapply (part32_rule I K c _)
  isplitr; · iexact HG
  isplitl [HO]; · iexact HO
  isplitl [Hyr]; · iexact Hyr
  isplitl [Ho]; · iexact Ho
  isplitl [HyP]; · iexact HyP
  iintro ⟨H, Hyr⟩
  dsimp only
  iapply (bind_rule c _ _ Q)
  iapply (part33_rule I K c _)
  isplitr; · iexact HG
  isplitl [H]; · iexact H
  iintro H
  iapply (bind_rule c _ _ Q)
  iapply (part34_rule I K c _)
  isplitr; · iexact HG
  isplitl [H]; · iexact H
  isplitl [HsP HyS HsA]
  · iapply (sw_intro c)
    isplitl [HsP]; · iexact HsP
    isplitl [HyS]; · iexact HyS
    iexact HsA
  iintro ⟨⟨HyP, Ho⟩, H⟩
  iapply (part_rule c (p' := chain (swaitBlk c) [7, 8, 9, 10, 11, 12, 13] (pure ⟨dw c, cne (dw c) 14#32⟩)) ?tail Q)
  case tail =>
    refine Eq.trans (b := swaitBlk c 7 _) rfl (congrArg (swaitBlk c 7) ?_)
    refine Eq.trans (b := swaitBlk c 8 _) rfl (congrArg (swaitBlk c 8) ?_)
    refine Eq.trans (b := swaitBlk c 9 _) rfl (congrArg (swaitBlk c 9) ?_)
    refine Eq.trans (b := swaitBlk c 10 _) rfl (congrArg (swaitBlk c 10) ?_)
    refine Eq.trans (b := swaitBlk c 11 _) rfl (congrArg (swaitBlk c 11) ?_)
    refine Eq.trans (b := swaitBlk c 12 _) rfl (congrArg (swaitBlk c 12) ?_)
    refine Eq.trans (b := swaitBlk c 13 _) rfl (congrArg (swaitBlk c 13) ?_)
    rfl
  iapply (sw_phase I K c _ 7 14 rfl rfl _ Q)
  isplitr; · iexact HG
  isplitl [H]; · iexact H
  iintro H
  iapply (done c _ _ rfl Q)
  iapply HQ
  isplitl [H]; · iexact H
  isplitl [HA]; · iexact HA
  isplitl [HrP]; · iexact HrP
  isplitl [HyP]; · iexact HyP
  isplitl [Hin Hwq Hwo]
  · isplitl [Hin]; · iexact Hin
    isplitl [Hwq]; · iexact Hwq
    iexact Hwo
  isplitl [Ho]; · iexact Ho
  isplitl [HgC HgE]
  · isplitl [HgC]; · iexact HgC
    iexact HgE
  isplitl [HaC HaE]
  · isplitl [HaC]; · iapply (own_any c (aCr c) _); iexact HaC
    iapply (own_any c (aEr c) _); iexact HaE
  isplitl [HtC HtE]
  · isplitl [HtC]; · iapply (own_any c tC _); iexact HtC
    iapply (own_any c tE _); iexact HtE
  isplitl [Hyr]; · iexact Hyr
  iexact Hyc

theorem aC_back : iprop(any c (aCr c) ∗ bigSep (Finset.univ.erase c) (fun j => any c (aCr j))) ⊢ (any c aC : sProp 𝕄) :=
  BIBase.Entails.trans (bs_own c (fun j => any c (aCr j))).2 (aC_join c)
theorem aE_back : iprop(any c (aEr c) ∗ bigSep (Finset.univ.erase c) (fun j => any c (aEr j))) ⊢ (any c aE : sProp 𝕄) :=
  BIBase.Entails.trans (bs_own c (fun j => any c (aEr j))).2 (aE_join c)
theorem gC_back : iprop(any c (gCq c) ∗ bigSep (Finset.univ.erase c) (fun j => any c (gCq j))) ⊢ (any c gC : sProp 𝕄) :=
  BIBase.Entails.trans (bs_own c (fun j => any c (gCq j))).2 (gC_join c)
theorem gE_back : iprop(any c (gEq c) ∗ bigSep (Finset.univ.erase c) (fun j => any c (gEq j))) ⊢ (any c gE : sProp 𝕄) :=
  BIBase.Entails.trans (bs_own c (fun j => any c (gEq j))).2 (gE_join c)
theorem yM_back : iprop(any c (yMr c) ∗ bigSep (Finset.univ.erase c) (fun j => any c (yMr j))) ⊢ (any c yM : sProp 𝕄) :=
  BIBase.Entails.trans (bs_own c (fun j => any c (yMr j))).2 (yM_join c)
theorem y_back : iprop(owns (c : Thread nD τ) (yMr c) yRest (I.y c) ∗ owns (c : Thread nD τ) (yMr c) (ySh c) (I.y c)
      ∗ bigSep (Finset.univ.erase c) (fun j => owns (c : Thread nD τ) (yMr c) (ySh j) (I.y c))) ⊢ (any c (yMr c) : sProp 𝕄) := by
  iintro ⟨H1, H2, H3⟩
  iapply (own_any c (yMr c) (I.y c))
  iapply (y_shares c (yMr c) (I.y c)).2
  isplitl [H1]; · iexact H1
  iapply (bs_own c (fun j => owns (c : Thread nD τ) (yMr c) (ySh j) (I.y c))).2
  isplitl [H2]; · iexact H2
  iexact H3

/-- The whole body of device `c`. -/
theorem body_rule (Q : _ → sProp 𝕄) :
    iprop(Gl I K ∗ Ow c 0 0 0 ∗ prot c ∗ args I c ∗ any c oM ∗ scr c
        ∗ (iprop(Ow c 16 16 16 ∗ protEnd c ∗ args I c ∗ owns (c : Thread nD τ) oM fullShare (I.out c) ∗ scr c) -∗ Q ⟨⟩))
      ⊢ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12) Q := by
  rw [cc0_body_eq_skeleton]; unfold cc0_body_skel
  iintro ⟨#HG, HO, HP, HA, Ho, HS, HQ⟩
  iapply (bind_rule c _ _ Q)
  iapply (part35_rule I K c _)
  isplitr; · iexact HG
  isplitl [HO]; · iexact HO
  isplitl [HP]; · iexact HP
  isplitl [HA]; · iexact HA
  isplitl [Ho]; · iexact Ho
  isplitl [HS]; · iexact HS
  iintro ⟨H, HB, HrP, HyP, HA, Ho, ⟨HgC, HgE⟩, ⟨HaC, HaE⟩, ⟨HtC, HtE⟩, Hyr, Hyc⟩
  dsimp only
  iapply (part_rule c (p' := chain (swaitBlk c) [14, 15] (pure ⟨⟩)) ?tail Q)
  case tail =>
    refine Eq.trans (b := swaitBlk c 14 _) rfl (congrArg (swaitBlk c 14) ?_)
    refine Eq.trans (b := swaitBlk c 15 _) rfl (congrArg (swaitBlk c 15) ?_)
    rfl
  iapply (sw_phase I K c _ 14 16 rfl rfl _ Q)
  isplitr; · iexact HG
  isplitl [H]; · iexact H
  iintro H
  ihave H := (ph_end c _ _ _) $$ H
  unfold swR
  icases H with ⟨HsP, HO⟩
  ihave HrP := (bs_split _ (rcAt c 1) (fun j => iprop(any c (gCq j) ∗ any c (gEq j))) (rcPost c) fun j => .rfl) $$ HrP
  icases HrP with ⟨HrA, HrP⟩
  ihave HrP := (bs_split _ (fun j => any c (gCq j)) (fun j => any c (gEq j)) _ fun j => .rfl) $$ HrP
  icases HrP with ⟨HgCs, HgEs⟩
  ihave HyP := (bs_split _ (fun j => atPos ER (xc 5 c j) 1 ∅ 0) (fun j => any c (yMr j)) (yrPost c) fun j => .rfl) $$ HyP
  icases HyP with ⟨HyA, Hys⟩
  ihave HsP := (bs_split _ (swAt c 1) (fun j => iprop(any c (aCr j) ∗ any c (aEr j) ∗ owns (c : Thread nD τ) (yMr c) (ySh j) (I.y c))) (swPost I c) fun j => .rfl) $$ HsP
  icases HsP with ⟨HsA, HsP⟩
  ihave HsP := (bs_split _ (fun j => any c (aCr j)) (fun j => iprop(any c (aEr j) ∗ owns (c : Thread nD τ) (yMr c) (ySh j) (I.y c))) _ fun j => .rfl) $$ HsP
  icases HsP with ⟨HaCs, HsP⟩
  ihave HsP := (bs_split _ (fun j => any c (aEr j)) (fun j => owns (c : Thread nD τ) (yMr c) (ySh j) (I.y c)) _ fun j => .rfl) $$ HsP
  icases HsP with ⟨HaEs, Hyo⟩
  iapply (done c _ _ rfl Q)
  iapply HQ
  isplitl [HO]; · iexact HO
  isplitl [HB HrA HyA HsA]
  · unfold protEnd
    isplitl [HB]; · iexact HB
    isplitl [HrA]; · iexact HrA
    isplitl [HyA]; · iexact HyA
    iexact HsA
  isplitl [HA]; · iexact HA
  isplitl [Ho]; · iexact Ho
  unfold scr
  isplitl [HaC HaCs]
  · iapply (aC_back c)
    isplitl [HaC]; · iexact HaC
    iexact HaCs
  isplitl [HaE HaEs]
  · iapply (aE_back c)
    isplitl [HaE]; · iexact HaE
    iexact HaEs
  isplitl [HgC HgCs]
  · iapply (gC_back c)
    isplitl [HgC]; · iexact HgC
    iexact HgCs
  isplitl [HgE HgEs]
  · iapply (gE_back c)
    isplitl [HgE]; · iexact HgE
    iexact HgEs
  isplitl [HtC]; · iexact HtC
  isplitl [HtE]; · iexact HtE
  iapply (yM_back c)
  isplitr [Hys]
  · iapply (y_back I c)
    isplitl [Hyr]; · iexact Hyr
    isplitl [Hyc]; · iexact Hyc
    iexact Hyo
  iexact Hys

end Body

end Cert.KernelIdeal.Hand

end
-- ==== Proof.KernelIdealGhost.lean ====
/-
The launch's share of the protocol: every device's cells, tokens, positions and credits, dealt to the devices that use them.
-/
module

public import proofs.«01_k».proof.Proof.KernelIdealBody
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 65536

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

/-! ## Conjunctions over index sets -/

theorem bs_opt (Φ : CI → sProp 𝕄) : bigSep Finset.univ Φ = iprop(Φ none ∗ bigSep Finset.univ fun p : Fin 6 × Fin 16 => Φ (some p)) := by
  have h : (Finset.univ : Finset CI).erase none = Finset.univ.map (⟨some, Option.some_injective _⟩ : Fin 6 × Fin 16 ↪ CI) := by
    ext o; rcases o with _ | p <;> simp
  rw [bigSep_univ_at Φ none, h, bigSep_map]; rfl

/-- The six transfer cells of one partner. -/
def six (Φ : Fin 6 → sProp 𝕄) : sProp 𝕄 := iprop(Φ 0 ∗ Φ 1 ∗ Φ 2 ∗ Φ 3 ∗ Φ 4 ∗ Φ 5)
theorem bs_six (Φ : Fin 6 → sProp 𝕄) : bigSep Finset.univ Φ = six Φ := bigSep_univ_eq_bigSepL [0, 1, 2, 3, 4, 5] (by decide) (by decide) Φ
theorem bs_pairs (Φ : Fin 6 × Fin 16 → sProp 𝕄) : bigSep Finset.univ Φ = bigSep Finset.univ fun j : Fin 16 => six fun k => Φ (k, j) := by
  rw [bigSep_univ_prod, bigSep_univ_comm]
  exact bigSep_congr fun j _ => bs_six _
theorem bs_cells (Φ : CI → sProp 𝕄) : bigSep Finset.univ Φ = iprop(Φ none ∗ bigSep Finset.univ fun j : Fin 16 => six fun k => Φ (some (k, j))) := by
  rw [bs_opt, bs_pairs]

theorem bs_pers {ι : Type} [DecidableEq ι] {S : Finset ι} {R : sProp 𝕄} [BI.Persistent R] {Φ Ψ : ι → sProp 𝕄}
    (h : ∀ i ∈ S, iprop(R ∗ Φ i) ⊢ Ψ i) : iprop(R ∗ bigSep S Φ) ⊢ (bigSep S Ψ : sProp 𝕄) :=
  BIBase.Entails.trans (sep_mono_left (BI.bigSep_of_persistent S R)) (by rw [← bigSep_sep']; exact bigSep_mono h)

theorem bs_mono_mem {J : Type} {s : Finset J} {Φ Ψ : J → sProp 𝕄} (h : ∀ j ∈ s, Φ j ⊢ Ψ j) : bigSep s Φ ⊢ (bigSep s Ψ : sProp 𝕄) := bigSep_mono h

/-- Over all devices, one put aside and forgotten. -/
theorem bs_drop (c : Dev nD) (Φ : Dev nD → sProp 𝕄) : bigSep Finset.univ Φ ⊢ (bigSep (Finset.univ.erase c) Φ : sProp 𝕄) := by
  rw [bigSep_univ_at Φ c]; iintro ⟨-, H⟩; iexact H

/-! ## The cells and the tokens -/

abbrev cellAt (p : Dev nD × CI) : GSem nD τ sig := kcell p.1 p.2
theorem cellAt_inj : Function.Injective cellAt := by
  rintro ⟨c, i⟩ ⟨c', i'⟩ h
  have h1 : c = c' := congrArg (fun g : GSem nD τ sig => g.1.1) h
  have h2 : i = i' := csem_inj (congrArg Prod.snd h)
  rw [h1, h2]
def cells : Finset (GSem nD τ sig) := Finset.univ.map ⟨cellAt, cellAt_inj⟩

/-- Which token: its cell's device, the partner, and which of the seven cells of that pair. -/
abbrev tokAt (p : Dev nD × Dev nD × Option (Fin 6)) : GSem nD τ sig × ℕ × Dev nD :=
  match p.2.2 with
  | none => (bar p.1, 0, p.2.1)
  | some k => (xc k p.1 p.2.1, 0, 0)
theorem tokAt_inj : Function.Injective tokAt := by
  rintro ⟨c, j, o⟩ ⟨c', j', o'⟩ h
  have h1 : c = c' := by
    have h := congrArg (fun x : GSem nD τ sig × ℕ × Dev nD => x.1.1.1) h
    rcases o with _ | k <;> rcases o' with _ | k' <;> exact h
  subst h1
  have hs := congrArg (fun x : GSem nD τ sig × ℕ × Dev nD => x.1.2) h
  have hd := congrArg (fun x : GSem nD τ sig × ℕ × Dev nD => x.2.2) h
  rcases o with _ | k <;> rcases o' with _ | k'
  · have hd : j = j' := hd
    rw [hd]
  · exact absurd (csem_inj (show csem none = csem (some (k', j')) from hs)) (by simp)
  · exact absurd (csem_inj (show csem (some (k, j)) = csem none from hs)) (by simp)
  · have hs := Option.some.inj (csem_inj (show csem (some (k, j)) = csem (some (k', j')) from hs))
    rw [Prod.mk.injEq] at hs
    rw [hs.1, hs.2]
def toks : Finset (GSem nD τ sig × ℕ × Dev nD) := Finset.univ.map ⟨tokAt, tokAt_inj⟩

def u₀ : UU := (initOf (Pipeline.cells cfgs cellOf_inj) (Pipeline.launchToks cfgs cellOf_inj), initOf cells toks)

/-- The tokens of the cells of `c` that `j` pays into, and of those that `c` pays into itself. -/
def tokIn (c j : Dev nD) : sProp 𝕄 :=
  iprop(dutyTok ER (bar c) 0 j ∗ dutyTok ER (xc 2 c j) 0 0 ∗ dutyTok ER (xc 3 c j) 0 0 ∗ dutyTok ER (xc 5 c j) 0 0)
def tokOwn (c j : Dev nD) : sProp 𝕄 :=
  iprop(dutyTok ER (xc 0 c j) 0 0 ∗ dutyTok ER (xc 1 c j) 0 0 ∗ dutyTok ER (xc 4 c j) 0 0)

theorem bs_tok (Φ : Option (Fin 6) → sProp 𝕄) : bigSep Finset.univ Φ = iprop(Φ none ∗ Φ (some 0) ∗ Φ (some 1) ∗ Φ (some 2) ∗ Φ (some 3) ∗ Φ (some 4) ∗ Φ (some 5)) :=
  bigSep_univ_eq_bigSepL [none, some 0, some 1, some 2, some 3, some 4, some 5] (by decide) (by decide) Φ

theorem toks_deal : (bigSep toks (fun x => (dutyTok ER x.1 x.2.1 x.2.2 : sProp 𝕄)))
    ⊢ bigSep Finset.univ fun c : Dev nD => bigSep Finset.univ fun j : Dev nD => iprop(tokIn c j ∗ tokOwn c j) := by
  unfold toks
  rw [bigSep_map, bigSep_univ_prod]
  refine bs_mono fun c => ?_
  rw [bigSep_univ_prod]
  refine bs_mono fun j => ?_
  rw [bs_tok]
  dsimp only [Function.Embedding.coeFn_mk]
  unfold tokIn tokOwn
  iintro ⟨Hb, H0, H1, H2, H3, H4, H5⟩
  isplitl [Hb H2 H3 H5]
  · isplitl [Hb]; · iexact Hb
    isplitl [H2]; · iexact H2
    isplitl [H3]; · iexact H3
    iexact H5
  isplitl [H0]; · iexact H0
  isplitl [H1]; · iexact H1
  iexact H4

/-- The tokens device `c` pays with. -/
def payToks (c : Dev nD) : sProp 𝕄 :=
  iprop(bigSep (Finset.univ.erase c) (fun j => dutyTok ER (bar j) 0 c)
    ∗ bigSep (Finset.univ.erase c) (soTok (F := F) c) ∗ bigSep (Finset.univ.erase c) (ysTok (F := F) c))

theorem payToks_intro (c : Dev nD) : (bigSep Finset.univ fun j : Dev nD => iprop(tokIn j c ∗ tokOwn c j)) ⊢ (payToks c : sProp 𝕄) := by
  refine BIBase.Entails.trans (bs_drop c _) ?_
  unfold payToks
  rw [← bigSep_sep', ← bigSep_sep']
  refine bs_mono fun j => ?_
  unfold tokIn tokOwn soTok ysTok
  iintro ⟨⟨Hb, H2, H3, H5⟩, H0, H1, H4⟩
  isplitl [Hb]; · iexact Hb
  isplitl [H0 H1 H2 H3]
  · isplitl [H0]; · iexact H0
    isplitl [H2]; · iexact H2
    isplitl [H1]; · iexact H1
    iexact H3
  isplitl [H4]; · iexact H4
  iexact H5

theorem toks_around : (bigSep Finset.univ fun c : Dev nD => bigSep Finset.univ fun j : Dev nD => iprop(tokIn c j ∗ tokOwn c j))
    ⊢ (bigSep Finset.univ fun c : Dev nD => payToks c : sProp 𝕄) := by
  have h : (bigSep Finset.univ fun c : Dev nD => bigSep Finset.univ fun j : Dev nD => (iprop(tokIn c j ∗ tokOwn c j) : sProp 𝕄))
      = bigSep Finset.univ fun c : Dev nD => bigSep Finset.univ fun j : Dev nD => iprop(tokIn j c ∗ tokOwn c j) := by
    have e1 : (fun c : Dev nD => bigSep Finset.univ fun j : Dev nD => (iprop(tokIn c j ∗ tokOwn c j) : sProp 𝕄))
        = fun c => iprop((bigSep Finset.univ fun j => tokIn c j) ∗ bigSep Finset.univ fun j => tokOwn c j) := funext fun c => bigSep_sep' _ _ _
    have e2 : (fun c : Dev nD => bigSep Finset.univ fun j : Dev nD => (iprop(tokIn j c ∗ tokOwn c j) : sProp 𝕄))
        = fun c => iprop((bigSep Finset.univ fun j => tokIn j c) ∗ bigSep Finset.univ fun j => tokOwn c j) := funext fun c => bigSep_sep' _ _ _
    rw [e1, e2, bigSep_sep', bigSep_sep', bigSep_univ_comm (fun c j => (tokIn c j : sProp 𝕄))]
  rw [h]
  exact bigSep_mono fun c _ => payToks_intro c

section Fund
variable (I : Inp F)

/-- What the launch element deals device `c`. -/
def G (c : Dev nD) : sProp 𝕄 :=
  iprop((bigSep Finset.univ fun i : CI => roundState ER (Rd I) (kcell c i) 0)
    ∗ (bigSep Finset.univ fun i : CI => iprop(atPos ER (kcell c i) 0 ∅ 0 ∗ reached ER (kcell c i) 0))
    ∗ bigSep Finset.univ fun j : Dev nD => iprop(tokIn c j ∗ tokOwn c j))

theorem fund_cells : BI.own (ER (initOf cells toks)) ⊢ (|==> bigSep Finset.univ (G I) : sProp 𝕄) := by
  have hX (Φ : GSem nD τ sig → sProp 𝕄) : bigSep cells Φ = bigSep Finset.univ fun c : Dev nD => bigSep Finset.univ fun i : CI => Φ (kcell c i) := by
    unfold cells; rw [bigSep_map, bigSep_univ_prod]; rfl
  iintro HX
  imod (Rounds.fund ER (Rd I) cells toks) $$ HX with ⟨Hst, Hr, Hat, Htok⟩
  imodintro
  ihave Hst' := (BIBase.Entails.of_eq (hX fun g => roundState ER (Rd I) g 0)) $$ Hst
  ihave Hat' := (BIBase.Entails.of_eq (hX fun g => atPos ER g 0 ∅ 0)) $$ Hat
  ihave Hr' := (BIBase.Entails.of_eq (hX fun g => reached ER g 0)) $$ Hr
  ihave Htok' := (toks_deal (F := F)) $$ Htok
  unfold G; simp only [bigSep_sep']
  isplitl [Hst']; · iexact Hst'
  isplitl [Hat' Hr']
  · isplitl [Hat'] <;> iassumption
  iexact Htok'

/-! ## The semaphores -/

/-- The kernel's own semaphores: all of the transfers'. -/
abbrev osem (p : Fin 6 × Fin 16) : SemLoc sig := .dma (xsem p.1 p.2)

theorem ownSems0_eq (c : Dev nD) : (Pipeline.ownSems0 (Ix := Unit) (Name := ℕ) (U := UU) (Lvl := ℕ) (Val := Elt F) (τ := τ) osem c : sProp 𝕄)
    = bigSep Finset.univ fun p : Fin 6 × Fin 16 => semVal (kcell c (some p)) 0 := rfl
theorem unscopedSems0_eq (c : Dev nD) : (unscopedSems0 c : sProp 𝕄) = semVal (bar c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell c i) 0 : sProp 𝕄) := by
  rw [ownSems0_eq, unscopedSems0_eq, bs_opt]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun i : CI => iprop(∃ κ : ℕ, cellInv ER (Rd I) κ (kcell c i)))
          ∗ (bigSep Finset.univ fun i : CI => iprop(atPos ER (kcell c i) 0 ∅ 0 ∗ reached ER (kcell c i) 0))
          ∗ bigSep Finset.univ fun j : Dev nD => iprop(tokIn c j ∗ tokOwn c j)) := by
  unfold G
  iintro ⟨Hos, Hus, Hst, Hat, Htok⟩
  ihave Hv := (sems0_eq (F := F) c) $$ [Hos Hus]
  · isplitl [Hos] <;> iassumption
  imod (show iprop((bigSep Finset.univ fun i : CI => semVal (kcell c i) 0) ∗ bigSep Finset.univ fun i : CI => roundState ER (Rd I) (kcell c i) 0)
      ⊢ (|={Set.univ}=> bigSep Finset.univ fun i : CI => iprop(∃ κ : ℕ, cellInv ER (Rd I) κ (kcell c i)) : sProp 𝕄) from by
        rw [← bigSep_sep']
        exact (bigSep_mono fun i _ => (Rounds.body_intro ER (Rd I) (kcell c i)).trans inv_alloc).trans (bigSep_fupd _ _)) $$ [Hv Hst] with Hinv
  · isplitl [Hv] <;> iassumption
  imodintro
  isplitl [Hinv]; · iexact Hinv
  isplitl [Hat]; · iexact Hat
  iexact Htok

/-- What every device knows, but the levels. -/
def records (K : Dev nD × CI → ℕ) : sProp 𝕄 :=
  iprop((bigSep Finset.univ fun p : Dev nD × CI => cellInv ER (Rd I) (K p) (kcell p.1 p.2))
    ∗ bigSep Finset.univ fun p : Dev nD × CI => reached ER (kcell p.1 p.2) 0)
instance records_persistent (K : Dev nD × CI → ℕ) : BI.Persistent (records I K) := by unfold records; infer_instance

def ats (c : Dev nD) : sProp 𝕄 := bigSep Finset.univ fun i : CI => atPos ER (kcell c i) 0 ∅ 0

/-- What the global step makes of a device's share. -/
def G' (c : Dev nD) : sProp 𝕄 := iprop(∃ K, records I K ∗ ats c ∗ payToks c)

theorem regroup :
    (bigSep Finset.univ fun c => iprop((bigSep Finset.univ fun i : CI => iprop(∃ κ : ℕ, cellInv ER (Rd I) κ (kcell c i)))
          ∗ (bigSep Finset.univ fun i : CI => iprop(atPos ER (kcell c i) 0 ∅ 0 ∗ reached ER (kcell c i) 0))
          ∗ bigSep Finset.univ fun j : Dev nD => iprop(tokIn c j ∗ tokOwn c j)) : sProp 𝕄)
      ⊢ bigSep Finset.univ (G' I) := by
  rw [bigSep_sep', bigSep_sep', ← bigSep_univ_prod (fun p : Dev nD × CI => iprop(∃ κ : ℕ, cellInv ER (Rd I) κ (kcell p.1 p.2))),
    bigSep_congr (s := Finset.univ) (fun (c : Dev nD) _ => bigSep_sep' Finset.univ (fun i : CI => (atPos ER (kcell c i) 0 ∅ 0 : sProp 𝕄)) (fun i => reached ER (kcell c i) 0)),
    bigSep_sep', ← bigSep_univ_prod (fun p : Dev nD × CI => (reached ER (kcell p.1 p.2) 0 : sProp 𝕄))]
  iintro ⟨HI, ⟨Hat, #HR⟩, Htok⟩
  ihave HK := (BI.bigSep_exists_pi Finset.univ (fun (p : Dev nD × CI) (κ : ℕ) => (cellInv ER (Rd I) κ (kcell p.1 p.2) : sProp 𝕄))) $$ HI
  icases HK with ⟨%K, #HI⟩
  ihave Htk := (toks_around (F := F)) $$ Htok
  iapply (bs_pers (R := records I K) (Φ := fun c => iprop(ats c ∗ payToks c)) fun c _ => by
    unfold G'
    iintro H
    iexists K
    iexact H)
  isplitr
  · unfold records; isplitl; · iexact HI
    iexact HR
  · rw [bigSep_sep']
    isplitl [Hat]
    · unfold ats; iexact Hat
    iexact Htk

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

end Fund

/-! ## The credit at the launch -/

/-- What device `d` owes the cell `i` of any other device. -/
def dueTo (d : Dev nD) (i : CI) : ℕ :=
  (if i = none then 1 else 0) + ((if i = some (2, d) then NC else 0) + (if i = some (3, d) then NE else 0)) + (if i = some (5, d) then NC else 0)

theorem tally_cell (j c : Dev nD) (i i' : CI) (n : ℕ) :
    (tallyAt (kcell j i') () n : CellTallies nD τ sig Unit) (kcell c i) () = if j = c then (if i = i' then n else 0) else 0 := by
  rw [tallyAt_apply]
  by_cases h : j = c
  · subst h
    rw [if_pos rfl]
    by_cases hi : i = i'
    · subst hi; rw [if_pos rfl, if_pos ⟨rfl, rfl⟩]
    · rw [if_neg hi, if_neg fun e => hi (csem_inj (congrArg Prod.snd e.1))]
  · rw [if_neg h, if_neg fun e => h (congrArg (fun g : GSem nD τ sig => g.1.1) e.1).symm]

theorem sum_cell (d c : Dev nD) (i i' : CI) (n : ℕ) :
    (∑ j ∈ Finset.univ.erase d, (tallyAt (kcell j i') () n : CellTallies nD τ sig Unit)) (kcell c i) () = if c = d then 0 else (if i = i' then n else 0) := by
  rw [Finset.sum_apply, Finsupp.finset_sum_apply, Finset.sum_congr rfl fun j _ => tally_cell j c i i' n, Finset.sum_ite_eq' (Finset.univ.erase d) c fun _ => if i = i' then n else 0]
  by_cases h : c = d
  · rw [if_pos h, if_neg fun e => (Finset.mem_erase.mp e).1 h]
  · rw [if_neg h, if_pos (Finset.mem_erase.mpr ⟨h, Finset.mem_univ _⟩)]

theorem owed_at (d c : Dev nD) (i : CI) : owed d 0 0 0 (kcell c i) () = if c = d then 0 else dueTo d i := by
  unfold owed
  rw [todo_all, Finset.sum_add_distrib, Pi.add_apply, Finsupp.add_apply, Pi.add_apply, Finsupp.add_apply, Pi.add_apply, Finsupp.add_apply]
  unfold oB oC oE oY
  rw [sum_cell, sum_cell, sum_cell, sum_cell]
  by_cases h : c = d
  · simp only [if_pos h]; rfl
  · simp only [if_neg h]; rfl

/-- The credit of the cell `i` of device `c` at the launch. -/
def credOf (c : Dev nD) (i : CI) : ℕ := ∑ d : Dev nD, if c = d then 0 else dueTo d i

theorem launch_cell (c : Dev nD) (i : CI) :
    tallyOn (kcell c i) (launchCredit (Pipeline.owing fun d => owed d 0 0 0) 0 (kcell c i)) = (tallyAt (kcell c i) () (credOf c i) : CellTallies nD τ sig Unit) := by
  unfold tallyAt; refine congrArg _ (Finsupp.ext fun u => ?_); cases u
  rw [Pipeline.launchCredit_owing, Finsupp.single_eq_same, Finset.sum_congr rfl fun d _ => owed_at d c i]; rfl

theorem credOf_bar (c : Dev nD) : credOf c none = 15 := by
  unfold credOf dueTo
  revert c; decide
theorem credOf_x (c j : Dev nD) (hj : j ≠ c) (k : Fin 6) (n : ℕ) (h : ∀ d : Dev nD, dueTo d (some (k, j)) = if d = j then n else 0) : credOf c (some (k, j)) = n := by
  unfold credOf
  rw [Finset.sum_eq_single j]
  · rw [if_neg (Ne.symm hj), h, if_pos rfl]
  · intro d _ hd
    rw [h, if_neg hd]; split <;> rfl
  · intro h; exact absurd (Finset.mem_univ _) h
theorem due_2 (j d : Dev nD) : dueTo d (some (2, j)) = if d = j then Nk 2 else 0 := by
  unfold dueTo Nk
  by_cases h : d = j
  · subst h; simp
  · simp [h, Ne.symm h]
theorem due_3 (j d : Dev nD) : dueTo d (some (3, j)) = if d = j then Nk 3 else 0 := by
  unfold dueTo Nk
  by_cases h : d = j
  · subst h; simp
  · simp [h, Ne.symm h]
theorem due_5 (j d : Dev nD) : dueTo d (some (5, j)) = if d = j then Nk 5 else 0 := by
  unfold dueTo Nk
  by_cases h : d = j
  · subst h; simp
  · simp [h, Ne.symm h]

def credIn (c j : Dev nD) : sProp 𝕄 :=
  iprop(cred (tallyAt (xc 2 c j) () (Nk 2)) ∗ cred (tallyAt (xc 3 c j) () (Nk 3)) ∗ cred (tallyAt (xc 5 c j) () (Nk 5)))

theorem creds (c : Dev nD) :
    (Pipeline.launchCred (fun d => owed d 0 0 0) c : sProp 𝕄) ⊢ iprop(cred (tallyAt (bar c) () 15) ∗ bigSep (Finset.univ.erase c) (credIn c)) := by
  unfold Pipeline.launchCred
  refine BIBase.Entails.trans (BI.bigSep_subset (Finset.subset_univ (Finset.univ.map ⟨csem, csem_inj⟩))) ?_
  rw [bigSep_map]
  have e : (bigSep Finset.univ fun i : CI => (cred (tallyOn (kcell c i) (launchCredit (Pipeline.owing fun d => owed d 0 0 0) 0 (kcell c i))) : sProp 𝕄))
      = bigSep Finset.univ fun i : CI => cred (tallyAt (kcell c i) () (credOf c i)) := bigSep_congr fun i _ => by rw [launch_cell]
  refine BIBase.Entails.trans (BIBase.Entails.of_eq e) ?_
  rw [bs_cells, credOf_bar]
  iintro ⟨HB, H⟩
  isplitl [HB]; · iexact HB
  iapply (BIBase.Entails.trans (bs_drop c (fun j : Dev nD => six fun k => (cred (tallyAt (kcell c (some (k, j))) () (credOf c (some (k, j)))) : sProp 𝕄)))
    (bs_mono_mem fun j hj => by
      have hj := (Finset.mem_erase.mp hj).1
      unfold six credIn
      dsimp only
      rw [credOf_x c j hj 2 _ (due_2 j), credOf_x c j hj 3 _ (due_3 j), credOf_x c j hj 5 _ (due_5 j)]
      iintro ⟨-, -, H2, H3, -, H5⟩
      isplitl [H2]; · iexact H2
      isplitl [H3]; · iexact H3
      iexact H5))
  iexact H

end Cert.KernelIdeal.Hand

end
-- ==== Proof.KernelIdealRun.lean ====
/-
The launch: the pipeline's data, the body's obligation, the cells closed, the run of the whole mesh.
-/
module

public import proofs.«01_k».proof.Proof.KernelIdealGhost
public import proofs.«01_k».proof.Proof.Gen.KernelIdeal.Points
public import proofs.«01_k».proof.Proof.Gen.KernelIdeal.Frame
public import Idealize.ShloMosaic.Lib.Quiescent
public import Idealize.ShloMosaic.Lib.Pipeline.CollectiveSegs

@[expose] public section

set_option maxRecDepth 65536

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

open Idealize.ShloMosaic.Pipeline (Dat Cfg Window BodyObligation cellOf)

/-! ## Closing the cells -/

section Close
variable (I : Inp F) (K : Dev nD × CI → ℕ) (c : Dev nD)

theorem close_one (i : CI) (R : ℕ) (hR : ∀ r, R ≤ r → (Rd I).duties (kcell c i) r = ∅) :
    iprop(Gl I K ∗ atPos ER (kcell c i) R ∅ 0) ⊢ (iprop(|={Set.univ}=> semVal (kcell c i) 0) : sProp 𝕄) := by
  iintro ⟨#HG, H⟩
  iapply (Rounds.cell_close ER (Rd I) (κ := K (c, i)) (Set.mem_univ _) (fun h => h) (R := R) hR)
  isplitr; · iapply (Gl_inv I K c i); iexact HG
  iexact H

theorem close_six (j : Fin 16) (R : ℕ) (hR : ∀ k : Fin 6, ∀ r, R ≤ r → (Rd I).duties (xc k c j) r = ∅) :
    iprop(Gl I K ∗ six fun k => atPos ER (xc k c j) R ∅ 0) ⊢ (iprop(|={Set.univ}=> six fun k => semVal (xc k c j) 0) : sProp 𝕄) := by
  rw [← bs_six, ← bs_six]
  exact BIBase.Entails.trans (bs_pers (R := Gl I K) fun k _ => close_one I K c (some (k, j)) R (hR k)) (bigSep_fupd _ _)

theorem ends_join : iprop(bigSep (Finset.univ.erase c) (rcAt c 1) ∗ bigSep (Finset.univ.erase c) (fun j => atPos ER (xc 5 c j) 1 ∅ 0)
      ∗ bigSep (Finset.univ.erase c) (swAt c 1)) ⊢ (bigSep (Finset.univ.erase c) fun j => six fun k => atPos ER (xc k c j) 1 ∅ 0 : sProp 𝕄) := by
  rw [← bigSep_sep', ← bigSep_sep']
  refine bs_mono fun j => ?_
  unfold rcAt swAt six
  iintro ⟨⟨H2, H3⟩, H5, H0, H1, H4⟩
  isplitl [H0]; · iexact H0
  isplitl [H1]; · iexact H1
  isplitl [H2]; · iexact H2
  isplitl [H3]; · iexact H3
  isplitl [H4]; · iexact H4
  iexact H5

theorem close_all : iprop(Gl I K ∗ protEnd c ∗ six (fun k => atPos ER (xc k c c) 0 ∅ 0))
    ⊢ (iprop(|={Set.univ}=> (Pipeline.ownSems0 (Ix := Unit) (Name := ℕ) (U := UU) (Lvl := ℕ) (Val := Elt F) (τ := τ) osem c ∗ unscopedSems0 c)) : sProp 𝕄) := by
  rw [ownSems0_eq, unscopedSems0_eq, bs_pairs, bigSep_univ_at _ c]
  unfold protEnd
  iintro ⟨#HG, ⟨HB, HE⟩, HO⟩
  ihave HE := (ends_join c) $$ HE
  imod (close_one I K c none 1 (duties_later I (bar c))) $$ [HB] with HB
  · isplitr; · iexact HG
    iexact HB
  imod (close_six I K c c 0 (fun k => duties_own I c k)) $$ [HO] with HO
  · isplitr; · iexact HG
    iexact HO
  imod (BIBase.Entails.trans (bs_pers (R := Gl I K) (S := Finset.univ.erase c) fun j _ => close_six I K c j 1 fun k => duties_later I (xc k c j)) (bigSep_fupd _ _)) $$ [HE] with HE
  · isplitr; · iexact HG
    iexact HE
  imodintro
  isplitr [HB]
  · isplitl [HO]; · iexact HO
    iexact HE
  iexact HB

/-! ## The start -/

/-- What device `c`'s body starts from. -/
def start : sProp 𝕄 := iprop(∃ K, Gl I K ∗ prot c ∗ six (fun k => atPos ER (xc k c c) 0 ∅ 0))

theorem ats_split : (ats c : sProp 𝕄) ⊢ iprop(atPos ER (bar c) 0 ∅ 0 ∗ six (fun k => atPos ER (xc k c c) 0 ∅ 0)
      ∗ bigSep (Finset.univ.erase c) (fun j => iprop(rcAt c 0 j ∗ atPos ER (xc 5 c j) 0 ∅ 0 ∗ swAt c 0 j))) := by
  unfold ats
  rw [bs_cells, bigSep_univ_at _ c]
  iintro ⟨HB, HO, HE⟩
  isplitl [HB]; · iexact HB
  isplitl [HO]; · iexact HO
  iapply (bs_mono (s := Finset.univ.erase c) (Φ := fun j : Dev nD => six fun k => (atPos ER (kcell c (some (k, j))) 0 ∅ 0 : sProp 𝕄)) fun j => by
    unfold rcAt swAt six
    iintro ⟨H0, H1, H2, H3, H4, H5⟩
    isplitl [H2 H3]
    · isplitl [H2]; · iexact H2
      iexact H3
    isplitl [H5]; · iexact H5
    isplitl [H0]; · iexact H0
    isplitl [H1]; · iexact H1
    iexact H4)
  iexact HE

theorem prot_intro : iprop(cred (tallyAt (bar c) () 15) ∗ bigSep (Finset.univ.erase c) (credIn c) ∗ ats c ∗ payToks c)
    ⊢ (iprop(prot c ∗ six (fun k => atPos ER (xc k c c) 0 ∅ 0)) : sProp 𝕄) := by
  unfold payToks
  iintro ⟨HcB, Hc, Ha, ⟨HtB, HtS, HtY⟩⟩
  ihave Ha := (ats_split c) $$ Ha
  icases Ha with ⟨HaB, HaO, Ha⟩
  isplitr [HaO]
  · unfold prot
    isplitl [HtB]; · iexact HtB
    isplitl [HcB HaB]
    · isplitl [HcB]; · iexact HcB
      iexact HaB
    isplitl [HtS]; · iexact HtS
    ihave H := (BIBase.Entails.trans (BIBase.Entails.of_eq (bigSep_sep' (Finset.univ.erase c) (credIn (F := F) c) (fun j => iprop(rcAt c 0 j ∗ atPos ER (xc 5 c j) 0 ∅ 0 ∗ swAt c 0 j))).symm)
      (bs_mono (Ψ := fun j => (iprop(rcPre c j ∗ yrPre c j ∗ swAt c 0 j) : sProp 𝕄)) fun j => by
        unfold credIn rcPre yrPre rcAt
        iintro ⟨⟨C2, C3, C5⟩, ⟨A2, A3⟩, A5, HS⟩
        isplitl [C2 C3 A2 A3]
        · isplitl [C2 C3]
          · isplitl [C2]; · iexact C2
            iexact C3
          isplitl [A2]; · iexact A2
          iexact A3
        isplitl [C5 A5]
        · isplitl [C5]; · iexact C5
          iexact A5
        iexact HS)) $$ [Hc Ha]
    · isplitl [Hc]; · iexact Hc
      iexact Ha
    ihave H := (BIBase.Entails.of_eq (bigSep_sep' (Finset.univ.erase c) (rcPre (F := F) c) (fun j => iprop(yrPre c j ∗ swAt c 0 j)))) $$ H
    icases H with ⟨HR, H⟩
    ihave H := (BIBase.Entails.of_eq (bigSep_sep' (Finset.univ.erase c) (yrPre (F := F) c) (fun j => swAt c 0 j))) $$ H
    icases H with ⟨HY, HS⟩
    isplitl [HR]; · iexact HR
    isplitl [HtY]; · iexact HtY
    isplitl [HY]; · iexact HY
    iexact HS
  iexact HaO

theorem start_of : iprop(levAts L lv ∗ Pipeline.launchCred (fun d => owed d 0 0 0) c ∗ G' I c) ⊢ start I c := by
  unfold G' start
  iintro ⟨Hl, Hc, ⟨%K, #HR, Ha, Ht⟩⟩
  ihave Hc := (creds (F := F) c) $$ Hc
  icases Hc with ⟨HB, Hc⟩
  iexists K
  isplitl [Hl]
  · unfold Gl
    unfold records
    icases HR with ⟨#H1, #H2⟩
    isplitr; · iexact H1
    isplitr; · iexact H2
    iexact Hl
  iapply (prot_intro (F := F) c)
  isplitl [HB]; · iexact HB
  isplitl [Hc]; · iexact Hc
  isplitl [Ha]; · iexact Ha
  iexact Ht
end Close

/-! ## The pipeline's data -/

section Run
variable (m : (ℓ : Loc nD τ sig) → Buf (Elt F) ℓ) (ρ : Dev nD → PrngReg)

/-- The devices' arguments, as staged. -/
def inp : Inp F where
  x c := iblk m c 0 t0_0
  wq c := iblk m c 1 t0_0
  k c := iblk m c 2 t0_0
  v c := iblk m c 3 t0_0
  wo c := iblk m c 4 t0_0

def Φ₀ (c : Dev nD) : sProp 𝕄 := iprop(start (inp m) c ∗ scr c)
def Φ₁ (c : Dev nD) : sProp 𝕄 :=
  iprop(scr c ∗ Pipeline.ownSems0 (Ix := Unit) (Name := ℕ) (U := UU) (Lvl := ℕ) (Val := Elt F) (τ := τ) osem c ∗ unscopedSems0 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => iblk m c 0 t0_0
    | ⟨1, _⟩ => iblk m c 1 t0_0
    | ⟨2, _⟩ => iblk m c 2 t0_0
    | ⟨3, _⟩ => iblk m c 3 t0_0
    | ⟨4, _⟩ => iblk m c 4 t0_0
    | ⟨5, _⟩ => (inp m).out c
  Φ t := match t with
    | ⟨0, _⟩ => Φ₀ m c
    | ⟨_ + 1, _⟩ => Φ₁ c
  q _ := fullShare
  owed t := match t with
    | ⟨0, _⟩ => owed c 0 0 0
    | ⟨_ + 1, _⟩ => 0

theorem before_0 (c : Dev nD) (d) : (dats m ρ 0 c).before (0 : Fin 6) t0_0 d = iblk m c 0 t0_0 := by
  unfold Dat.before; rw [if_pos (fetch0_0 t0_0)]; rfl
theorem before_1 (c : Dev nD) (d) : (dats m ρ 0 c).before (1 : Fin 6) t0_0 d = iblk m c 1 t0_0 := by
  unfold Dat.before; rw [if_pos (fetch0_1 t0_0)]; rfl
theorem before_2 (c : Dev nD) (d) : (dats m ρ 0 c).before (2 : Fin 6) t0_0 d = iblk m c 2 t0_0 := by
  unfold Dat.before; rw [if_pos (fetch0_2 t0_0)]; rfl
theorem before_3 (c : Dev nD) (d) : (dats m ρ 0 c).before (3 : Fin 6) t0_0 d = iblk m c 3 t0_0 := by
  unfold Dat.before; rw [if_pos (fetch0_3 t0_0)]; rfl
theorem before_4 (c : Dev nD) (d) : (dats m ρ 0 c).before (4 : Fin 6) t0_0 d = iblk m c 4 t0_0 := by
  unfold Dat.before; rw [if_pos (fetch0_4 t0_0)]; rfl

def bodyPre (c : Dev nD) : sProp 𝕄 :=
  iprop(Φ₀ m c ∗ (dats m ρ 0 c).owesAt () t0_0.castSucc
    ∗ (∃ d, owns (c : Thread nD τ) xM fullShare ((dats m ρ 0 c).before (0 : Fin 6) t0_0 d))
    ∗ (∃ d, owns (c : Thread nD τ) wqM fullShare ((dats m ρ 0 c).before (1 : Fin 6) t0_0 d))
    ∗ (∃ d, owns (c : Thread nD τ) kM fullShare ((dats m ρ 0 c).before (2 : Fin 6) t0_0 d))
    ∗ (∃ d, owns (c : Thread nD τ) vM fullShare ((dats m ρ 0 c).before (3 : Fin 6) t0_0 d))
    ∗ (∃ d, owns (c : Thread nD τ) woM fullShare ((dats m ρ 0 c).before (4 : Fin 6) t0_0 d))
    ∗ (∃ d, owns (c : Thread nD τ) oM fullShare ((dats m ρ 0 c).before (5 : Fin 6) t0_0 d)))
def bodyPost (c : Dev nD) : sProp 𝕄 :=
  iprop(Φ₁ c ∗ (dats m ρ 0 c).owesAt () t0_0.succ
    ∗ owns (c : Thread nD τ) xM fullShare ((dats m ρ 0 c).after (0 : Fin 6) t0_0)
    ∗ owns (c : Thread nD τ) wqM fullShare ((dats m ρ 0 c).after (1 : Fin 6) t0_0)
    ∗ owns (c : Thread nD τ) kM fullShare ((dats m ρ 0 c).after (2 : Fin 6) t0_0)
    ∗ owns (c : Thread nD τ) vM fullShare ((dats m ρ 0 c).after (3 : Fin 6) t0_0)
    ∗ owns (c : Thread nD τ) woM fullShare ((dats m ρ 0 c).after (4 : Fin 6) t0_0)
    ∗ owns (c : Thread nD τ) oM fullShare ((dats m ρ 0 c).after (5 : Fin 6) t0_0))

theorem sound_body (c : Dev nD) : bodyPre m ρ c ⊢ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12) (fun _ => bodyPost m ρ c) := by
  unfold bodyPre Φ₀ start
  iintro ⟨⟨⟨%K, #HG, HP, HA⟩, HS⟩, HO, ⟨%d0, H0⟩, ⟨%d1, H1⟩, ⟨%d2, H2⟩, ⟨%d3, H3⟩, ⟨%d4, H4⟩, ⟨%d5, H5⟩⟩
  rw [before_0, before_1, before_2, before_3, before_4]
  unfold Dat.owesAt Pipeline.owesWithin
  icases HO with ⟨%W, %hW, HO⟩
  rw [show (dats m ρ 0 c).owed t0_0.castSucc = owed c 0 0 0 from rfl]
  iapply wp_fupd
  iapply (body_rule (inp m) K c _)
  isplitr; · iexact HG
  isplitl [HO]
  · unfold Ow; iexists W; iexact HO
  isplitl [HP]; · iexact HP
  isplitl [H0 H1 H2 H3 H4]
  · unfold args inR
    isplitl [H0 H2 H3]
    · isplitl [H0]; · iexact H0
      isplitl [H2]; · iexact H2
      iexact H3
    isplitl [H1]; · iexact H1
    iexact H4
  isplitl [H5]; · iapply (own_any c oM _); iexact H5
  isplitl [HS]; · iexact HS
  iintro ⟨HO, HP, HI, H5, HS⟩
  unfold args inR
  icases HI with ⟨⟨H0, H2, H3⟩, H1, H4⟩
  imod (close_all (inp m) K c) $$ [HP HA] with ⟨HC, HU⟩
  · isplitr; · iexact HG
    isplitl [HP]; · iexact HP
    iexact HA
  imodintro
  unfold bodyPost Φ₁
  isplitl [HS HC HU]
  · isplitl [HS]; · iexact HS
    isplitl [HC]; · iexact HC
    iexact HU
  isplitl [HO]
  · unfold Dat.owesAt Pipeline.owesWithin Ow
    rw [owed_none]
    icases HO with ⟨%W', HO⟩
    iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  iexact H5

/-- The pipeline's obligation on the body. -/
theorem body_obligation (c : Dev nD) : BodyObligation (dats (F := F) m ρ 0 c) (defs₀ (F := F)) 𝒱₀ () Set.univ := fun t => by
  rw [fin_N0 t]
  rw [bigSep_W0, bigSep_W0]
  exact sound_body m ρ c

/-! ## The run -/

theorem ownSemFacts : Pipeline.OwnSemFacts cfg0.spec osem := by decide +kernel

theorem share_eq (c : Dev nD) (w : Fin cfg0.W) : (dats m ρ 0 c).share w = fullShare := by unfold Dat.share; split <;> rfl

theorem any_whole (c : Dev nD) (b : Ref sig .tc) : (any c (Memref.whole b) : sProp 𝕄) = iprop(∃ f : Buf (Elt F) ((c : Thread nD τ).loc b), ((c : Thread nD τ).loc b) ↦{fullShare} f) := by
  unfold any; simp only [owns_whole]

theorem scr_eq (c : Dev nD) : (scr c : sProp 𝕄) = Pipeline.scopedRest cfg0.spec c := by
  rw [scopedRest0_eq]; unfold scr
  simp only [any_whole]

theorem start_intro (c : Dev nD) :
    iprop(Pipeline.unscopedRestP Pipeline.Prefetch.none cfg0.spec c (fun b => m ((c : Thread nD τ).loc b)) ∗ levAts L lv
        ∗ Pipeline.launchCred (fun d => owed d 0 0 0) c ∗ prngReg c (ρ c) ∗ G' (inp m) c)
      ⊢ |={Set.univ}=> iprop(start (inp m) c ∗ emp) := by
  iintro ⟨-, Hlev, Hcr, -, HG⟩
  imodintro
  isplitl
  · iapply (start_of (inp m) c)
    isplitl [Hlev]; · iexact Hlev
    isplitl [Hcr]; · iexact Hcr
    iexact HG
  · iempintro

theorem phi0_intro (c : Dev nD) :
    iprop(start (inp m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← scr_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← scr_eq]
  unfold Φ₁
  iintro ⟨Hr, Hs, Hu⟩
  isplitl [Hu]; · iexact Hu
  isplitl [Hs]; · iexact Hs
  iexact Hr

theorem stage_lt (w : Fin cfg0.W) (s : Fin (cfg0.win w).nbuf) : ((cfg0.win w).sem s).val < 6 := by
  revert w s; decide

theorem waits (c : Dev nD) : (levAts L lv : sProp 𝕄) ⊢ Pipeline.cellsWaits cfgs (dats m ρ) () 0 c :=
  Pipeline.cellsWaits_intro cfgs (dats m ρ) () 0 c fun w s t => by
    have hs : lvi (idx (SemLoc.dma ((cfg0.win w).sem s) : SemLoc sig)) ≤ 0 := by rw [idx_stage _ (stage_lt w s)]; exact Nat.le_refl _
    rcases t with ⟨_ | _, ht⟩
    · exact mayWait c _ 0 0 0 0 hs owed_stage
    · show _ ⊢ MayWait (c : Thread nD τ) _ () 0
      rw [← owed_none c]
      exact mayWait c _ 16 16 16 0 hs (owed_end 0)

/-- What an array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with every counter at zero the mesh runs to the end, each array ending at its computed contents and every
    counter at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owed d 0 0 0) (howed₀ := fun _ => rfl) (howedN := fun _ => rfl)
    (L := L) (lv := lv) (hL := L_of_ne) (hwaits := waits m ρ)
    (G := G (inp m)) (G' := G' (inp m)) (u₀ := u₀)
    (hu₀ := by
      unfold u₀
      iintro Hu
      ihave H := (ownU_pair _ _) $$ Hu
      icases H with ⟨HP, HX⟩
      imod (fund_cells (inp m)) $$ HX with HG
      imodintro
      isplitl [HP] <;> iassumption)
    (hglob := glob (inp m))
    (hA := fun _ _ => rfl) (hpf := fun _ k => k.elim0)
    (X := start (inp m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array ends as it was. -/
theorem final_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Run

end Cert.KernelIdeal.Hand

end
-- ==== Proof.KernelIdealFrame.lean ====
/- What the run leaves in the arrays: the arguments unchanged, and the result the outputs of the mesh. -/
module

public import proofs.«01_k».proof.Proof.KernelIdealRun
public import Idealize.ShloMosaic.Lib.Pipeline.ValueKit.Geometry

@[expose] public section

noncomputable section

namespace Cert.KernelIdeal.Hand

open Idealize.ShloMosaic Idealize.SL.Sem Cert.KernelIdeal Cert.KernelIdeal.Gen
open Idealize.ShloMosaic.TcCoe

section Frame

variable {F : FTy → Type} [FloatOps F] (m : (ℓ : Loc nD τ sig) → Buf (Elt F) ℓ) (ρ : Dev nD → PrngReg)

theorem zero_mul_add' (a b : ℕ) : 0 * a + b = b := by rw [Nat.zero_mul, Nat.zero_add]

theorem final_out (c : Dev nD) : finalA m ρ c 5 = (inp m).out c := by
  refine (dats m ρ 0 c).arrAt_eq_of_covers 5 _ (by decide +kernel) fun t hf y => ?_
  blk_simp
  refine congrArg ((inp m).out c) (funext fun a => Fin.ext ?_)
  symm
  show (((cfg0.win 5).blk t).view.emb y a : ℕ) = _
  blk_simp
  exact zero_mul_add' _ _

theorem inp_x (c : Dev nD) : (inp m).x c = m ((c : Thread nD τ).loc main_arg0) :=
  funext fun y => congrArg (m ((c : Thread nD τ).loc main_arg0)) (funext fun a => Fin.ext (by
    show (((cfg0.win 0).blk t0_0).view.emb y a : ℕ) = _
    blk_simp
    exact zero_mul_add' _ _))

theorem inp_wq (c : Dev nD) : (inp m).wq c = m ((c : Thread nD τ).loc main_arg1) :=
  funext fun y => congrArg (m ((c : Thread nD τ).loc main_arg1)) (funext fun a => Fin.ext (by
    show (((cfg0.win 1).blk t0_0).view.emb y a : ℕ) = _
    blk_simp
    exact zero_mul_add' _ _))

theorem inp_k (c : Dev nD) : (inp m).k c = m ((c : Thread nD τ).loc main_arg2) :=
  funext fun y => congrArg (m ((c : Thread nD τ).loc main_arg2)) (funext fun a => Fin.ext (by
    show (((cfg0.win 2).blk t0_0).view.emb y a : ℕ) = _
    blk_simp
    exact zero_mul_add' _ _))

theorem inp_v (c : Dev nD) : (inp m).v c = m ((c : Thread nD τ).loc main_arg3) :=
  funext fun y => congrArg (m ((c : Thread nD τ).loc main_arg3)) (funext fun a => Fin.ext (by
    show (((cfg0.win 3).blk t0_0).view.emb y a : ℕ) = _
    blk_simp
    exact zero_mul_add' _ _))

theorem inp_wo (c : Dev nD) : (inp m).wo c = m ((c : Thread nD τ).loc main_arg4) :=
  funext fun y => congrArg (m ((c : Thread nD τ).loc main_arg4)) (funext fun a => Fin.ext (by
    show (((cfg0.win 4).blk t0_0).view.emb y a : ℕ) = _
    blk_simp
    exact zero_mul_add' _ _))

theorem final_args (r : PUnit × MemSt nD τ sig (Elt F)) (h : QC m ρ r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨(h c 0).trans (final_in m ρ c 0 rfl), (h c 1).trans (final_in m ρ c 1 rfl), (h c 2).trans (final_in m ρ c 2 rfl),
    (h c 3).trans (final_in m ρ c 3 rfl), (h c 4).trans (final_in m ρ c 4 rfl)⟩

theorem final_res (r : PUnit × MemSt nD τ sig (Elt F)) (h : QC m ρ r) (c : Dev nD) :
    r.2.mem ((c : Thread nD τ).loc main_v1) = (inp m).out c := (h c 5).trans (final_out m ρ c)

/-- The run leaves the arguments as they were and every counter at zero. -/
theorem frame_run : θ_run defs (onTc (τ := τ) (main (F := F))) (s₀ m ρ) (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) ∧ r.2.sem = fun _ => 0) :=
  (θ_run defs _ _).mono (fun r h => ⟨final_args m ρ r h.1, h.2⟩) (run_main m ρ)

end Frame

end Cert.KernelIdeal.Hand

end
-- ==== Proof.ValueRefMask.lean ====
/-
The reference's mask in closed form: query `s` attends key `t` of all the keys exactly where `s`'s block of 64 is the
block of `t` counted within its own run of 256 keys.
-/
module

public import proofs.«01_k».proof.Proof.Gen.ReferenceIdeal.Read

@[expose] public section

set_option maxRecDepth 65536

noncomputable section

namespace Cert.ReferenceIdeal.Hand

open Cert.ReferenceIdeal Cert.ReferenceIdeal.Gen Cert.ReferenceIdeal.Read
open Idealize.ShloMosaic Idealize.ShloMosaic.ValueIdx
open scoped BigOperators

/-- The sign of a word. -/
def sgn (a : BitVec 32) : BitVec 32 := if a = 0 then 0 else if a.msb then -1 else 1

/-- Floor division of a word by 64. -/
def hostDiv64 (a : BitVec 32) : BitVec 32 :=
  Scalar.select (IntOp.andi (IntOp.cmpi .ne (sgn a) (sgn 64#32)) (IntOp.cmpi .ne (IntOp.remsi .host a 64#32) 0#32))
    (IntOp.subi (IntOp.divsi .host a 64#32) 1#32) (IntOp.divsi .host a 64#32)

/-- The divisor four, or one where it is zero. -/
def four : BitVec 32 := Scalar.select (IntOp.cmpi .eq 4#32 0#32) 1#32 4#32

/-- The remainder of a word by four, with the divisor's sign. -/
def hostRem4 (a : BitVec 32) : BitVec 32 :=
  Scalar.select (IntOp.andi (IntOp.cmpi .ne (IntOp.cmpi .slt (IntOp.remsi .host a four) 0#32) (IntOp.cmpi .slt four 0#32))
      (IntOp.cmpi .ne (IntOp.remsi .host a four) 0#32))
    (IntOp.addi (IntOp.remsi .host a four) four) (IntOp.remsi .host a four)

theorem hostDiv64_of (n : Fin 4096) : hostDiv64 (BitVec.ofNat 32 n.val) = BitVec.ofNat 32 (n.val / 64) := by
  revert n; decide +kernel
theorem hostRem4_of (n : Fin 64) : hostRem4 (BitVec.ofNat 32 n.val) = BitVec.ofNat 32 (n.val % 4) := by
  revert n; decide +kernel
theorem bit_of (a : Fin 4) (b : Fin 64) : IntOp.ori (IntOp.cmpi .eq (BitVec.ofNat 32 a.val) (BitVec.ofNat 32 b.val))
    (IntOp.cmpi .eq (BitVec.ofNat 32 (b.val % 4)) (BitVec.ofNat 32 (a.val % 4))) = if a.val = b.val % 4 then 1#1 else 0#1 := by
  revert a b; decide +kernel

theorem v5_at (s : Fin 256) : val_main_v5 (F := Ideal) (ix1 s) = hostDiv64 (BitVec.ofNat 32 s.val) := rfl
theorem v8_at (t : Fin 4096) : val_main_v8 (F := Ideal) (ix1 t) = hostDiv64 (BitVec.ofNat 32 t.val) := rfl
theorem v6_at (s : Fin 256) : val_main_v6 (F := Ideal) (ix2 s ⟨0, Nat.one_pos⟩) = hostDiv64 (BitVec.ofNat 32 s.val) := v5_at s
theorem v9_at (t : Fin 4096) : val_main_v9 (F := Ideal) (ix2 ⟨0, Nat.one_pos⟩ t) = hostDiv64 (BitVec.ofNat 32 t.val) := v8_at t
theorem v13_at (t : Fin 4096) : val_main_v13 (F := Ideal) (ix2 ⟨0, Nat.one_pos⟩ t) = hostRem4 (val_main_v9 (F := Ideal) (ix2 ⟨0, Nat.one_pos⟩ t)) := rfl
theorem v14_at (s : Fin 256) : val_main_v14 (F := Ideal) (ix2 s ⟨0, Nat.one_pos⟩) = hostRem4 (val_main_v6 (F := Ideal) (ix2 s ⟨0, Nat.one_pos⟩)) := rfl

theorem v18_shape (s : Fin 256) (t : Fin 4096) : val_main_v18 (F := Ideal) (ix2 s t)
    = IntOp.ori (IntOp.cmpi .eq (val_main_v6 (F := Ideal) (ix2 s ⟨0, Nat.one_pos⟩)) (val_main_v9 (F := Ideal) (ix2 ⟨0, Nat.one_pos⟩ t)))
        (IntOp.cmpi .eq (val_main_v13 (F := Ideal) (ix2 ⟨0, Nat.one_pos⟩ t)) (val_main_v14 (F := Ideal) (ix2 s ⟨0, Nat.one_pos⟩))) := by
  have e0 : ∀ i : S256x1.Idx, (i 0).val = s.val → i = ix2 s ⟨0, Nat.one_pos⟩ := fun i h => funext fun a => Fin.ext (by
    match a with
    | ⟨0, _⟩ => exact h
    | ⟨1, _⟩ => have : (i 1).val < 1 := (i 1).isLt; show (i 1).val = 0; omega)
  have e1 : ∀ i : S1x4096.Idx, (i 1).val = t.val → i = ix2 ⟨0, Nat.one_pos⟩ t := fun i h => funext fun a => Fin.ext (by
    match a with
    | ⟨0, _⟩ => have : (i 0).val < 1 := (i 0).isLt; show (i 0).val = 0; omega
    | ⟨1, _⟩ => exact h)
  rw [val_main_v18_apply, val_main_v12_apply, val_main_v17_apply, val_main_v10_apply, val_main_v11_apply, val_main_v15_apply, val_main_v16_apply]
  rw [e0 (idx_main_v10 (ix2 s t)) rfl, e1 (idx_main_v11 (ix2 s t)) rfl, e1 (idx_main_v15 (ix2 s t)) rfl, e0 (idx_main_v16 (ix2 s t)) rfl]

/-- The mask as a proposition. -/
def attends (s : Fin 256) (t : Fin 4096) : Prop := s.val / 64 = t.val / 64 % 4
instance (s : Fin 256) (t : Fin 4096) : Decidable (attends s t) := inferInstanceAs (Decidable (s.val / 64 = t.val / 64 % 4))

theorem v18_at (s : Fin 256) (t : Fin 4096) : val_main_v18 (F := Ideal) (ix2 s t) = if attends s t then 1#1 else 0#1 := by
  have h := bit_of ⟨s.val / 64, by omega⟩ ⟨t.val / 64, by omega⟩
  rw [v18_shape, v13_at, v14_at, v6_at, v9_at, hostDiv64_of t, hostDiv64_of ⟨s.val, by omega⟩, hostRem4_of ⟨t.val / 64, by omega⟩,
    hostRem4_of ⟨s.val / 64, by omega⟩]
  exact h

end Cert.ReferenceIdeal.Hand

end
-- ==== Proof.ValueMask.lean ====
/-
The kernel's block mask over the extended reals: one where query and key lie in one block of 64, zero elsewhere.
-/
module

public import proofs.«01_k».proof.Proof.KernelIdealVals
public import Idealize.ShloMosaic.PureOps.Ideal
public import Idealize.ShloMosaic.Lib.IdealHost
public import Idealize.ShloMosaic.Lib.ValueIdx

@[expose] public section

set_option maxRecDepth 65536

noncomputable section

namespace Cert.KernelIdeal.Hand

open Cert.KernelIdeal Cert.KernelIdeal.Gen
open Idealize.ShloMosaic Idealize.ShloMosaic.ValueIdx

/-- The kernel's floor division of a word by 64: the quotient towards zero, less one where the signs differ and a remainder is left. -/
def floorDiv64 (a : BitVec 32) : BitVec 32 :=
  Scalar.select (IntOp.andi
      (IntOp.cmpi .ne (IntOp.subi ((IntOp.cmpi .sgt a 0#32).setWidth 32) ((IntOp.cmpi .slt a 0#32).setWidth 32))
        (Scalar.subi (Scalar.extui (Scalar.cmpi .sgt 64#32 0#32)) (Scalar.extui (Scalar.cmpi .slt 64#32 0#32))))
      (IntOp.cmpi .ne (IntOp.remsi .vector a 64#32) 0#32))
    (IntOp.subi (IntOp.divsi .vector a 64#32) 1#32) (IntOp.divsi .vector a 64#32)

theorem floorDiv64_of (n : Fin 256) : floorDiv64 (BitVec.ofNat 32 n.val) = BitVec.ofNat 32 (n.val / 64) := by
  revert n; decide +kernel

theorem cmp_blocks (a b : Fin 4) : IntOp.cmpi .eq (BitVec.ofNat 32 a.val) (BitVec.ofNat 32 b.val) = if a = b then 1#1 else 0#1 := by
  revert a b; decide +kernel

/-- The comparison of the two block numbers as a bit. -/
theorem mask_bit (s t : Fin 256) : IntOp.cmpi .eq (floorDiv64 (BitVec.ofNat 32 s.val)) (floorDiv64 (BitVec.ofNat 32 t.val))
    = if s.val / 64 = t.val / 64 then 1#1 else 0#1 := by
  have h := cmp_blocks ⟨s.val / 64, by omega⟩ ⟨t.val / 64, by omega⟩
  rw [floorDiv64_of, floorDiv64_of]
  refine h.trans ?_
  simp only [Fin.mk.injEq]

theorem maskV_apply (s t : Fin 256) :
    maskV (F := Ideal) (ix2 s t : S256x256.Idx) = if s.val / 64 = t.val / 64 then (1 : EReal) else 0 := by
  have h : maskV (F := Ideal) (ix2 s t : S256x256.Idx)
      = Scalar.select (IntOp.cmpi .eq (floorDiv64 (BitVec.ofNat 32 (0 * 256 + s.val))) (floorDiv64 (BitVec.ofNat 32 (0 * 256 + t.val))))
          (Ideal.ofBits .f32 0x3F800000#32) (Ideal.ofBits .f32 0x00000000#32) := rfl
  rw [h, Nat.zero_mul, Nat.zero_add, Nat.zero_add, mask_bit, Ideal.ofBits_one_f32, Ideal.ofBits_zero_f32]
  split
  · rfl
  · rfl

end Cert.KernelIdeal.Hand

end
-- ==== Proof.ValueKernel.lean ====
/-
What one device computes before anything is exchanged, over the extended reals and at an index: the queries, the weights,
their sums and the numerators.
-/
module

public import proofs.«01_k».proof.Proof.ValueMask
public import Idealize.ShloMosaic.Lib.MatmulPlain
public import Idealize.ShloMosaic.Lib.Pipeline.Value

@[expose] public section

set_option maxRecDepth 65536

noncomputable section

namespace Cert.KernelIdeal.Hand

open Cert.KernelIdeal Cert.KernelIdeal.Gen
open Idealize.ShloMosaic Idealize.ShloMosaic.ValueIdx Idealize.ShloMosaic.VecWindow
open scoped BigOperators

section Casts
variable {α : Type}

/-- A leading axis of extent one dropped. -/
theorem cast_drop {a b : ℕ} (v : (⟨3, ![1, a, b]⟩ : Shape).Idx → α) (h : (⟨3, ![1, a, b]⟩ : Shape).ShapeCasts ⟨2, ![a, b]⟩) (i : Fin a) (j : Fin b) :
    shapeCast ⟨2, ![a, b]⟩ v h (ix2 i j) = v (ix3 ⟨0, Nat.one_pos⟩ i j) :=
  shapeCast_apply v h _ _ (by
    rw [Shape.rowMajor_val_two, Shape.rowMajor_val_three]
    show (0 * a + i.val) * b + j.val = i.val * b + j.val
    rw [Nat.zero_mul, Nat.zero_add])

/-- A leading axis of extent one put back. -/
theorem cast_add {a b : ℕ} (v : (⟨2, ![a, b]⟩ : Shape).Idx → α) (h : (⟨2, ![a, b]⟩ : Shape).ShapeCasts ⟨3, ![1, a, b]⟩) (i : Fin a) (j : Fin b) :
    shapeCast ⟨3, ![1, a, b]⟩ v h (ix3 ⟨0, Nat.one_pos⟩ i j) = v (ix2 i j) :=
  shapeCast_apply v h _ _ (by
    rw [Shape.rowMajor_val_two, Shape.rowMajor_val_three]
    show i.val * b + j.val = (0 * a + i.val) * b + j.val
    rw [Nat.zero_mul, Nat.zero_add])

end Casts

/-- Column `d` of head `h`. -/
def col (h : Fin 4) (d : Fin 64) : Fin 256 := ⟨64 * h.val + d.val, by omega⟩

/-- The literal the scores are scaled by. -/
abbrev eighth : EReal := Ideal.ofBits .f32 0x3E000000#32

variable (I : Inp Ideal)

namespace Inp

/-- A query's component. -/
def Q (c : Dev nD) (b : Fin 2) (s e : Fin 256) : EReal := ∑ p : Fin 512, I.x c (ix3 b s p) * I.wq c (ix2 p e)

/-- A score of a query against a key of the device's own. -/
def S (c : Dev nD) (b : Fin 2) (h : Fin 4) (s t : Fin 256) : EReal :=
  (∑ d : Fin 64, I.Q c b s (col h d) * I.k c (ix3 b t (col h d))) * eighth

/-- A masked weight. -/
def W (c : Dev nD) (b : Fin 2) (h : Fin 4) (s t : Fin 256) : EReal :=
  Ideal.exp (I.S c b h s t) * (if s.val / 64 = t.val / 64 then 1 else 0)

theorem q_apply (c : Dev nD) (b : Fin 2) (s e : Fin 256) : I.q c b (ix2 s e) = I.Q c b s e := by
  refine (Ideal.matmul_plain_apply (M := 256) (K := 512) (N := 256) none _ _ _ s e).trans ?_
  refine (congrArg₂ (· + ·) Ideal.ofBits_zero_f32 rfl).trans ((zero_add _).trans (Finset.sum_congr rfl fun p _ => ?_))
  refine congrArg₂ (· * ·) ?_ ?_
  · refine (cast_drop (a := 256) (b := 512)
      (window (s := S2x256x512) (I.x c) ![b.val, 0, 0] S1x256x512.size (xb_inb b) : S1x256x512.Idx → EReal)
      shapeCasts_S1x256x512_S256x512 s p).trans (congrArg (I.x c) (funext fun a => Fin.ext ?_))
    match a with
    | ⟨0, _⟩ => show b.val + 1 * 0 = b.val; omega
    | ⟨1, _⟩ => show 0 + 1 * s.val = s.val; omega
    | ⟨2, _⟩ => show 0 + 1 * p.val = p.val; omega
  · exact congrFun (shapeCast_self _ _) _

/-- A window of the keys or values: one batch entry, one head's columns. -/
theorem head_win (v : Vec Ideal S2x256x256 .f32) (b : Fin 2) (h : Fin 4) (t : Fin 256) (d : Fin 64) (g : S1x256x64.ShapeCasts S256x64) :
    shapeCast S256x64 (window (s := S2x256x256) v ![b.val, 0, 64 * h.val] S1x256x64.size (hb_inb b h) : S1x256x64.Idx → EReal) g (ix2 t d)
      = v (ix3 b t (col h d)) := by
  refine (cast_drop (a := 256) (b := 64) _ _ t d).trans (congrArg v (funext fun a => Fin.ext ?_))
  match a with
  | ⟨0, _⟩ => show b.val + 1 * 0 = b.val; omega
  | ⟨1, _⟩ => show 0 + 1 * t.val = t.val; omega
  | ⟨2, _⟩ => show 64 * h.val + 1 * d.val = 64 * h.val + d.val; omega

theorem w_apply (c : Dev nD) (b : Fin 2) (h : Fin 4) (s t : Fin 256) : I.w c b h (ix2 s t) = I.W c b h s t := by
  refine congrArg₂ (· * ·) (congrArg Ideal.exp (congrArg (· * eighth) ?_)) (maskV_apply s t)
  refine (Ideal.matmul_transposedRhs_apply (M := 256) (K := 64) (N := 256) none _ _ _ s t).trans ?_
  refine (congrArg₂ (· + ·) Ideal.ofBits_zero_f32 rfl).trans ((zero_add _).trans (Finset.sum_congr rfl fun d _ => ?_))
  refine congrArg₂ (· * ·) ?_ ?_
  · refine (extractStridedSlice_apply _ _ _ _ (ix2 s (col h d) : S256x256.Idx) fun a => ?_).trans (q_apply I c b s (col h d))
    match a with
    | ⟨0, _⟩ => show s.val = 0 + s.val; omega
    | ⟨1, _⟩ => rfl
  · exact head_win (I.k c) b h t d _

theorem wsum_apply (w : FVec Ideal S256x256 .f32) (s : Fin 256) : wsum w (ix1 s) = ∑ t : Fin 256, w (ix2 s t) := by
  refine (Ideal.multiReduction_add_single (s := S256x256) (t := S256) (a := 1) w _ reduces_S256x256_S256 (.inl rfl) rfl (ix1 s)).trans ?_
  refine Finset.sum_congr rfl fun t _ => congrArg w (funext fun a => Fin.ext ?_)
  match a with
  | ⟨0, _⟩ => rfl
  | ⟨1, _⟩ => rfl

theorem wctx_apply (w : FVec Ideal S256x256 .f32) (v : Vec Ideal S2x256x256 .f32) (b : Fin 2) (h : Fin 4) (s : Fin 256) (d : Fin 64) :
    wctx w (window (s := S2x256x256) v ![b.val, 0, 64 * h.val] S1x256x64.size (hb_inb b h)) (ix3 ⟨0, Nat.one_pos⟩ s d)
      = ∑ t : Fin 256, w (ix2 s t) * v (ix3 b t (col h d)) := by
  refine (cast_add (a := 256) (b := 64) _ _ s d).trans ?_
  refine (Ideal.matmul_plain_apply (M := 256) (K := 256) (N := 64) none _ _ _ s d).trans ?_
  refine (congrArg₂ (· + ·) Ideal.ofBits_zero_f32 rfl).trans ((zero_add _).trans (Finset.sum_congr rfl fun t _ => ?_))
  exact congrArg₂ (· * ·) rfl (head_win v b h t d _)

/-- The head a column belongs to, and its place in it. -/
def headOf (e : Fin 256) : Fin 4 := ⟨e.val / 64, by omega⟩
def inHead (e : Fin 256) : Fin 64 := ⟨e.val % 64, Nat.mod_lt _ (by decide)⟩
theorem col_headOf (e : Fin 256) : col (headOf e) (inHead e) = e := Fin.ext (Nat.div_add_mod e.val 64)

theorem ctx_apply (c : Dev nD) (b : Fin 2) (s e : Fin 256) :
    I.ctx c (ix3 b s e) = ∑ t : Fin 256, I.W c b (headOf e) s t * I.v c (ix3 b t e) := by
  have hi : I.ctx c (ix3 b s e) = I.ctxBox c b (headOf e) (ix3 ⟨0, Nat.one_pos⟩ s (inHead e)) := by
    refine congrArg (I.ctxBox c b (headOf e)) (funext fun a => Fin.ext ?_)
    match a with
    | ⟨0, _⟩ => rfl
    | ⟨1, _⟩ => rfl
    | ⟨2, _⟩ => rfl
  rw [hi]
  refine (wctx_apply _ (I.v c) b (headOf e) s (inHead e)).trans (Finset.sum_congr rfl fun t _ => ?_)
  rw [w_apply, col_headOf]

theorem denCol_apply (c : Dev nD) (b : Fin 2) (h : Fin 4) (s : Fin 256) :
    I.denCol c b h (ix2 s ⟨0, Nat.one_pos⟩) = ∑ t : Fin 256, I.W c b h s t := by
  refine (shapeCast_apply (t := S256x1) _ _ _ (ix1 s) ?_).trans ((wsum_apply _ s).trans (Finset.sum_congr rfl fun t _ => w_apply I c b h s t))
  rw [Shape.rowMajor_val_two, Shape.rowMajor_val_one]
  show s.val = s.val * 1 + 0
  omega

theorem den_apply (c : Dev nD) (b : Fin 2) (h : Fin 4) (s : Fin 256) :
    I.den c (ix3 b s h) = ∑ t : Fin 256, I.W c b h s t := by
  have hi : I.den c (ix3 b s h) = I.denBox c b (ix3 ⟨0, Nat.one_pos⟩ s h) := by
    refine congrArg (I.denBox c b) (funext fun a => Fin.ext ?_)
    match a with
    | ⟨0, _⟩ => rfl
    | ⟨1, _⟩ => rfl
    | ⟨2, _⟩ => rfl
  rw [hi]
  refine (cast_add (a := 256) (b := 4) (concatenate S256x4 1 [⟨S256x1, I.denCol c b 0⟩, ⟨S256x1, I.denCol c b 1⟩, ⟨S256x1, I.denCol c b 2⟩,
      ⟨S256x1, I.denCol c b 3⟩] concatenates_S256x1_S256x1_S256x1_S256x1_S256x4_d1 : S256x4.Idx → EReal) shapeCasts_S256x4_S1x256x4 s h).trans ((?_ : _ = I.denCol c b h (ix2 s ⟨0, Nat.one_pos⟩)).trans (denCol_apply I c b h s))
  exact concatenate_ofFn_unit_apply (t := S256x4) (s₁ := S256x1) 1 (N := 4) (fun n => I.denCol c b n) concatenates_S256x1_S256x1_S256x1_S256x1_S256x4_d1 rfl rfl
    (ix2 s h) h rfl (ix2 s ⟨0, Nat.one_pos⟩) (fun a ha => by
      match a with
      | ⟨0, _⟩ => rfl
      | ⟨1, _⟩ => exact absurd rfl ha)

end Inp

end Cert.KernelIdeal.Hand

end
-- ==== Proof.ValueOut.lean ====
/-
The kernel's result at an index, over the extended reals: the numerators and denominators summed over all the devices, divided,
and multiplied by the output weights.
-/
module

public import proofs.«01_k».proof.Proof.ValueKernel

@[expose] public section

set_option maxRecDepth 65536

noncomputable section

namespace Cert.KernelIdeal.Hand

open Cert.KernelIdeal Cert.KernelIdeal.Gen
open Idealize.ShloMosaic Idealize.ShloMosaic.ValueIdx Idealize.ShloMosaic.VecWindow
open scoped BigOperators

/-- A running sum started at one device's term and given every other device's in turn ends at the sum over all. -/
theorem acc_total {β : Type} [AddCommMonoid β] (g : Fin 16 → β) (c : Fin 16) (a : ℕ → β) (h0 : a 0 = g c)
    (hs : ∀ k, a (k + 1) = if h : k < 16 ∧ k ≠ c.val then a k + g ⟨k, h.1⟩ else a k) : a 16 = ∑ i : Fin 16, g i := by
  have key : ∀ k, k ≤ 16 → a k = ∑ i ∈ Finset.univ.filter (fun i : Fin 16 => i.val < k ∨ i = c), g i := by
    intro k
    induction k with
    | zero =>
      intro _
      rw [h0, show (Finset.univ.filter (fun i : Fin 16 => i.val < 0 ∨ i = c)) = {c} from by ext i; simp, Finset.sum_singleton]
    | succ k ih =>
      intro hk
      rw [hs k]
      by_cases hc : k = c.val
      · rw [dif_neg (fun h => h.2 hc), ih (by omega)]
        refine Finset.sum_congr (Finset.filter_congr fun i _ => ?_) fun _ _ => rfl
        rw [Fin.ext_iff]
        omega
      · rw [dif_pos ⟨by omega, hc⟩, ih (by omega), add_comm]
        rw [show (Finset.univ.filter (fun i : Fin 16 => i.val < k + 1 ∨ i = c))
          = insert (⟨k, by omega⟩ : Fin 16) (Finset.univ.filter (fun i : Fin 16 => i.val < k ∨ i = c)) from by
            ext i
            simp only [Finset.mem_filter, Finset.mem_univ, true_and, Finset.mem_insert, Fin.ext_iff]
            omega]
        rw [Finset.sum_insert]
        simp only [Finset.mem_filter, Finset.mem_univ, true_and, Fin.ext_iff]
        omega
  rw [key 16 le_rfl]
  exact Finset.sum_congr (Finset.filter_true_of_mem fun i _ => Or.inl i.isLt) fun _ _ => rfl

/-- Row `r` of device `c`'s share. -/
def row (c : Dev nD) (r : Fin 16) : Fin 256 := ⟨16 * c.val + r.val, by have : c.val < 16 := c.isLt; omega⟩

variable (I : Inp Ideal)

namespace Inp

/-- All the devices' numerators. -/
def N (b : Fin 2) (s e : Fin 256) : EReal := ∑ i : Dev nD, ∑ t : Fin 256, I.W i b (headOf e) s t * I.v i (ix3 b t e)

/-- All the devices' denominators. -/
def D (b : Fin 2) (h : Fin 4) (s : Fin 256) : EReal := ∑ i : Dev nD, ∑ t : Fin 256, I.W i b h s t

theorem ctxSlab_apply (i c : Dev nD) (b : Fin 2) (r : Fin 16) (e : Fin 256) :
    I.ctxSlab i c (ix3 b r e) = ∑ t : Fin 256, I.W i b (headOf e) (row c r) t * I.v i (ix3 b t e) := by
  refine (congrArg (I.ctx i) (funext fun a => Fin.ext ?_)).trans (ctx_apply I i b (row c r) e)
  match a with
  | ⟨0, _⟩ => show 0 + 1 * b.val = b.val; omega
  | ⟨1, _⟩ => show 16 * c.val + 1 * r.val = 16 * c.val + r.val; omega
  | ⟨2, _⟩ => show 0 + 1 * e.val = e.val; omega

theorem denSlab_apply (i c : Dev nD) (b : Fin 2) (r : Fin 16) (h : Fin 4) :
    I.denSlab i c (ix3 b r h) = ∑ t : Fin 256, I.W i b h (row c r) t := by
  refine (congrArg (I.den i) (funext fun a => Fin.ext ?_)).trans (den_apply I i b h (row c r))
  match a with
  | ⟨0, _⟩ => show 0 + 1 * b.val = b.val; omega
  | ⟨1, _⟩ => show 16 * c.val + 1 * r.val = 16 * c.val + r.val; omega
  | ⟨2, _⟩ => show 0 + 1 * h.val = h.val; omega

/-- A block of rows read out of its receive slot's box is the block. -/
theorem unsqC_cast (w : Vec Ideal S2x16x256 .bf16) (g : S1x2x16x256.ShapeCasts S2x16x256) : shapeCast S2x16x256 (unsqC w) g = w :=
  funext fun j => congrArg w (Equiv.symm_apply_apply (Shape.reshapeEquiv squeezes_S1x2x16x256_S2x16x256.numel_eq) j)
theorem unsqE_cast (w : Vec Ideal S2x16x4 .bf16) (g : S1x2x16x4.ShapeCasts S2x16x4) : shapeCast S2x16x4 (unsqE w) g = w :=
  funext fun j => congrArg w (Equiv.symm_apply_apply (Shape.reshapeEquiv squeezes_S1x2x16x4_S2x16x4.numel_eq) j)

theorem startC (v : Vec Ideal S2x16x256 .bf16) : k0_pay57 v = v := shapeCast_self (s := S2x16x256) (extf (F := Ideal) .f32 v bitsLt_bf16_f32) shapeCasts_S2x16x256_S2x16x256
theorem startE (v : Vec Ideal S2x16x4 .bf16) : k0_pay58 v = v := shapeCast_self (s := S2x16x4) (extf (F := Ideal) .f32 v bitsLt_bf16_f32) shapeCasts_S2x16x4_S2x16x4
theorem stepC (a : Vec Ideal S2x16x256 .f32) (w : Vec Ideal S2x16x256 .bf16) (j : S2x16x256.Idx) : k0_pay1 a (unsqC w) j = (a j + w j : EReal) :=
  (congrFun (shapeCast_self (s := S2x16x256) (addf a (extf .f32 (shapeCast S2x16x256 (unsqC w) shapeCasts_S1x2x16x256_S2x16x256 : FVec Ideal S2x16x256 .bf16)
    bitsLt_bf16_f32)) shapeCasts_S2x16x256_S2x16x256) j).trans (congrArg (fun z : EReal => a j + z) (congrFun (unsqC_cast w _) j))
theorem stepE (a : Vec Ideal S2x16x4 .f32) (w : Vec Ideal S2x16x4 .bf16) (j : S2x16x4.Idx) : k0_pay89 a (unsqE w) j = (a j + w j : EReal) :=
  (congrFun (shapeCast_self (s := S2x16x4) (addf a (extf .f32 (shapeCast S2x16x4 (unsqE w) shapeCasts_S1x2x16x4_S2x16x4 : FVec Ideal S2x16x4 .bf16)
    bitsLt_bf16_f32)) shapeCasts_S2x16x4_S2x16x4) j).trans (congrArg (fun z : EReal => a j + z) (congrFun (unsqE_cast w _) j))

theorem accC_apply (c : Dev nD) (b : Fin 2) (r : Fin 16) (e : Fin 256) : I.accC c 16 (ix3 b r e) = I.N b (row c r) e := by
  have h := acc_total (fun i : Fin 16 => (I.ctxSlab i c (ix3 b r e) : EReal)) c (fun k => I.accC c k (ix3 b r e))
    (congrFun (startC _) _) (fun k => by
      show (if h : k < 16 ∧ k ≠ c.val then k0_pay1 (I.accC c k) (unsqC (I.ctxSlab ⟨k, h.1⟩ c)) else I.accC c k) (ix3 b r e) = _
      by_cases h : k < 16 ∧ k ≠ c.val
      · rw [dif_pos h, dif_pos h]
        exact stepC _ _ _
      · rw [dif_neg h, dif_neg h])
  exact h.trans (Finset.sum_congr rfl fun i _ => ctxSlab_apply I i c b r e)

theorem accE_apply (c : Dev nD) (b : Fin 2) (r : Fin 16) (e : Fin 4) : I.accE c 16 (ix3 b r e) = I.D b e (row c r) := by
  have h := acc_total (fun i : Fin 16 => (I.denSlab i c (ix3 b r e) : EReal)) c (fun k => I.accE c k (ix3 b r e))
    (congrFun (startE _) _) (fun k => by
      show (if h : k < 16 ∧ k ≠ c.val then k0_pay89 (I.accE c k) (unsqE (I.denSlab ⟨k, h.1⟩ c)) else I.accE c k) (ix3 b r e) = _
      by_cases h : k < 16 ∧ k ≠ c.val
      · rw [dif_pos h, dif_pos h]
        exact stepE _ _ _
      · rw [dif_neg h, dif_neg h])
  exact h.trans (Finset.sum_congr rfl fun i _ => denSlab_apply I i c b r e)

/-- Rows divided, head by head. -/
theorem quot_apply (C : Vec Ideal S2x16x256 .f32) (E : Vec Ideal S2x16x4 .f32) (b : Fin 2) (r : Fin 16) (e : Fin 256) :
    k0_pay105 C E (ix3 b r e) = Ideal.div (C (ix3 b r e)) (E (ix3 b r (headOf e))) := by
  refine (congrFun (shapeCast_self (s := S2x16x256) (truncf .bf16 (shapeCast S2x16x256 (divf (shapeCast S2x16x4x64 C shapeCasts_S2x16x256_S2x16x4x64)
    (broadcastTo S2x16x4x64 (shapeCast S2x16x4x1 E shapeCasts_S2x16x4_S2x16x4x1) broadcasts_S2x16x4x1_S2x16x4x64) : FVec Ideal S2x16x4x64 .f32)
    shapeCasts_S2x16x4x64_S2x16x256) bitsLt_bf16_f32) shapeCasts_S2x16x256_S2x16x256) _).trans ?_
  rw [truncf_apply]
  refine (shapeCast_apply (t := S2x16x256) _ shapeCasts_S2x16x4x64_S2x16x256 (ix3 b r e) (ix4 b r (headOf e) (inHead e)) ?_).trans ?_
  · rw [Shape.rowMajor_val_four, Shape.rowMajor_val_three]
    show ((b.val * 16 + r.val) * 4 + e.val / 64) * 64 + e.val % 64 = (b.val * 16 + r.val) * 256 + e.val
    omega
  · refine congrArg₂ Ideal.div ?_ ?_
    · refine shapeCast_apply (t := S2x16x4x64) C shapeCasts_S2x16x256_S2x16x4x64 (ix4 b r (headOf e) (inHead e)) (ix3 b r e) ?_
      rw [Shape.rowMajor_val_four, Shape.rowMajor_val_three]
      show (b.val * 16 + r.val) * 256 + e.val = ((b.val * 16 + r.val) * 4 + e.val / 64) * 64 + e.val % 64
      omega
    · refine (broadcastTo_apply (t := S2x16x4x64) _ broadcasts_S2x16x4x1_S2x16x4x64 (ix4 b r (headOf e) (inHead e))
        (ix4 b r (headOf e) ⟨0, Nat.one_pos⟩) (fun a => ?_)).trans ?_
      · match a with
        | ⟨0, _⟩ => rfl
        | ⟨1, _⟩ => rfl
        | ⟨2, _⟩ => rfl
        | ⟨3, _⟩ => rfl
      · refine shapeCast_apply (t := S2x16x4x1) E shapeCasts_S2x16x4_S2x16x4x1 (ix4 b r (headOf e) ⟨0, Nat.one_pos⟩) (ix3 b r (headOf e)) ?_
        rw [Shape.rowMajor_val_four, Shape.rowMajor_val_three]
        show (b.val * 16 + r.val) * 4 + e.val / 64 = ((b.val * 16 + r.val) * 4 + e.val / 64) * 1 + 0
        omega

theorem y_apply (c : Dev nD) (b : Fin 2) (r : Fin 16) (e : Fin 256) :
    I.y c (ix3 b r e) = Ideal.div (I.N b (row c r) e) (I.D b (headOf e) (row c r)) :=
  (quot_apply _ _ b r e).trans (congrArg₂ Ideal.div (accC_apply I c b r e) (accE_apply I c b r (headOf e)))

theorem outBox_apply (c j : Dev nD) (b : Fin 2) (r : Fin 16) (n : Fin 512) :
    I.outBox c j b (ix3 ⟨0, Nat.one_pos⟩ r n) = ∑ e : Fin 256, I.y j (ix3 b r e) * I.wo c (ix2 e n) := by
  refine (cast_add (a := 16) (b := 512) (matmul dot_S16x256_S256x512_S16x512_1_0_0_1_n_n none
    (shapeCast S16x256 (window (s := S2x16x256) (I.y j) ![b.val, 0, 0] S1x16x256.size (yb0_inb b) : S1x16x256.Idx → EReal) shapeCasts_S1x16x256_S16x256)
    (k0_pay107 (k0_pay106 (I.wo c))) (constant S16x512 .f32 0x00000000#32) : S16x512.Idx → EReal) shapeCasts_S16x512_S1x16x512 r n).trans ?_
  refine (Ideal.matmul_plain_apply (M := 16) (K := 256) (N := 512) none _ _ _ r n).trans ?_
  refine (congrArg₂ (· + ·) Ideal.ofBits_zero_f32 rfl).trans ((zero_add _).trans (Finset.sum_congr rfl fun e _ => ?_))
  refine congrArg₂ (· * ·) ?_ (congrFun (shapeCast_self _ _) _)
  refine (cast_drop (a := 16) (b := 256)
    (window (s := S2x16x256) (I.y j) ![b.val, 0, 0] S1x16x256.size (yb0_inb b) : S1x16x256.Idx → EReal)
    shapeCasts_S1x16x256_S16x256 r e).trans (congrArg (I.y j) (funext fun a => Fin.ext ?_))
  match a with
  | ⟨0, _⟩ => show b.val + 1 * 0 = b.val; omega
  | ⟨1, _⟩ => show 0 + 1 * r.val = r.val; omega
  | ⟨2, _⟩ => show 0 + 1 * e.val = e.val; omega

theorem out_apply (c : Dev nD) (b : Fin 2) (s : Fin 256) (n : Fin 512) :
    I.out c (ix3 b s n) = ∑ e : Fin 256, Ideal.div (I.N b s e) (I.D b (headOf e) s) * I.wo c (ix2 e n) := by
  have hi : I.out c (ix3 b s n) = I.outBox c (rowDev s.val s.isLt) b (ix3 ⟨0, Nat.one_pos⟩ ⟨s.val % 16, Nat.mod_lt _ (by decide)⟩ n) := by
    refine congrArg (I.outBox c (rowDev s.val s.isLt) b) (funext fun a => Fin.ext ?_)
    match a with
    | ⟨0, _⟩ => rfl
    | ⟨1, _⟩ => rfl
    | ⟨2, _⟩ => rfl
  have hr : row (rowDev s.val s.isLt) ⟨s.val % 16, Nat.mod_lt _ (by decide)⟩ = s := Fin.ext (Nat.div_add_mod s.val 16)
  rw [hi, outBox_apply]
  refine Finset.sum_congr rfl fun e _ => ?_
  rw [y_apply, hr]

end Inp

end Cert.KernelIdeal.Hand

end
-- ==== Proof.Softmax.lean ====
/-
The law the proof rests on, over the extended reals: weights `exp s` of finite scores, summed against values and divided by
their own sum, are the softmax of the scores with the masked ones at minus infinity, whatever its rows are shifted by.
-/
module

public import Idealize.ShloMosaic.PureOps.Ideal
public import Idealize.ShloMosaic.PureOps.Ideal.Laws

@[expose] public section

noncomputable section

namespace Cert.Softmax

open Idealize.ShloMosaic
open scoped BigOperators

variable {ι : Type} [Fintype ι]

/-- A finite sum of reals is the same number as an extended real. -/
theorem coe_sum (f : ι → ℝ) (s : Finset ι) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Multiplication by a nonnegative real distributes over a sum of any extended reals. -/
theorem sum_mul_coe (f : ι → EReal) (s : Finset ι) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- Division by a nonzero real is multiplication by its inverse. -/
theorem div_coe (x : EReal) {r : ℝ} (hr : r ≠ 0) : Ideal.div x (r : EReal) = x * ((r⁻¹ : ℝ) : EReal) := by
  unfold Ideal.div
  rw [if_neg (by rwa [EReal.coe_eq_zero]), EReal.coe_inv]

theorem exp_coe (r : ℝ) : Ideal.exp (r : EReal) = ((Real.exp r : ℝ) : EReal) := rfl
theorem exp_bot : Ideal.exp ⊥ = 0 := rfl

/-- A score, or minus infinity where the mask is off. -/
def masked (mask : ι → Prop) [DecidablePred mask] (sc : ι → ℝ) (k : ι) : EReal := if mask k then (sc k : EReal) else ⊥
/-- The largest masked score. -/
def top (mask : ι → Prop) [DecidablePred mask] (sc : ι → ℝ) : EReal := (Finset.univ : Finset ι).fold max ⊥ (masked mask sc)
/-- A masked weight as a real. -/
def wt (mask : ι → Prop) [DecidablePred mask] (sc : ι → ℝ) (k : ι) : ℝ := if mask k then Real.exp (sc k) else 0

variable (mask : ι → Prop) [DecidablePred mask] (sc : ι → ℝ)

/-- The largest of the masked scores is a real where some score is not masked. -/
theorem top_real (k0 : ι) (h0 : mask k0) : ∃ M : ℝ, top mask sc = (M : EReal) := by
  have h1 : top mask sc ≠ ⊤ := by
    refine ne_of_lt ((Finset.fold_max_lt _).mpr ⟨bot_lt_top, fun k _ => ?_⟩)
    unfold masked; split
    · exact EReal.coe_lt_top _
    · exact bot_lt_top
  have h2 : top mask sc ≠ ⊥ := by
    have : ((sc k0 : ℝ) : EReal) ≤ top mask sc := by
      refine (Finset.le_fold_max _).mpr (Or.inr ⟨k0, Finset.mem_univ _, ?_⟩)
      unfold masked; rw [if_pos h0]
    exact fun e => absurd (e ▸ this) (not_le.mpr (EReal.bot_lt_coe _))
  exact ⟨(top mask sc).toReal, (EReal.coe_toReal h1 h2).symm⟩

theorem exp_masked_sub (M : ℝ) (k : ι) :
    Ideal.exp (masked mask sc k - (M : EReal)) = ((wt mask sc k * Real.exp (-M) : ℝ) : EReal) := by
  unfold masked wt
  split
  · rw [← EReal.coe_sub, exp_coe, sub_eq_add_neg, Real.exp_add]
  · rw [EReal.bot_sub, exp_bot, zero_mul, EReal.coe_zero]

theorem exp_mul_mask (k : ι) : Ideal.exp (sc k : EReal) * (if mask k then 1 else 0) = ((wt mask sc k : ℝ) : EReal) := by
  unfold wt
  split
  · rw [mul_one, exp_coe]
  · rw [mul_zero, EReal.coe_zero]

theorem wt_nonneg (k : ι) : 0 ≤ wt mask sc k := by
  unfold wt; split
  · exact (Real.exp_pos _).le
  · exact le_rfl

theorem sum_wt_pos (k0 : ι) (h0 : mask k0) : 0 < ∑ k, wt mask sc k :=
  Finset.sum_pos' (fun k _ => wt_nonneg mask sc k) ⟨k0, Finset.mem_univ _, by unfold wt; rw [if_pos h0]; exact Real.exp_pos _⟩

/-- The unshifted, multiplied-by-a-mask form equals the shifted softmax against any values. -/
theorem attend (k0 : ι) (h0 : mask k0) (V : ι → EReal) :
    Ideal.div (∑ k, Ideal.exp (sc k : EReal) * (if mask k then 1 else 0) * V k)
        (∑ k, Ideal.exp (sc k : EReal) * (if mask k then 1 else 0))
      = ∑ k, V k * Ideal.div (Ideal.exp (masked mask sc k - top mask sc)) (∑ j, Ideal.exp (masked mask sc j - top mask sc)) := by
  obtain ⟨M, hM⟩ := top_real mask sc k0 h0
  have hD := sum_wt_pos mask sc k0 h0
  have hE : (0 : ℝ) < Real.exp (-M) := Real.exp_pos _
  simp only [hM, exp_masked_sub, exp_mul_mask]
  rw [← coe_sum, ← coe_sum, ← Finset.sum_mul, div_coe _ hD.ne', sum_mul_coe _ _ (inv_nonneg.mpr hD.le)]
  refine Finset.sum_congr rfl fun k _ => ?_
  rw [div_coe _ (mul_pos hD hE).ne', ← EReal.coe_mul, mul_comm ((wt mask sc k : ℝ) : EReal) (V k), mul_assoc, ← EReal.coe_mul]
  congr 2
  rw [mul_inv, mul_mul_mul_comm, mul_inv_cancel₀ hE.ne', mul_one]

end Cert.Softmax

end
-- ==== Proof.ValueRef.lean ====
/-
The reference's result at an index, over the extended reals, where every score is a real number.
-/
module

public import proofs.«01_k».proof.Proof.ValueRefMask
public import proofs.«01_k».proof.Proof.ValueOut
public import proofs.«01_k».proof.Proof.Softmax

@[expose] public section

set_option maxRecDepth 65536

noncomputable section

namespace Cert.ReferenceIdeal.Hand

open Cert.ReferenceIdeal Cert.ReferenceIdeal.Gen Cert.ReferenceIdeal.Read
open Idealize.ShloMosaic Idealize.ShloMosaic.ValueIdx
open Cert.KernelIdeal.Hand (col eighth)
open Cert.KernelIdeal.Hand.Inp (headOf inHead col_headOf)
open scoped BigOperators

theorem bot_bits : Ideal.ofBits .f32 0xFF800000#32 = (⊥ : EReal) := by simp [Ideal.ofBits, Ideal.ieee]

theorem ori_one (x : BitVec 1) : IntOp.ori 1#1 x = 1#1 := by revert x; decide

/-- A disjunction of bits one of which is set is set. -/
theorem fold_ori {ι : Type} [Fintype ι] [DecidableEq ι] (f : ι → BitVec 1) (b : BitVec 1) (i : ι) (hi : f i = 1#1) :
    (Finset.univ : Finset ι).fold IntOp.ori b f = 1#1 := by
  rw [← Finset.insert_erase (Finset.mem_univ i), Finset.fold_insert (Finset.notMem_erase _ _), hi]
  exact ori_one _

variable (x0 : FVec Ideal S2x256x512 .f32) (x1 : FVec Ideal S512x256 .f32) (x2 x3 : FVec Ideal S2x4096x256 .f32) (x4 : FVec Ideal S256x512 .f32)

/-- A query's component. -/
def qv (b : Fin 2) (s e : Fin 256) : EReal := ∑ p : Fin 512, x0 (ix3 b s p) * x1 (ix2 p e)

/-- A score. -/
def sv (b : Fin 2) (h : Fin 4) (s : Fin 256) (t : Fin 4096) : EReal :=
  (∑ d : Fin 64, qv x0 x1 b s (col h d) * x2 (ix3 b t (col h d))) * eighth

theorem v2_at (b : Fin 2) (s e : Fin 256) : val_main_v2 (F := Ideal) x0 x1 (ix3 b s e) = qv x0 x1 b s e := by
  rw [val_main_v2_apply]
  refine Finset.sum_congr rfl fun p _ => congrArg₂ (· * ·) (congrArg x0 (funext fun a => Fin.ext ?_)) (congrArg x1 (funext fun a => Fin.ext ?_))
  · match a with
    | ⟨0, _⟩ => rfl
    | ⟨1, _⟩ => rfl
    | ⟨2, _⟩ => rfl
  · match a with
    | ⟨0, _⟩ => rfl
    | ⟨1, _⟩ => rfl

theorem v3_at (b : Fin 2) (s : Fin 256) (h : Fin 4) (d : Fin 64) : val_main_v3 (F := Ideal) x0 x1 (ix4 b s h d) = qv x0 x1 b s (col h d) := by
  rw [val_main_v3_apply, ← v2_at]
  refine congrArg (val_main_v2 (F := Ideal) x0 x1) (funext fun a => Fin.ext ?_)
  match a with
  | ⟨0, _⟩ => show (((b.val * 256 + s.val) * 4 + h.val) * 64 + d.val) / 65536 = b.val; omega
  | ⟨1, _⟩ => show (((b.val * 256 + s.val) * 4 + h.val) * 64 + d.val) / 256 % 256 = s.val; omega
  | ⟨2, _⟩ => show (((b.val * 256 + s.val) * 4 + h.val) * 64 + d.val) % 256 = 64 * h.val + d.val; omega

theorem v0_at (b : Fin 2) (t : Fin 4096) (h : Fin 4) (d : Fin 64) : val_main_v0 (F := Ideal) x2 (ix4 b t h d) = x2 (ix3 b t (col h d)) := by
  rw [val_main_v0_apply]
  refine congrArg x2 (funext fun a => Fin.ext ?_)
  match a with
  | ⟨0, _⟩ => show (((b.val * 4096 + t.val) * 4 + h.val) * 64 + d.val) / 1048576 = b.val; omega
  | ⟨1, _⟩ => show (((b.val * 4096 + t.val) * 4 + h.val) * 64 + d.val) / 256 % 4096 = t.val; omega
  | ⟨2, _⟩ => show (((b.val * 4096 + t.val) * 4 + h.val) * 64 + d.val) % 256 = 64 * h.val + d.val; omega

theorem v1_at (b : Fin 2) (t : Fin 4096) (h : Fin 4) (d : Fin 64) : val_main_v1 (F := Ideal) x3 (ix4 b t h d) = x3 (ix3 b t (col h d)) :=
  v0_at x3 b t h d

theorem v21_at (b : Fin 2) (h : Fin 4) (s : Fin 256) (t : Fin 4096) : val_main_v21 (F := Ideal) x0 x1 x2 (ix4 b h s t) = sv x0 x1 x2 b h s t := by
  rw [val_main_v21_apply, val_main_v20_apply, val_main_cst_apply, val_main_v19_apply]
  refine congrArg (· * eighth) (Finset.sum_congr rfl fun d _ => congrArg₂ (· * ·) ?_ ?_)
  · rw [← v3_at]
    refine congrArg (val_main_v3 (F := Ideal) x0 x1) (funext fun a => Fin.ext ?_)
    match a with
    | ⟨0, _⟩ => rfl
    | ⟨1, _⟩ => rfl
    | ⟨2, _⟩ => rfl
    | ⟨3, _⟩ => rfl
  · refine Eq.trans (congrArg (val_main_v0 (F := Ideal) x2) (?_ : _ = ix4 b t h d)) (v0_at x2 b t h d)
    refine (funext fun a => Fin.ext ?_)
    match a with
    | ⟨0, _⟩ => rfl
    | ⟨1, _⟩ => rfl
    | ⟨2, _⟩ => rfl
    | ⟨3, _⟩ => rfl

theorem v22_at (b : Fin 2) (h : Fin 4) (s : Fin 256) (t : Fin 4096) :
    val_main_call4_v1 (F := Ideal) (ix4 b h s t) = if attends s t then 1#1 else 0#1 := by
  rw [val_main_call4_v1_apply, val_main_v22_apply, ← v18_at]
  refine congrArg (val_main_v18 (F := Ideal)) (funext fun a => Fin.ext ?_)
  match a with
  | ⟨0, _⟩ => rfl
  | ⟨1, _⟩ => rfl

theorem v23_at (b : Fin 2) (h : Fin 4) (s : Fin 256) (t : Fin 4096) :
    val_main_v23 (F := Ideal) x0 x1 x2 (ix4 b h s t) = if attends s t then sv x0 x1 x2 b h s t else (⊥ : EReal) := by
  rw [val_main_v23_apply, v22_at, v21_at, val_main_call4_v2_apply, val_main_call4_v0_apply, val_main_cst_3_apply]
  split
  · exact select_one _ _
  · exact (select_zero _ _).trans bot_bits

/-- The greatest masked score of a query. -/
theorem v24_at (b : Fin 2) (h : Fin 4) (s : Fin 256) : val_main_v24 (F := Ideal) x0 x1 x2 (ix3 b h s)
    = (Finset.univ : Finset (Fin 4096)).fold max ⊥ (fun t => if attends s t then sv x0 x1 x2 b h s t else (⊥ : EReal)) := by
  refine (Host.reduce_eq_fold_single (s := S2x4x256x4096) (t := S2x4x256) (a := 3) (FloatOps.maximumf (F := Ideal) (φ := .f32)) (val_main_v23 (F := Ideal) x0 x1 x2)
    (val_main_cst_4 (F := Ideal)) reducesTo_S2x4x256x4096_S2x4x256_d3 (by decide) h_S_ (ix3 b h s)).trans ?_
  have hb : (val_main_cst_4 (F := Ideal) (Shape.Idx.first h_S_)) = (⊥ : EReal) := bot_bits
  rw [hb]
  refine Finset.fold_congr (op := max) fun t _ => ?_
  refine Eq.trans (congrArg (val_main_v23 (F := Ideal) x0 x1 x2) (?_ : _ = ix4 b h s t)) (v23_at x0 x1 x2 b h s t)
  refine (funext fun a => Fin.ext ?_)
  match a with
  | ⟨0, _⟩ => rfl
  | ⟨1, _⟩ => rfl
  | ⟨2, _⟩ => rfl
  | ⟨3, _⟩ => rfl

theorem attends_self (s : Fin 256) : attends s ⟨s.val, by omega⟩ := by
  show s.val / 64 = s.val / 64 % 4
  omega

/-- Every query attends some key. -/
theorem v29_at (s : Fin 256) : val_main_v29 (F := Ideal) (ix1 s) = 1#1 := by
  refine (Host.reduce_eq_fold_single (s := S256x4096) (t := S256) (a := 1) IntOp.ori (val_main_v18 (F := Ideal))
    (val_main_c_5 (F := Ideal)) reducesTo_S256x4096_S256_d1 (by decide) h_S_ (ix1 s)).trans ?_
  refine fold_ori (ι := Fin 4096) _ _ ⟨s.val, by omega⟩ ?_
  refine Eq.trans (congrArg (val_main_v18 (F := Ideal)) (?_ : _ = ix2 s ⟨s.val, by omega⟩)) ((v18_at s ⟨s.val, by omega⟩).trans (if_pos (attends_self s)))
  refine funext fun a => Fin.ext ?_
  match a with
  | ⟨0, _⟩ => rfl
  | ⟨1, _⟩ => rfl

variable {x0 x1 x2} (sc : Fin 2 → Fin 4 → Fin 256 → Fin 4096 → ℝ) (hsc : ∀ b h s t, sv x0 x1 x2 b h s t = ((sc b h s t : ℝ) : EReal))
include hsc

theorem v28_at (b : Fin 2) (h : Fin 4) (s : Fin 256) (t : Fin 4096) : val_main_v28 (F := Ideal) x0 x1 x2 (ix4 b h s t)
    = Ideal.exp (Softmax.masked (attends s) (sc b h s) t - Softmax.top (attends s) (sc b h s)) := by
  rw [val_main_v28_apply, val_main_v27_apply, v23_at, val_main_v26_apply, val_main_v25_apply]
  have e : idx_main_v25 (idx_main_v26 (ix4 b h s t)) = ix3 b h s := funext fun a => Fin.ext (by
    match a with
    | ⟨0, _⟩ => rfl
    | ⟨1, _⟩ => rfl
    | ⟨2, _⟩ => rfl)
  rw [e, v24_at]
  simp only [hsc]
  rfl

theorem v31_at (b : Fin 2) (h : Fin 4) (s : Fin 256) : val_main_v31 (F := Ideal) x0 x1 x2 (ix3 b h s)
    = ∑ j : Fin 4096, Ideal.exp (Softmax.masked (attends s) (sc b h s) j - Softmax.top (attends s) (sc b h s)) := by
  rw [val_main_v31_apply]
  refine (congrArg₂ (· + ·) Ideal.ofBits_zero_f32 rfl).trans ((zero_add _).trans (Finset.sum_congr rfl fun t _ => ?_))
  rw [← v28_at sc hsc]
  refine congrArg (val_main_v28 (F := Ideal) x0 x1 x2) (funext fun a => Fin.ext ?_)
  match a with
  | ⟨0, _⟩ => rfl
  | ⟨1, _⟩ => rfl
  | ⟨2, _⟩ => rfl
  | ⟨3, _⟩ => rfl

theorem v37_at (b : Fin 2) (h : Fin 4) (s : Fin 256) (t : Fin 4096) : val_main_v37 (F := Ideal) x0 x1 x2 (ix4 b h s t)
    = Ideal.div (Ideal.exp (Softmax.masked (attends s) (sc b h s) t - Softmax.top (attends s) (sc b h s)))
        (∑ j : Fin 4096, Ideal.exp (Softmax.masked (attends s) (sc b h s) j - Softmax.top (attends s) (sc b h s))) := by
  have e1 : ∀ i : S256.Idx, (i 0).val = s.val → i = ix1 s := fun i g => funext fun a => Fin.ext (by
    match a with
    | ⟨0, _⟩ => exact g)
  have e2 : idx_main_v32 (idx_main_v34 (ix4 b h s t)) = ix3 b h s := funext fun a => Fin.ext (by
    match a with
    | ⟨0, _⟩ => rfl
    | ⟨1, _⟩ => rfl
    | ⟨2, _⟩ => rfl)
  rw [val_main_v37_apply, val_main_call6_v1_apply, val_main_v36_apply, e1 (idx_main_v36 (idx_main_call6_v1 (ix4 b h s t))) rfl, v29_at, select_one,
    val_main_v35_apply, val_main_v34_apply, val_main_v33_apply, val_main_call5_v1_apply, val_main_v30_apply,
    e1 (idx_main_v30 (idx_main_call5_v1 (idx_main_v34 (ix4 b h s t)))) rfl, v29_at, select_one, val_main_v32_apply, e2, v28_at sc hsc, v31_at sc hsc]
  rfl

theorem v38_at (b : Fin 2) (h : Fin 4) (d : Fin 64) (s : Fin 256) : val_main_v38 (F := Ideal) x0 x1 x2 x3 (ix4 b h d s)
    = Ideal.div (∑ t : Fin 4096, Ideal.exp ((sc b h s t : ℝ) : EReal) * (if attends s t then 1 else 0) * x3 (ix3 b t (col h d)))
        (∑ t : Fin 4096, Ideal.exp ((sc b h s t : ℝ) : EReal) * (if attends s t then 1 else 0)) := by
  rw [val_main_v38_apply, Softmax.attend (attends s) (sc b h s) ⟨s.val, by omega⟩ (attends_self s)]
  refine Finset.sum_congr rfl fun t _ => congrArg₂ (· * ·) ?_ ?_
  · refine Eq.trans (congrArg (val_main_v1 (F := Ideal) x3) (?_ : _ = ix4 b t h d)) (v1_at x3 b t h d)
    refine (funext fun a => Fin.ext ?_)
    match a with
    | ⟨0, _⟩ => rfl
    | ⟨1, _⟩ => rfl
    | ⟨2, _⟩ => rfl
    | ⟨3, _⟩ => rfl
  · rw [← v37_at sc hsc]
    refine congrArg (val_main_v37 (F := Ideal) x0 x1 x2) (funext fun a => Fin.ext ?_)
    match a with
    | ⟨0, _⟩ => rfl
    | ⟨1, _⟩ => rfl
    | ⟨2, _⟩ => rfl
    | ⟨3, _⟩ => rfl

theorem v40_at (b : Fin 2) (s e : Fin 256) : val_main_v40 (F := Ideal) x0 x1 x2 x3 (ix3 b s e)
    = Ideal.div (∑ t : Fin 4096, Ideal.exp ((sc b (headOf e) s t : ℝ) : EReal) * (if attends s t then 1 else 0) * x3 (ix3 b t e))
        (∑ t : Fin 4096, Ideal.exp ((sc b (headOf e) s t : ℝ) : EReal) * (if attends s t then 1 else 0)) := by
  have e1 : idx_main_v39 (idx_main_v40 (ix3 b s e)) = ix4 b (headOf e) (inHead e) s := funext fun a => Fin.ext (by
    match a with
    | ⟨0, _⟩ => show ((b.val * 256 + s.val) * 256 + e.val) / 65536 = b.val; omega
    | ⟨1, _⟩ => show ((b.val * 256 + s.val) * 256 + e.val) / 64 % 4 = e.val / 64; omega
    | ⟨2, _⟩ => show ((b.val * 256 + s.val) * 256 + e.val) % 64 = e.val % 64; omega
    | ⟨3, _⟩ => show ((b.val * 256 + s.val) * 256 + e.val) / 256 % 256 = s.val; omega)
  rw [val_main_v40_apply, val_main_v39_apply, e1, v38_at x3 sc hsc, col_headOf]

/-- The reference's result. -/
theorem v41_at (b : Fin 2) (s : Fin 256) (n : Fin 512) : val_main_v41 (F := Ideal) x0 x1 x2 x3 x4 (ix3 b s n)
    = ∑ e : Fin 256, Ideal.div (∑ t : Fin 4096, Ideal.exp ((sc b (headOf e) s t : ℝ) : EReal) * (if attends s t then 1 else 0) * x3 (ix3 b t e))
        (∑ t : Fin 4096, Ideal.exp ((sc b (headOf e) s t : ℝ) : EReal) * (if attends s t then 1 else 0)) * x4 (ix2 e n) := by
  rw [val_main_v41_apply]
  refine Finset.sum_congr rfl fun e _ => congrArg₂ (· * ·) ?_ (congrArg x4 (funext fun a => Fin.ext ?_))
  · rw [← v40_at x3 sc hsc]
    refine congrArg (val_main_v40 (F := Ideal) x0 x1 x2 x3) (funext fun a => Fin.ext ?_)
    match a with
    | ⟨0, _⟩ => rfl
    | ⟨1, _⟩ => rfl
    | ⟨2, _⟩ => rfl
  · match a with
    | ⟨0, _⟩ => rfl
    | ⟨1, _⟩ => rfl

end Cert.ReferenceIdeal.Hand

end
-- ==== Proof.ValueEq.lean ====
/-
The two results are one: under the precondition every score is a real number, and the sum over all the keys is the sum over
the devices of the sum over the keys each holds.
-/
module

public import proofs.«01_k».proof.Proof.ValueRef
public import proofs.«01_k».proof.Pre_finite_KernelIdeal
public import Idealize.ShloMosaic.Lib.ReduceAll

@[expose] public section

set_option maxRecDepth 65536

noncomputable section

namespace Cert.KernelIdeal.Hand

open Cert.KernelIdeal Cert.KernelIdeal.Gen
open Idealize.ShloMosaic Idealize.ShloMosaic.ValueIdx
open Cert.ReferenceIdeal.Hand (qv sv attends v41_at)
open Inp (headOf)
open scoped BigOperators

/-! ### Finite numbers -/

/-- A number that is neither infinity. -/
def IsFin (x : EReal) : Prop := ∃ r : ℝ, x = (r : EReal)

theorem real_mul {x y : EReal} (hx : IsFin x) (hy : IsFin y) : IsFin (x * y) := by
  obtain ⟨a, rfl⟩ := hx
  obtain ⟨b, rfl⟩ := hy
  exact ⟨a * b, (EReal.coe_mul a b).symm⟩

theorem real_sum {ι : Type} (s : Finset ι) (f : ι → EReal) (h : ∀ i ∈ s, IsFin (f i)) : IsFin (∑ i ∈ s, f i) := by
  classical
  choose g hg using fun i : s => h i.1 i.2
  refine ⟨∑ i : s, g i, ?_⟩
  rw [Softmax.coe_sum, ← Finset.sum_coe_sort s]
  exact Finset.sum_congr rfl fun i _ => hg i

theorem real_eighth : IsFin eighth := ⟨(1 / 8 : ℝ), by
  simp [Ideal.ofBits, Ideal.ieee, -EReal.coe_mul]
  norm_num⟩

theorem top_bits : Ideal.ofBits .f32 0x7F800000#32 = (⊤ : EReal) := by simp [Ideal.ofBits, Ideal.ieee]

/-- The two comparisons of the precondition, both true, leave a finite number. -/
theorem real_of_bit (x : EReal) (h : IntOp.andi (Ideal.cmp .ogt x (Ideal.ofBits .f32 0xFF800000#32)) (Ideal.cmp .olt x (Ideal.ofBits .f32 0x7F800000#32)) = 1#1) :
    IsFin x := by
  rw [Cert.ReferenceIdeal.Hand.bot_bits, top_bits] at h
  have h' : IntOp.andi (Ideal.cmp .ogt x ⊥) (Ideal.cmp .olt x ⊤) = 1#1 := h
  induction x using EReal.rec with
  | bot => simp [Ideal.cmp, IntOp.andi] at h'
  | top => simp [Ideal.cmp, IntOp.andi] at h'
  | coe r => exact ⟨r, rfl⟩

theorem and_left (a b : BitVec 1) (h : IntOp.andi a b = 1#1) : a = 1#1 := by revert a b; decide
theorem and_right (a b : BitVec 1) (h : IntOp.andi a b = 1#1) : b = 1#1 := by revert a b; decide

section Pre
variable [Cert.Pre_finite_KernelIdeal.Facts]

/-- What the precondition says. -/
theorem pre_real (x0 : FVec Ideal S2x256x512 .f32) (x1 : FVec Ideal S512x256 .f32) (x2 x3 : FVec Ideal S2x256x256 .f32) (x4 : FVec Ideal S256x512 .f32)
    (h : Cert.Pre_finite_KernelIdeal.fn x0 x1 x2 x3 x4 = fun _ => 1#1) : (∀ i, IsFin (x0 i)) ∧ (∀ i, IsFin (x1 i)) ∧ ∀ i, IsFin (x2 i) := by
  haveI : Subsingleton Cert.Pre_finite_KernelIdeal.S_.Idx := ⟨fun a b => funext fun x => x.elim0⟩
  have h0 := congrFun h (fun a => a.elim0)
  have h2 := and_right _ _ h0
  have h01 := and_left _ _ h0
  have h1 := and_right _ _ h01
  have h0' := and_left _ _ h01
  refine ⟨fun i => real_of_bit _ ?_, fun i => real_of_bit _ ?_, fun i => real_of_bit _ ?_⟩
  · exact Host.reduce_andi_all _ _ _ _ _ h0' i
  · exact Host.reduce_andi_all _ _ _ _ _ h1 i
  · exact Host.reduce_andi_all _ _ _ _ _ h2 i

end Pre

/-! ### One sum over the keys -/

/-- Device `i`'s key `t` among all the keys. -/
def key (i : Dev nD) (t : Fin 256) : Fin 4096 := ⟨256 * i.val + t.val, by have : i.val < 16 := i.isLt; omega⟩

def keys : Dev nD × Fin 256 ≃ Fin 4096 where
  toFun p := key p.1 p.2
  invFun k := (⟨k.val / 256, by show k.val / 256 < 16; omega⟩, ⟨k.val % 256, Nat.mod_lt _ (by decide)⟩)
  left_inv p := Prod.ext (Fin.ext (by show (256 * p.1.val + p.2.val) / 256 = p.1.val; omega)) (Fin.ext (by show (256 * p.1.val + p.2.val) % 256 = p.2.val; omega))
  right_inv k := Fin.ext (Nat.div_add_mod k.val 256)

theorem sum_keys (f : Fin 4096 → EReal) : ∑ k : Fin 4096, f k = ∑ i : Dev nD, ∑ t : Fin 256, f (key i t) :=
  (Equiv.sum_comp keys f).symm.trans (Fintype.sum_prod_type _)

theorem attends_key (s t : Fin 256) (i : Dev nD) : attends s (key i t) ↔ s.val / 64 = t.val / 64 := by
  show s.val / 64 = (256 * i.val + t.val) / 64 % 4 ↔ _
  have : (256 * i.val + t.val) / 64 % 4 = t.val / 64 := by omega
  rw [this]

/-! ### The two results -/

theorem out_eq (I : Inp Ideal) (x0 : FVec Ideal S2x256x512 .f32) (x1 : FVec Ideal S512x256 .f32) (x2 x3 : FVec Ideal Cert.ReferenceIdeal.S2x4096x256 .f32)
    (x4 : FVec Ideal S256x512 .f32) (hx : ∀ c, I.x c = x0) (hq : ∀ c, I.wq c = x1)
    (hk : ∀ c b t e, I.k c (ix3 b t e) = x2 (ix3 b (key c t) e)) (hv : ∀ c b t e, I.v c (ix3 b t e) = x3 (ix3 b (key c t) e)) (ho : ∀ c, I.wo c = x4)
    (r0 : ∀ i, IsFin (x0 i)) (r1 : ∀ i, IsFin (x1 i)) (rk : ∀ c i, IsFin (I.k c i)) (c : Dev nD) :
    I.out c = Cert.ReferenceIdeal.Read.val_main_v41 (F := Ideal) x0 x1 x2 x3 x4 := by
  have r2 : ∀ b k e, IsFin (x2 (ix3 b k e)) := fun b k e => by
    obtain ⟨p, rfl⟩ := keys.surjective k
    show IsFin (x2 (ix3 b (key p.1 p.2) e))
    rw [← hk]
    exact rk _ _
  have rs : ∀ b h s t, IsFin (sv x0 x1 x2 b h s t) := fun b h s t =>
    real_mul (real_sum _ _ fun d _ => real_mul (real_sum _ _ fun p _ => real_mul (r0 _) (r1 _)) (r2 _ _ _)) real_eighth
  choose sc hsc using rs
  have hS : ∀ i b h s t, I.S i b h s t = ((sc b h s (key i t) : ℝ) : EReal) := fun i b h s t => by
    rw [← hsc]
    refine congrArg (· * eighth) (Finset.sum_congr rfl fun d _ => ?_)
    rw [hk]
    refine congrArg (· * x2 (ix3 b (key i t) (col h d))) ?_
    show (∑ p : Fin 512, I.x i (ix3 b s p) * I.wq i (ix2 p (col h d)) : EReal) = _
    rw [hx, hq]
    rfl
  have hW : ∀ i b h s t, I.W i b h s t = Ideal.exp ((sc b h s (key i t) : ℝ) : EReal) * (if attends s (key i t) then 1 else 0) := fun i b h s t => by
    show Ideal.exp (I.S i b h s t) * (if s.val / 64 = t.val / 64 then 1 else 0) = _
    rw [hS]
    simp only [attends_key]
  funext z
  obtain ⟨b, s, n, rfl⟩ : ∃ (b : Fin 2) (s : Fin 256) (n : Fin 512), z = ix3 b s n := ⟨z 0, z 1, z 2, eq_ix3 z⟩
  rw [Inp.out_apply, v41_at x3 x4 sc hsc]
  refine Finset.sum_congr rfl fun e _ => ?_
  rw [sum_keys, sum_keys, ho]
  refine congrArg (· * x4 (ix2 e n)) (congrArg₂ Ideal.div ?_ ?_)
  · exact Finset.sum_congr rfl fun i _ => Finset.sum_congr rfl fun t _ => by rw [hW, hv]
  · exact Finset.sum_congr rfl fun i _ => Finset.sum_congr rfl fun t _ => by rw [hW]

end Cert.KernelIdeal.Hand

end
-- ==== Proof.lean ====
module

public import proofs.«01_k».proof.Defs
public import proofs.«01_k».proof.Proof.KernelFrame
public import proofs.«01_k».proof.Proof.KernelIdealFrame
public import proofs.«01_k».proof.Proof.ValueEq
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

theorem frame_Kernel : Cert.quiescent_Kernel (hKernel := Cert.Kernel.Gen.facts) :=
  fun m g _ => Cert.Kernel.Hand.frame_run m g

theorem frame_KernelIdeal : Cert.quiescent_KernelIdeal (hKernelIdeal := Cert.KernelIdeal.Gen.facts) :=
  fun m g _ => Cert.KernelIdeal.Hand.frame_run m g

/-- The reference has no copy and no counter: its run leaves the arguments alone, and there is no counter to move. -/
theorem frame_ReferenceIdeal : Cert.quiescent_ReferenceIdeal (hReferenceIdeal := Cert.ReferenceIdeal.Gen.facts) :=
  fun m g _ => (θ_run Cert.ReferenceIdeal.defs _ _).mono
    (fun r h => ⟨fun c => (h c).2, Idealize.ShloMosaic.sem_eq_zero_of_no_sems (by decide) r.2⟩)
    (Cert.ReferenceIdeal.Value.run m g)

/-! ### The preconditions' shape facts -/

theorem facts_pre_KernelIdeal : Cert.Pre_finite_KernelIdeal.Facts where
  bcast_S_S2x256x512 := by decide
  reducesTo_S2x256x512_S_d0_1_2 := by decide
  h_S_ := by decide
  bcast_S_S512x256 := by decide
  reducesTo_S512x256_S_d0_1 := by decide
  bcast_S_S2x256x256 := by decide
  reducesTo_S2x256x256_S_d0_1_2 := by decide

theorem facts_pre_ReferenceIdeal : Cert.Pre_finite_ReferenceIdeal.Facts where
  bcast_S_S2x256x512 := by decide
  reducesTo_S2x256x512_S_d0_1_2 := by decide
  h_S_ := by decide
  bcast_S_S512x256 := by decide
  reducesTo_S512x256_S_d0_1 := by decide
  bcast_S_S2x4096x256 := by decide
  reducesTo_S2x4096x256_S_d0_1_2 := by decide

theorem frame_KernelIdeal_finite : Cert.quiescent_KernelIdeal_pre_finite_KernelIdeal (hKernelIdeal := Cert.KernelIdeal.Gen.facts)
    (hPre_finite_KernelIdeal := facts_pre_KernelIdeal) :=
  fun m g _ => Cert.KernelIdeal.Hand.frame_run m g

theorem frame_ReferenceIdeal_finite : Cert.quiescent_ReferenceIdeal_pre_finite_ReferenceIdeal (hReferenceIdeal := Cert.ReferenceIdeal.Gen.facts)
    (hPre_finite_ReferenceIdeal := facts_pre_ReferenceIdeal) :=
  fun m g _ => frame_ReferenceIdeal m g trivial

/-! ### The value claim -/

open Cert.KernelIdeal.Hand Idealize.ShloMosaic.ValueIdx in
/-- A device's block of keys or values at an index. -/
theorem block_at (v : FVec Ideal Cert.ReferenceIdeal.S2x4096x256 .f32) (c : Dev Cert.KernelIdeal.nD) (b : Fin 2) (t e : Fin 256) :
    Layout.block ⟨3, ![2, 256, 256]⟩ ⟨3, ![2, 4096, 256]⟩ 1 16 c v (by decide) (ix3 b t e) = v (ix3 b (key c t) e) := by
  refine congrArg v (funext fun a => Fin.ext ?_)
  match a with
  | ⟨0, _⟩ => rfl
  | ⟨1, _⟩ => show c.val * 256 + t.val = 256 * c.val + t.val; omega
  | ⟨2, _⟩ => rfl

open Cert.KernelIdeal.Hand Idealize.ShloMosaic.ValueIdx in
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := facts_pre_KernelIdeal) := by
  intro m g m' g' hpre hin
  haveI := facts_pre_KernelIdeal
  have hr := fun c => pre_real _ _ _ _ _ (hpre c)
  refine ⟨Cert.ReferenceIdeal.Value.res_main_v41 m' 0, ?_, ?_⟩
  · refine (θ_run Cert.KernelIdeal.defs _ _).mono (fun r h c => ⟨?_, final_args m g r h.1 c⟩) (run_main m g)
    refine (final_res m g r h.1 c).trans (Eq.trans ?_ (Cert.ReferenceIdeal.Read.val_main_v41_eq m' 0).symm)
    refine out_eq (inp m) _ _ _ _ _ (fun c => (inp_x m c).trans (hin c).1) (fun c => (inp_wq m c).trans (hin c).2.1)
      (fun c b t e => ?_) (fun c b t e => ?_) (fun c => (inp_wo m c).trans (hin c).2.2.2.2) ?_ ?_ ?_ c
    · exact (congrFun ((inp_k m c).trans (hin c).2.2.1) (ix3 b t e)).trans (block_at _ c b t e)
    · exact (congrFun ((inp_v m c).trans (hin c).2.2.2.1) (ix3 b t e)).trans (block_at _ c b t e)
    · exact fun i => (hin 0).1 ▸ (hr 0).1 i
    · exact fun i => (hin 0).2.1 ▸ (hr 0).2.1 i
    · exact fun c i => (inp_k m c).symm ▸ (hr c).2.2 i
  · exact (θ_run Cert.ReferenceIdeal.defs _ _).mono (fun r h => h 0) (Cert.ReferenceIdeal.Value.run m' g')

theorem claim : Cert.Claim := ⟨Cert.Kernel.Gen.facts, Cert.KernelIdeal.Gen.facts, Cert.ReferenceIdeal.Gen.facts,
  facts_pre_KernelIdeal, facts_pre_ReferenceIdeal,
  frame_Kernel, frame_KernelIdeal, frame_KernelIdeal_finite, frame_ReferenceIdeal, frame_ReferenceIdeal_finite, trivial, algebraic⟩

end Cert.Proof

end
